-- ==== Defs.lean ====
def Pre_RetScan (m : (ℓ : Loc Cert.RetScan.nD Cert.RetScan.τ Cert.RetScan.sig) → Buf (Elt Bits) ℓ) : Prop :=
  True

def Pre_RetScanIdeal (m : (ℓ : Loc Cert.RetScanIdeal.nD Cert.RetScanIdeal.τ Cert.RetScanIdeal.sig) → Buf (Elt Ideal) ℓ) : Prop :=
  True

def Pre_RetentionIdeal (m : (ℓ : Loc Cert.RetentionIdeal.nD Cert.RetentionIdeal.τ Cert.RetentionIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_DiffAttn [hPre_drawn : Cert.Pre_drawn.Facts] (m : (ℓ : Loc Cert.DiffAttn.nD Cert.DiffAttn.τ Cert.DiffAttn.sig) → Buf (Elt Bits) ℓ) : Prop :=
  ∀ c : Dev Cert.DiffAttn.nD,
    (Cert.Pre_drawn.fn (F := Bits) (m ((c.tc : Thread Cert.DiffAttn.nD Cert.DiffAttn.τ).loc Cert.DiffAttn.main_arg0)) (m ((c.tc : Thread Cert.DiffAttn.nD Cert.DiffAttn.τ).loc Cert.DiffAttn.main_arg1)) (m ((c.tc : Thread Cert.DiffAttn.nD Cert.DiffAttn.τ).loc Cert.DiffAttn.main_arg2)) (m ((c.tc : Thread Cert.DiffAttn.nD Cert.DiffAttn.τ).loc Cert.DiffAttn.main_arg3)) (m ((c.tc : Thread Cert.DiffAttn.nD Cert.DiffAttn.τ).loc Cert.DiffAttn.main_arg4)) (m ((c.tc : Thread Cert.DiffAttn.nD Cert.DiffAttn.τ).loc Cert.DiffAttn.main_arg5)) (m ((c.tc : Thread Cert.DiffAttn.nD Cert.DiffAttn.τ).loc Cert.DiffAttn.main_arg6)) (m ((c.tc : Thread Cert.DiffAttn.nD Cert.DiffAttn.τ).loc Cert.DiffAttn.main_arg7)) (m ((c.tc : Thread Cert.DiffAttn.nD Cert.DiffAttn.τ).loc Cert.DiffAttn.main_arg8)) (m ((c.tc : Thread Cert.DiffAttn.nD Cert.DiffAttn.τ).loc Cert.DiffAttn.main_arg9))) = (fun _ => 1#1)

def Pre_DiffAttnIdeal [hPre_drawn : Cert.Pre_drawn.Facts] (m : (ℓ : Loc Cert.DiffAttnIdeal.nD Cert.DiffAttnIdeal.τ Cert.DiffAttnIdeal.sig) → Buf (Elt Ideal) ℓ) : Prop :=
  ∀ c : Dev Cert.DiffAttnIdeal.nD,
    (Cert.Pre_drawn.fn (F := Ideal) (m ((c.tc : Thread Cert.DiffAttnIdeal.nD Cert.DiffAttnIdeal.τ).loc Cert.DiffAttnIdeal.main_arg0)) (m ((c.tc : Thread Cert.DiffAttnIdeal.nD Cert.DiffAttnIdeal.τ).loc Cert.DiffAttnIdeal.main_arg1)) (m ((c.tc : Thread Cert.DiffAttnIdeal.nD Cert.DiffAttnIdeal.τ).loc Cert.DiffAttnIdeal.main_arg2)) (m ((c.tc : Thread Cert.DiffAttnIdeal.nD Cert.DiffAttnIdeal.τ).loc Cert.DiffAttnIdeal.main_arg3)) (m ((c.tc : Thread Cert.DiffAttnIdeal.nD Cert.DiffAttnIdeal.τ).loc Cert.DiffAttnIdeal.main_arg4)) (m ((c.tc : Thread Cert.DiffAttnIdeal.nD Cert.DiffAttnIdeal.τ).loc Cert.DiffAttnIdeal.main_arg5)) (m ((c.tc : Thread Cert.DiffAttnIdeal.nD Cert.DiffAttnIdeal.τ).loc Cert.DiffAttnIdeal.main_arg6)) (m ((c.tc : Thread Cert.DiffAttnIdeal.nD Cert.DiffAttnIdeal.τ).loc Cert.DiffAttnIdeal.main_arg7)) (m ((c.tc : Thread Cert.DiffAttnIdeal.nD Cert.DiffAttnIdeal.τ).loc Cert.DiffAttnIdeal.main_arg8)) (m ((c.tc : Thread Cert.DiffAttnIdeal.nD Cert.DiffAttnIdeal.τ).loc Cert.DiffAttnIdeal.main_arg9))) = (fun _ => 1#1)

def Pre_AttendIdeal [hPre_drawn : Cert.Pre_drawn.Facts] (m : (ℓ : Loc Cert.AttendIdeal.nD Cert.AttendIdeal.τ Cert.AttendIdeal.sig) → Buf (Elt Ideal) ℓ) : Prop :=
  ∀ c : Dev Cert.AttendIdeal.nD,
    (Cert.Pre_drawn.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6)) (m ((c.tc : Thread Cert.AttendIdeal.nD Cert.AttendIdeal.τ).loc Cert.AttendIdeal.main_arg7)) (m ((c.tc : Thread Cert.AttendIdeal.nD Cert.AttendIdeal.τ).loc Cert.AttendIdeal.main_arg8)) (m ((c.tc : Thread Cert.AttendIdeal.nD Cert.AttendIdeal.τ).loc Cert.AttendIdeal.main_arg9))) = (fun _ => 1#1)

def Pre_PleMid (m : (ℓ : Loc Cert.PleMid.nD Cert.PleMid.τ Cert.PleMid.sig) → Buf (Elt Bits) ℓ) : Prop :=
  True

def Pre_PleMidIdeal (m : (ℓ : Loc Cert.PleMidIdeal.nD Cert.PleMidIdeal.τ Cert.PleMidIdeal.sig) → Buf (Elt Ideal) ℓ) : Prop :=
  True

def Pre_EmbedIdeal (m : (ℓ : Loc Cert.EmbedIdeal.nD Cert.EmbedIdeal.τ Cert.EmbedIdeal.sig) → Buf (Elt Ideal) ℓ) : Prop :=
  True

def Pre_PleLast (m : (ℓ : Loc Cert.PleLast.nD Cert.PleLast.τ Cert.PleLast.sig) → Buf (Elt Bits) ℓ) : Prop :=
  True

def Pre_PleLastIdeal (m : (ℓ : Loc Cert.PleLastIdeal.nD Cert.PleLastIdeal.τ Cert.PleLastIdeal.sig) → Buf (Elt Ideal) ℓ) : Prop :=
  True

def Pre_EmbedLastIdeal (m : (ℓ : Loc Cert.EmbedLastIdeal.nD Cert.EmbedLastIdeal.τ Cert.EmbedLastIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetMixIdeal (m : (ℓ : Loc Cert.RetMixIdeal.nD Cert.RetMixIdeal.τ Cert.RetMixIdeal.sig) → Buf (Elt Ideal) ℓ) : Prop :=
  True

def Pre_DiffOut (m : (ℓ : Loc Cert.DiffOut.nD Cert.DiffOut.τ Cert.DiffOut.sig) → Buf (Elt Bits) ℓ) : Prop :=
  True

def Pre_DiffOutIdeal (m : (ℓ : Loc Cert.DiffOutIdeal.nD Cert.DiffOutIdeal.τ Cert.DiffOutIdeal.sig) → Buf (Elt Ideal) ℓ) : Prop :=
  True

def Pre_DiffMixIdeal (m : (ℓ : Loc Cert.DiffMixIdeal.nD Cert.DiffMixIdeal.τ Cert.DiffMixIdeal.sig) → Buf (Elt Ideal) ℓ) : Prop :=
  True

def Pre_RetStep (m : (ℓ : Loc Cert.RetStep.nD Cert.RetStep.τ Cert.RetStep.sig) → Buf (Elt Bits) ℓ) : Prop :=
  True

def Pre_RetStepIdeal (m : (ℓ : Loc Cert.RetStepIdeal.nD Cert.RetStepIdeal.τ Cert.RetStepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RotatedIdeal (m : (ℓ : Loc Cert.RotatedIdeal.nD Cert.RotatedIdeal.τ Cert.RotatedIdeal.sig) → Buf (Elt Ideal) ℓ) : Prop :=
  True

def quiescent_RetScan [hRetScan : Cert.RetScan.Facts] : Prop :=
  ∀ (m : (ℓ : Loc Cert.RetScan.nD Cert.RetScan.τ Cert.RetScan.sig) → Buf (Elt Bits) ℓ) (g : Dev Cert.RetScan.nD → PrngReg), Pre_RetScan m →
    θ_run (Cert.RetScan.defs (F := Bits)) (onTc (τ := Cert.RetScan.τ) (Cert.RetScan.main (F := Bits))) ⟨m, fun _ => 0, g⟩ (fun r => (∀ c : Dev Cert.RetScan.nD,
      r.2.mem ((c.tc : Thread Cert.RetScan.nD Cert.RetScan.τ).loc Cert.RetScan.main_arg0) = m ((c.tc : Thread Cert.RetScan.nD Cert.RetScan.τ).loc Cert.RetScan.main_arg0))
      ∧ r.2.sem = fun _ => 0)

def quiescent_RetScanIdeal [hRetScanIdeal : Cert.RetScanIdeal.Facts] : Prop :=
  ∀ (m : (ℓ : Loc Cert.RetScanIdeal.nD Cert.RetScanIdeal.τ Cert.RetScanIdeal.sig) → Buf (Elt Ideal) ℓ) (g : Dev Cert.RetScanIdeal.nD → PrngReg), Pre_RetScanIdeal m →
    θ_run (Cert.RetScanIdeal.defs (F := Ideal)) (onTc (τ := Cert.RetScanIdeal.τ) (Cert.RetScanIdeal.main (F := Ideal))) ⟨m, fun _ => 0, g⟩ (fun r => (∀ c : Dev Cert.RetScanIdeal.nD,
      r.2.mem ((c.tc : Thread Cert.RetScanIdeal.nD Cert.RetScanIdeal.τ).loc Cert.RetScanIdeal.main_arg0) = m ((c.tc : Thread Cert.RetScanIdeal.nD Cert.RetScanIdeal.τ).loc Cert.RetScanIdeal.main_arg0))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_DiffAttn [hDiffAttn : Cert.DiffAttn.Facts] [hPre_drawn : Cert.Pre_drawn.Facts] : Prop :=
  ∀ (m : (ℓ : Loc Cert.DiffAttn.nD Cert.DiffAttn.τ Cert.DiffAttn.sig) → Buf (Elt Bits) ℓ) (g : Dev Cert.DiffAttn.nD → PrngReg), Pre_DiffAttn m →
    θ_run (Cert.DiffAttn.defs (F := Bits)) (onTc (τ := Cert.DiffAttn.τ) (Cert.DiffAttn.main (F := Bits))) ⟨m, fun _ => 0, g⟩ (fun r => (∀ c : Dev Cert.DiffAttn.nD,
      r.2.mem ((c.tc : Thread Cert.DiffAttn.nD Cert.DiffAttn.τ).loc Cert.DiffAttn.main_arg0) = m ((c.tc : Thread Cert.DiffAttn.nD Cert.DiffAttn.τ).loc Cert.DiffAttn.main_arg0)
      ∧ r.2.mem ((c.tc : Thread Cert.DiffAttn.nD Cert.DiffAttn.τ).loc Cert.DiffAttn.main_arg1) = m ((c.tc : Thread Cert.DiffAttn.nD Cert.DiffAttn.τ).loc Cert.DiffAttn.main_arg1)
      ∧ r.2.mem ((c.tc : Thread Cert.DiffAttn.nD Cert.DiffAttn.τ).loc Cert.DiffAttn.main_arg2) = m ((c.tc : Thread Cert.DiffAttn.nD Cert.DiffAttn.τ).loc Cert.DiffAttn.main_arg2)
      ∧ r.2.mem ((c.tc : Thread Cert.DiffAttn.nD Cert.DiffAttn.τ).loc Cert.DiffAttn.main_arg3) = m ((c.tc : Thread Cert.DiffAttn.nD Cert.DiffAttn.τ).loc Cert.DiffAttn.main_arg3)
      ∧ r.2.mem ((c.tc : Thread Cert.DiffAttn.nD Cert.DiffAttn.τ).loc Cert.DiffAttn.main_arg4) = m ((c.tc : Thread Cert.DiffAttn.nD Cert.DiffAttn.τ).loc Cert.DiffAttn.main_arg4)
      ∧ r.2.mem ((c.tc : Thread Cert.DiffAttn.nD Cert.DiffAttn.τ).loc Cert.DiffAttn.main_arg5) = m ((c.tc : Thread Cert.DiffAttn.nD Cert.DiffAttn.τ).loc Cert.DiffAttn.main_arg5)
      ∧ r.2.mem ((c.tc : Thread Cert.DiffAttn.nD Cert.DiffAttn.τ).loc Cert.DiffAttn.main_arg6) = m ((c.tc : Thread Cert.DiffAttn.nD Cert.DiffAttn.τ).loc Cert.DiffAttn.main_arg6)
      ∧ r.2.mem ((c.tc : Thread Cert.DiffAttn.nD Cert.DiffAttn.τ).loc Cert.DiffAttn.main_arg7) = m ((c.tc : Thread Cert.DiffAttn.nD Cert.DiffAttn.τ).loc Cert.DiffAttn.main_arg7)
      ∧ r.2.mem ((c.tc : Thread Cert.DiffAttn.nD Cert.DiffAttn.τ).loc Cert.DiffAttn.main_arg8) = m ((c.tc : Thread Cert.DiffAttn.nD Cert.DiffAttn.τ).loc Cert.DiffAttn.main_arg8)
      ∧ r.2.mem ((c.tc : Thread Cert.DiffAttn.nD Cert.DiffAttn.τ).loc Cert.DiffAttn.main_arg9) = m ((c.tc : Thread Cert.DiffAttn.nD Cert.DiffAttn.τ).loc Cert.DiffAttn.main_arg9))
      ∧ r.2.sem = fun _ => 0)

def quiescent_DiffAttnIdeal [hDiffAttnIdeal : Cert.DiffAttnIdeal.Facts] [hPre_drawn : Cert.Pre_drawn.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
      ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6)
      ∧ r.2.mem ((c.tc : Thread Cert.DiffAttnIdeal.nD Cert.DiffAttnIdeal.τ).loc Cert.DiffAttnIdeal.main_arg7) = m ((c.tc : Thread Cert.DiffAttnIdeal.nD Cert.DiffAttnIdeal.τ).loc Cert.DiffAttnIdeal.main_arg7)
      ∧ r.2.mem ((c.tc : Thread Cert.DiffAttnIdeal.nD Cert.DiffAttnIdeal.τ).loc Cert.DiffAttnIdeal.main_arg8) = m ((c.tc : Thread Cert.DiffAttnIdeal.nD Cert.DiffAttnIdeal.τ).loc Cert.DiffAttnIdeal.main_arg8)
      ∧ r.2.mem ((c.tc : Thread Cert.DiffAttnIdeal.nD Cert.DiffAttnIdeal.τ).loc Cert.DiffAttnIdeal.main_arg9) = m ((c.tc : Thread Cert.DiffAttnIdeal.nD Cert.DiffAttnIdeal.τ).loc Cert.DiffAttnIdeal.main_arg9))
      ∧ r.2.sem = fun _ => 0)

def quiescent_AttendIdeal [hAttendIdeal : Cert.AttendIdeal.Facts] [hPre_drawn : Cert.Pre_drawn.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6)
      ∧ r.2.mem ((c.tc : Thread Cert.AttendIdeal.nD Cert.AttendIdeal.τ).loc Cert.AttendIdeal.main_arg7) = m ((c.tc : Thread Cert.AttendIdeal.nD Cert.AttendIdeal.τ).loc Cert.AttendIdeal.main_arg7)
      ∧ r.2.mem ((c.tc : Thread Cert.AttendIdeal.nD Cert.AttendIdeal.τ).loc Cert.AttendIdeal.main_arg8) = m ((c.tc : Thread Cert.AttendIdeal.nD Cert.AttendIdeal.τ).loc Cert.AttendIdeal.main_arg8)
      ∧ r.2.mem ((c.tc : Thread Cert.AttendIdeal.nD Cert.AttendIdeal.τ).loc Cert.AttendIdeal.main_arg9) = m ((c.tc : Thread Cert.AttendIdeal.nD Cert.AttendIdeal.τ).loc Cert.AttendIdeal.main_arg9))
      ∧ r.2.sem = fun _ => 0)

def quiescent_PleMid [hPleMid : Cert.PleMid.Facts] : Prop :=
  ∀ (m : (ℓ : Loc Cert.PleMid.nD Cert.PleMid.τ Cert.PleMid.sig) → Buf (Elt Bits) ℓ) (g : Dev Cert.PleMid.nD → PrngReg), Pre_PleMid m →
    θ_run (Cert.PleMid.defs (F := Bits)) (onTc (τ := Cert.PleMid.τ) (Cert.PleMid.main (F := Bits))) ⟨m, fun _ => 0, g⟩ (fun r => (∀ c : Dev Cert.PleMid.nD,
      r.2.mem ((c.tc : Thread Cert.PleMid.nD Cert.PleMid.τ).loc Cert.PleMid.main_arg0) = m ((c.tc : Thread Cert.PleMid.nD Cert.PleMid.τ).loc Cert.PleMid.main_arg0)
      ∧ r.2.mem ((c.tc : Thread Cert.PleMid.nD Cert.PleMid.τ).loc Cert.PleMid.main_arg1) = m ((c.tc : Thread Cert.PleMid.nD Cert.PleMid.τ).loc Cert.PleMid.main_arg1)
      ∧ r.2.mem ((c.tc : Thread Cert.PleMid.nD Cert.PleMid.τ).loc Cert.PleMid.main_arg2) = m ((c.tc : Thread Cert.PleMid.nD Cert.PleMid.τ).loc Cert.PleMid.main_arg2)
      ∧ r.2.mem ((c.tc : Thread Cert.PleMid.nD Cert.PleMid.τ).loc Cert.PleMid.main_arg3) = m ((c.tc : Thread Cert.PleMid.nD Cert.PleMid.τ).loc Cert.PleMid.main_arg3)
      ∧ r.2.mem ((c.tc : Thread Cert.PleMid.nD Cert.PleMid.τ).loc Cert.PleMid.main_arg4) = m ((c.tc : Thread Cert.PleMid.nD Cert.PleMid.τ).loc Cert.PleMid.main_arg4)
      ∧ r.2.mem ((c.tc : Thread Cert.PleMid.nD Cert.PleMid.τ).loc Cert.PleMid.main_arg5) = m ((c.tc : Thread Cert.PleMid.nD Cert.PleMid.τ).loc Cert.PleMid.main_arg5))
      ∧ r.2.sem = fun _ => 0)

def quiescent_PleMidIdeal [hPleMidIdeal : Cert.PleMidIdeal.Facts] : Prop :=
  ∀ (m : (ℓ : Loc Cert.PleMidIdeal.nD Cert.PleMidIdeal.τ Cert.PleMidIdeal.sig) → Buf (Elt Ideal) ℓ) (g : Dev Cert.PleMidIdeal.nD → PrngReg), Pre_PleMidIdeal m →
    θ_run (Cert.PleMidIdeal.defs (F := Ideal)) (onTc (τ := Cert.PleMidIdeal.τ) (Cert.PleMidIdeal.main (F := Ideal))) ⟨m, fun _ => 0, g⟩ (fun r => (∀ c : Dev Cert.PleMidIdeal.nD,
      r.2.mem ((c.tc : Thread Cert.PleMidIdeal.nD Cert.PleMidIdeal.τ).loc Cert.PleMidIdeal.main_arg0) = m ((c.tc : Thread Cert.PleMidIdeal.nD Cert.PleMidIdeal.τ).loc Cert.PleMidIdeal.main_arg0)
      ∧ r.2.mem ((c.tc : Thread Cert.PleMidIdeal.nD Cert.PleMidIdeal.τ).loc Cert.PleMidIdeal.main_arg1) = m ((c.tc : Thread Cert.PleMidIdeal.nD Cert.PleMidIdeal.τ).loc Cert.PleMidIdeal.main_arg1)
      ∧ r.2.mem ((c.tc : Thread Cert.PleMidIdeal.nD Cert.PleMidIdeal.τ).loc Cert.PleMidIdeal.main_arg2) = m ((c.tc : Thread Cert.PleMidIdeal.nD Cert.PleMidIdeal.τ).loc Cert.PleMidIdeal.main_arg2)
      ∧ r.2.mem ((c.tc : Thread Cert.PleMidIdeal.nD Cert.PleMidIdeal.τ).loc Cert.PleMidIdeal.main_arg3) = m ((c.tc : Thread Cert.PleMidIdeal.nD Cert.PleMidIdeal.τ).loc Cert.PleMidIdeal.main_arg3)
      ∧ r.2.mem ((c.tc : Thread Cert.PleMidIdeal.nD Cert.PleMidIdeal.τ).loc Cert.PleMidIdeal.main_arg4) = m ((c.tc : Thread Cert.PleMidIdeal.nD Cert.PleMidIdeal.τ).loc Cert.PleMidIdeal.main_arg4)
      ∧ r.2.mem ((c.tc : Thread Cert.PleMidIdeal.nD Cert.PleMidIdeal.τ).loc Cert.PleMidIdeal.main_arg5) = m ((c.tc : Thread Cert.PleMidIdeal.nD Cert.PleMidIdeal.τ).loc Cert.PleMidIdeal.main_arg5))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
      ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5))
      ∧ r.2.sem = fun _ => 0)

def quiescent_PleLast [hPleLast : Cert.PleLast.Facts] : Prop :=
  ∀ (m : (ℓ : Loc Cert.PleLast.nD Cert.PleLast.τ Cert.PleLast.sig) → Buf (Elt Bits) ℓ) (g : Dev Cert.PleLast.nD → PrngReg), Pre_PleLast m →
    θ_run (Cert.PleLast.defs (F := Bits)) (onTc (τ := Cert.PleLast.τ) (Cert.PleLast.main (F := Bits))) ⟨m, fun _ => 0, g⟩ (fun r => (∀ c : Dev Cert.PleLast.nD,
      r.2.mem ((c.tc : Thread Cert.PleLast.nD Cert.PleLast.τ).loc Cert.PleLast.main_arg0) = m ((c.tc : Thread Cert.PleLast.nD Cert.PleLast.τ).loc Cert.PleLast.main_arg0)
      ∧ r.2.mem ((c.tc : Thread Cert.PleLast.nD Cert.PleLast.τ).loc Cert.PleLast.main_arg1) = m ((c.tc : Thread Cert.PleLast.nD Cert.PleLast.τ).loc Cert.PleLast.main_arg1)
      ∧ r.2.mem ((c.tc : Thread Cert.PleLast.nD Cert.PleLast.τ).loc Cert.PleLast.main_arg2) = m ((c.tc : Thread Cert.PleLast.nD Cert.PleLast.τ).loc Cert.PleLast.main_arg2)
      ∧ r.2.mem ((c.tc : Thread Cert.PleLast.nD Cert.PleLast.τ).loc Cert.PleLast.main_arg3) = m ((c.tc : Thread Cert.PleLast.nD Cert.PleLast.τ).loc Cert.PleLast.main_arg3)
      ∧ r.2.mem ((c.tc : Thread Cert.PleLast.nD Cert.PleLast.τ).loc Cert.PleLast.main_arg4) = m ((c.tc : Thread Cert.PleLast.nD Cert.PleLast.τ).loc Cert.PleLast.main_arg4)
      ∧ r.2.mem ((c.tc : Thread Cert.PleLast.nD Cert.PleLast.τ).loc Cert.PleLast.main_arg5) = m ((c.tc : Thread Cert.PleLast.nD Cert.PleLast.τ).loc Cert.PleLast.main_arg5))
      ∧ r.2.sem = fun _ => 0)

def quiescent_PleLastIdeal [hPleLastIdeal : Cert.PleLastIdeal.Facts] : Prop :=
  ∀ (m : (ℓ : Loc Cert.PleLastIdeal.nD Cert.PleLastIdeal.τ Cert.PleLastIdeal.sig) → Buf (Elt Ideal) ℓ) (g : Dev Cert.PleLastIdeal.nD → PrngReg), Pre_PleLastIdeal m →
    θ_run (Cert.PleLastIdeal.defs (F := Ideal)) (onTc (τ := Cert.PleLastIdeal.τ) (Cert.PleLastIdeal.main (F := Ideal))) ⟨m, fun _ => 0, g⟩ (fun r => (∀ c : Dev Cert.PleLastIdeal.nD,
      r.2.mem ((c.tc : Thread Cert.PleLastIdeal.nD Cert.PleLastIdeal.τ).loc Cert.PleLastIdeal.main_arg0) = m ((c.tc : Thread Cert.PleLastIdeal.nD Cert.PleLastIdeal.τ).loc Cert.PleLastIdeal.main_arg0)
      ∧ r.2.mem ((c.tc : Thread Cert.PleLastIdeal.nD Cert.PleLastIdeal.τ).loc Cert.PleLastIdeal.main_arg1) = m ((c.tc : Thread Cert.PleLastIdeal.nD Cert.PleLastIdeal.τ).loc Cert.PleLastIdeal.main_arg1)
      ∧ r.2.mem ((c.tc : Thread Cert.PleLastIdeal.nD Cert.PleLastIdeal.τ).loc Cert.PleLastIdeal.main_arg2) = m ((c.tc : Thread Cert.PleLastIdeal.nD Cert.PleLastIdeal.τ).loc Cert.PleLastIdeal.main_arg2)
      ∧ r.2.mem ((c.tc : Thread Cert.PleLastIdeal.nD Cert.PleLastIdeal.τ).loc Cert.PleLastIdeal.main_arg3) = m ((c.tc : Thread Cert.PleLastIdeal.nD Cert.PleLastIdeal.τ).loc Cert.PleLastIdeal.main_arg3)
      ∧ r.2.mem ((c.tc : Thread Cert.PleLastIdeal.nD Cert.PleLastIdeal.τ).loc Cert.PleLastIdeal.main_arg4) = m ((c.tc : Thread Cert.PleLastIdeal.nD Cert.PleLastIdeal.τ).loc Cert.PleLastIdeal.main_arg4)
      ∧ r.2.mem ((c.tc : Thread Cert.PleLastIdeal.nD Cert.PleLastIdeal.τ).loc Cert.PleLastIdeal.main_arg5) = m ((c.tc : Thread Cert.PleLastIdeal.nD Cert.PleLastIdeal.τ).loc Cert.PleLastIdeal.main_arg5))
      ∧ r.2.sem = fun _ => 0)

def quiescent_EmbedLastIdeal [hEmbedLastIdeal : Cert.EmbedLastIdeal.Facts] : Prop :=
  ∀ (m : (ℓ : Loc Cert.EmbedLastIdeal.nD Cert.EmbedLastIdeal.τ Cert.EmbedLastIdeal.sig) → Buf (Elt Ideal) ℓ) (g : Dev Cert.EmbedLastIdeal.nD → PrngReg), Pre_EmbedLastIdeal m →
    θ_run (Cert.EmbedLastIdeal.defs (F := Ideal)) (onTc (τ := Cert.EmbedLastIdeal.τ) (Cert.EmbedLastIdeal.main (F := Ideal))) ⟨m, fun _ => 0, g⟩ (fun r => (∀ c : Dev Cert.EmbedLastIdeal.nD,
      r.2.mem ((c.tc : Thread Cert.EmbedLastIdeal.nD Cert.EmbedLastIdeal.τ).loc Cert.EmbedLastIdeal.main_arg0) = m ((c.tc : Thread Cert.EmbedLastIdeal.nD Cert.EmbedLastIdeal.τ).loc Cert.EmbedLastIdeal.main_arg0)
      ∧ r.2.mem ((c.tc : Thread Cert.EmbedLastIdeal.nD Cert.EmbedLastIdeal.τ).loc Cert.EmbedLastIdeal.main_arg1) = m ((c.tc : Thread Cert.EmbedLastIdeal.nD Cert.EmbedLastIdeal.τ).loc Cert.EmbedLastIdeal.main_arg1)
      ∧ r.2.mem ((c.tc : Thread Cert.EmbedLastIdeal.nD Cert.EmbedLastIdeal.τ).loc Cert.EmbedLastIdeal.main_arg2) = m ((c.tc : Thread Cert.EmbedLastIdeal.nD Cert.EmbedLastIdeal.τ).loc Cert.EmbedLastIdeal.main_arg2)
      ∧ r.2.mem ((c.tc : Thread Cert.EmbedLastIdeal.nD Cert.EmbedLastIdeal.τ).loc Cert.EmbedLastIdeal.main_arg3) = m ((c.tc : Thread Cert.EmbedLastIdeal.nD Cert.EmbedLastIdeal.τ).loc Cert.EmbedLastIdeal.main_arg3)
      ∧ r.2.mem ((c.tc : Thread Cert.EmbedLastIdeal.nD Cert.EmbedLastIdeal.τ).loc Cert.EmbedLastIdeal.main_arg4) = m ((c.tc : Thread Cert.EmbedLastIdeal.nD Cert.EmbedLastIdeal.τ).loc Cert.EmbedLastIdeal.main_arg4)
      ∧ r.2.mem ((c.tc : Thread Cert.EmbedLastIdeal.nD Cert.EmbedLastIdeal.τ).loc Cert.EmbedLastIdeal.main_arg5) = m ((c.tc : Thread Cert.EmbedLastIdeal.nD Cert.EmbedLastIdeal.τ).loc Cert.EmbedLastIdeal.main_arg5))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ r.2.sem = fun _ => 0)

def quiescent_RetMixIdeal [hRetMixIdeal : Cert.RetMixIdeal.Facts] : Prop :=
  ∀ (m : (ℓ : Loc Cert.RetMixIdeal.nD Cert.RetMixIdeal.τ Cert.RetMixIdeal.sig) → Buf (Elt Ideal) ℓ) (g : Dev Cert.RetMixIdeal.nD → PrngReg), Pre_RetMixIdeal m →
    θ_run (Cert.RetMixIdeal.defs (F := Ideal)) (onTc (τ := Cert.RetMixIdeal.τ) (Cert.RetMixIdeal.main (F := Ideal))) ⟨m, fun _ => 0, g⟩ (fun r => (∀ c : Dev Cert.RetMixIdeal.nD,
      r.2.mem ((c.tc : Thread Cert.RetMixIdeal.nD Cert.RetMixIdeal.τ).loc Cert.RetMixIdeal.main_arg0) = m ((c.tc : Thread Cert.RetMixIdeal.nD Cert.RetMixIdeal.τ).loc Cert.RetMixIdeal.main_arg0)
      ∧ r.2.mem ((c.tc : Thread Cert.RetMixIdeal.nD Cert.RetMixIdeal.τ).loc Cert.RetMixIdeal.main_arg1) = m ((c.tc : Thread Cert.RetMixIdeal.nD Cert.RetMixIdeal.τ).loc Cert.RetMixIdeal.main_arg1)
      ∧ r.2.mem ((c.tc : Thread Cert.RetMixIdeal.nD Cert.RetMixIdeal.τ).loc Cert.RetMixIdeal.main_arg2) = m ((c.tc : Thread Cert.RetMixIdeal.nD Cert.RetMixIdeal.τ).loc Cert.RetMixIdeal.main_arg2))
      ∧ r.2.sem = fun _ => 0)

def quiescent_DiffOut [hDiffOut : Cert.DiffOut.Facts] : Prop :=
  ∀ (m : (ℓ : Loc Cert.DiffOut.nD Cert.DiffOut.τ Cert.DiffOut.sig) → Buf (Elt Bits) ℓ) (g : Dev Cert.DiffOut.nD → PrngReg), Pre_DiffOut m →
    θ_run (Cert.DiffOut.defs (F := Bits)) (onTc (τ := Cert.DiffOut.τ) (Cert.DiffOut.main (F := Bits))) ⟨m, fun _ => 0, g⟩ (fun r => (∀ c : Dev Cert.DiffOut.nD,
      r.2.mem ((c.tc : Thread Cert.DiffOut.nD Cert.DiffOut.τ).loc Cert.DiffOut.main_arg0) = m ((c.tc : Thread Cert.DiffOut.nD Cert.DiffOut.τ).loc Cert.DiffOut.main_arg0)
      ∧ r.2.mem ((c.tc : Thread Cert.DiffOut.nD Cert.DiffOut.τ).loc Cert.DiffOut.main_arg1) = m ((c.tc : Thread Cert.DiffOut.nD Cert.DiffOut.τ).loc Cert.DiffOut.main_arg1)
      ∧ r.2.mem ((c.tc : Thread Cert.DiffOut.nD Cert.DiffOut.τ).loc Cert.DiffOut.main_arg2) = m ((c.tc : Thread Cert.DiffOut.nD Cert.DiffOut.τ).loc Cert.DiffOut.main_arg2))
      ∧ r.2.sem = fun _ => 0)

def quiescent_DiffOutIdeal [hDiffOutIdeal : Cert.DiffOutIdeal.Facts] : Prop :=
  ∀ (m : (ℓ : Loc Cert.DiffOutIdeal.nD Cert.DiffOutIdeal.τ Cert.DiffOutIdeal.sig) → Buf (Elt Ideal) ℓ) (g : Dev Cert.DiffOutIdeal.nD → PrngReg), Pre_DiffOutIdeal m →
    θ_run (Cert.DiffOutIdeal.defs (F := Ideal)) (onTc (τ := Cert.DiffOutIdeal.τ) (Cert.DiffOutIdeal.main (F := Ideal))) ⟨m, fun _ => 0, g⟩ (fun r => (∀ c : Dev Cert.DiffOutIdeal.nD,
      r.2.mem ((c.tc : Thread Cert.DiffOutIdeal.nD Cert.DiffOutIdeal.τ).loc Cert.DiffOutIdeal.main_arg0) = m ((c.tc : Thread Cert.DiffOutIdeal.nD Cert.DiffOutIdeal.τ).loc Cert.DiffOutIdeal.main_arg0)
      ∧ r.2.mem ((c.tc : Thread Cert.DiffOutIdeal.nD Cert.DiffOutIdeal.τ).loc Cert.DiffOutIdeal.main_arg1) = m ((c.tc : Thread Cert.DiffOutIdeal.nD Cert.DiffOutIdeal.τ).loc Cert.DiffOutIdeal.main_arg1)
      ∧ r.2.mem ((c.tc : Thread Cert.DiffOutIdeal.nD Cert.DiffOutIdeal.τ).loc Cert.DiffOutIdeal.main_arg2) = m ((c.tc : Thread Cert.DiffOutIdeal.nD Cert.DiffOutIdeal.τ).loc Cert.DiffOutIdeal.main_arg2))
      ∧ r.2.sem = fun _ => 0)

def quiescent_DiffMixIdeal [hDiffMixIdeal : Cert.DiffMixIdeal.Facts] : Prop :=
  ∀ (m : (ℓ : Loc Cert.DiffMixIdeal.nD Cert.DiffMixIdeal.τ Cert.DiffMixIdeal.sig) → Buf (Elt Ideal) ℓ) (g : Dev Cert.DiffMixIdeal.nD → PrngReg), Pre_DiffMixIdeal m →
    θ_run (Cert.DiffMixIdeal.defs (F := Ideal)) (onTc (τ := Cert.DiffMixIdeal.τ) (Cert.DiffMixIdeal.main (F := Ideal))) ⟨m, fun _ => 0, g⟩ (fun r => (∀ c : Dev Cert.DiffMixIdeal.nD,
      r.2.mem ((c.tc : Thread Cert.DiffMixIdeal.nD Cert.DiffMixIdeal.τ).loc Cert.DiffMixIdeal.main_arg0) = m ((c.tc : Thread Cert.DiffMixIdeal.nD Cert.DiffMixIdeal.τ).loc Cert.DiffMixIdeal.main_arg0)
      ∧ r.2.mem ((c.tc : Thread Cert.DiffMixIdeal.nD Cert.DiffMixIdeal.τ).loc Cert.DiffMixIdeal.main_arg1) = m ((c.tc : Thread Cert.DiffMixIdeal.nD Cert.DiffMixIdeal.τ).loc Cert.DiffMixIdeal.main_arg1)
      ∧ r.2.mem ((c.tc : Thread Cert.DiffMixIdeal.nD Cert.DiffMixIdeal.τ).loc Cert.DiffMixIdeal.main_arg2) = m ((c.tc : Thread Cert.DiffMixIdeal.nD Cert.DiffMixIdeal.τ).loc Cert.DiffMixIdeal.main_arg2))
      ∧ r.2.sem = fun _ => 0)

def quiescent_RetStep [hRetStep : Cert.RetStep.Facts] : Prop :=
  ∀ (m : (ℓ : Loc Cert.RetStep.nD Cert.RetStep.τ Cert.RetStep.sig) → Buf (Elt Bits) ℓ) (g : Dev Cert.RetStep.nD → PrngReg), Pre_RetStep m →
    θ_run (Cert.RetStep.defs (F := Bits)) (onTc (τ := Cert.RetStep.τ) (Cert.RetStep.main (F := Bits))) ⟨m, fun _ => 0, g⟩ (fun r => (∀ c : Dev Cert.RetStep.nD,
      r.2.mem ((c.tc : Thread Cert.RetStep.nD Cert.RetStep.τ).loc Cert.RetStep.main_arg0) = m ((c.tc : Thread Cert.RetStep.nD Cert.RetStep.τ).loc Cert.RetStep.main_arg0)
      ∧ r.2.mem ((c.tc : Thread Cert.RetStep.nD Cert.RetStep.τ).loc Cert.RetStep.main_arg1) = m ((c.tc : Thread Cert.RetStep.nD Cert.RetStep.τ).loc Cert.RetStep.main_arg1)
      ∧ r.2.mem ((c.tc : Thread Cert.RetStep.nD Cert.RetStep.τ).loc Cert.RetStep.main_arg2) = m ((c.tc : Thread Cert.RetStep.nD Cert.RetStep.τ).loc Cert.RetStep.main_arg2)
      ∧ r.2.mem ((c.tc : Thread Cert.RetStep.nD Cert.RetStep.τ).loc Cert.RetStep.main_arg3) = m ((c.tc : Thread Cert.RetStep.nD Cert.RetStep.τ).loc Cert.RetStep.main_arg3)
      ∧ r.2.mem ((c.tc : Thread Cert.RetStep.nD Cert.RetStep.τ).loc Cert.RetStep.main_arg4) = m ((c.tc : Thread Cert.RetStep.nD Cert.RetStep.τ).loc Cert.RetStep.main_arg4))
      ∧ r.2.sem = fun _ => 0)

def quiescent_RetStepIdeal [hRetStepIdeal : Cert.RetStepIdeal.Facts] : Prop :=
  ∀ (m : (ℓ : Loc Cert.RetStepIdeal.nD Cert.RetStepIdeal.τ Cert.RetStepIdeal.sig) → Buf (Elt Ideal) ℓ) (g : Dev Cert.RetStepIdeal.nD → PrngReg), Pre_RetStepIdeal m →
    θ_run (Cert.RetStepIdeal.defs (F := Ideal)) (onTc (τ := Cert.RetStepIdeal.τ) (Cert.RetStepIdeal.main (F := Ideal))) ⟨m, fun _ => 0, g⟩ (fun r => (∀ c : Dev Cert.RetStepIdeal.nD,
      r.2.mem ((c.tc : Thread Cert.RetStepIdeal.nD Cert.RetStepIdeal.τ).loc Cert.RetStepIdeal.main_arg0) = m ((c.tc : Thread Cert.RetStepIdeal.nD Cert.RetStepIdeal.τ).loc Cert.RetStepIdeal.main_arg0)
      ∧ r.2.mem ((c.tc : Thread Cert.RetStepIdeal.nD Cert.RetStepIdeal.τ).loc Cert.RetStepIdeal.main_arg1) = m ((c.tc : Thread Cert.RetStepIdeal.nD Cert.RetStepIdeal.τ).loc Cert.RetStepIdeal.main_arg1)
      ∧ r.2.mem ((c.tc : Thread Cert.RetStepIdeal.nD Cert.RetStepIdeal.τ).loc Cert.RetStepIdeal.main_arg2) = m ((c.tc : Thread Cert.RetStepIdeal.nD Cert.RetStepIdeal.τ).loc Cert.RetStepIdeal.main_arg2)
      ∧ r.2.mem ((c.tc : Thread Cert.RetStepIdeal.nD Cert.RetStepIdeal.τ).loc Cert.RetStepIdeal.main_arg3) = m ((c.tc : Thread Cert.RetStepIdeal.nD Cert.RetStepIdeal.τ).loc Cert.RetStepIdeal.main_arg3)
      ∧ r.2.mem ((c.tc : Thread Cert.RetStepIdeal.nD Cert.RetStepIdeal.τ).loc Cert.RetStepIdeal.main_arg4) = m ((c.tc : Thread Cert.RetStepIdeal.nD Cert.RetStepIdeal.τ).loc Cert.RetStepIdeal.main_arg4))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1)
      ∧ r.2.mem ((c.tc : Thread Cert.RetProj.nD Cert.RetProj.τ).loc Cert.RetProj.main_arg2) = m ((c.tc : Thread Cert.RetProj.nD Cert.RetProj.τ).loc Cert.RetProj.main_arg2))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
      ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2))
      ∧ r.2.sem = fun _ => 0)

def quiescent_RotatedIdeal [hRotatedIdeal : Cert.RotatedIdeal.Facts] : Prop :=
  ∀ (m : (ℓ : Loc Cert.RotatedIdeal.nD Cert.RotatedIdeal.τ Cert.RotatedIdeal.sig) → Buf (Elt Ideal) ℓ) (g : Dev Cert.RotatedIdeal.nD → PrngReg), Pre_RotatedIdeal m →
    θ_run (Cert.RotatedIdeal.defs (F := Ideal)) (onTc (τ := Cert.RotatedIdeal.τ) (Cert.RotatedIdeal.main (F := Ideal))) ⟨m, fun _ => 0, g⟩ (fun r => (∀ c : Dev Cert.RotatedIdeal.nD,
      r.2.mem ((c.tc : Thread Cert.RotatedIdeal.nD Cert.RotatedIdeal.τ).loc Cert.RotatedIdeal.main_arg0) = m ((c.tc : Thread Cert.RotatedIdeal.nD Cert.RotatedIdeal.τ).loc Cert.RotatedIdeal.main_arg0)
      ∧ r.2.mem ((c.tc : Thread Cert.RotatedIdeal.nD Cert.RotatedIdeal.τ).loc Cert.RotatedIdeal.main_arg1) = m ((c.tc : Thread Cert.RotatedIdeal.nD Cert.RotatedIdeal.τ).loc Cert.RotatedIdeal.main_arg1)
      ∧ r.2.mem ((c.tc : Thread Cert.RotatedIdeal.nD Cert.RotatedIdeal.τ).loc Cert.RotatedIdeal.main_arg2) = m ((c.tc : Thread Cert.RotatedIdeal.nD Cert.RotatedIdeal.τ).loc Cert.RotatedIdeal.main_arg2))
      ∧ r.2.sem = fun _ => 0)

def preserves_RetScan_RetScanIdeal : Prop :=
  True

def algebraic_RetScanIdeal_RetentionIdeal [hRetScanIdeal : Cert.RetScanIdeal.Facts] [hRetentionIdeal : Cert.RetentionIdeal.Facts] : Prop :=
  ∀ (m : (ℓ : Loc Cert.RetScanIdeal.nD Cert.RetScanIdeal.τ Cert.RetScanIdeal.sig) → Buf (Elt Ideal) ℓ) (g : Dev Cert.RetScanIdeal.nD → PrngReg)
    (m' : (ℓ : Loc Cert.RetentionIdeal.nD Cert.RetentionIdeal.τ Cert.RetentionIdeal.sig) → Buf (Elt Ideal) ℓ) (g' : Dev Cert.RetentionIdeal.nD → PrngReg), Pre_RetScanIdeal m →
    (∀ c : Dev Cert.RetScanIdeal.nD,
      m' ((c.tc : Thread Cert.RetentionIdeal.nD Cert.RetentionIdeal.τ).loc Cert.RetentionIdeal.main_arg0) = m ((c.tc : Thread Cert.RetScanIdeal.nD Cert.RetScanIdeal.τ).loc Cert.RetScanIdeal.main_arg0)) →
    ∃ (v0 : (c : Dev Cert.RetScanIdeal.nD) → Buf (Elt Ideal) ((c.tc : Thread Cert.RetScanIdeal.nD Cert.RetScanIdeal.τ).loc Cert.RetScanIdeal.main_v47_0)) (v1 : (c : Dev Cert.RetScanIdeal.nD) → Buf (Elt Ideal) ((c.tc : Thread Cert.RetScanIdeal.nD Cert.RetScanIdeal.τ).loc Cert.RetScanIdeal.main_v47_1)),
      θ_run (Cert.RetScanIdeal.defs (F := Ideal)) (onTc (τ := Cert.RetScanIdeal.τ) (Cert.RetScanIdeal.main (F := Ideal))) ⟨m, fun _ => 0, g⟩ (fun r => ∀ c : Dev Cert.RetScanIdeal.nD,
          r.2.mem ((c.tc : Thread Cert.RetScanIdeal.nD Cert.RetScanIdeal.τ).loc Cert.RetScanIdeal.main_v47_0) = v0 c
          ∧ r.2.mem ((c.tc : Thread Cert.RetScanIdeal.nD Cert.RetScanIdeal.τ).loc Cert.RetScanIdeal.main_v47_1) = v1 c
          ∧ r.2.mem ((c.tc : Thread Cert.RetScanIdeal.nD Cert.RetScanIdeal.τ).loc Cert.RetScanIdeal.main_arg0) = m ((c.tc : Thread Cert.RetScanIdeal.nD Cert.RetScanIdeal.τ).loc Cert.RetScanIdeal.main_arg0))
      ∧ θ_run (Cert.RetentionIdeal.defs (F := Ideal)) (onTc (τ := Cert.RetentionIdeal.τ) (Cert.RetentionIdeal.main (F := Ideal))) ⟨m', fun _ => 0, g'⟩ (fun r => ∀ c : Dev Cert.RetentionIdeal.nD,
          r.2.mem ((c.tc : Thread Cert.RetentionIdeal.nD Cert.RetentionIdeal.τ).loc Cert.RetentionIdeal.main_v89) = v0 c
          ∧ r.2.mem ((c.tc : Thread Cert.RetentionIdeal.nD Cert.RetentionIdeal.τ).loc Cert.RetentionIdeal.main_v61_8) = v1 c
          ∧ r.2.mem ((c.tc : Thread Cert.RetentionIdeal.nD Cert.RetentionIdeal.τ).loc Cert.RetentionIdeal.main_arg0) = m' ((c.tc : Thread Cert.RetentionIdeal.nD Cert.RetentionIdeal.τ).loc Cert.RetentionIdeal.main_arg0))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_DiffAttn_DiffAttnIdeal : Prop :=
  IdealRules.named_const.Statement Cert.DiffAttnIdeal.κ "mask" .f32 0xF149F2CA#32 ⊥

def algebraic_DiffAttnIdeal_AttendIdeal [hDiffAttnIdeal : Cert.DiffAttnIdeal.Facts] [hAttendIdeal : Cert.AttendIdeal.Facts] [hPre_drawn : Cert.Pre_drawn.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg)
    (m' : (ℓ : Loc Cert.AttendIdeal.nD Cert.AttendIdeal.τ Cert.AttendIdeal.sig) → Buf (Elt Ideal) ℓ) (g' : Dev Cert.AttendIdeal.nD → PrngReg), Pre_DiffAttnIdeal m →
    (∀ c : Dev Cert.DiffAttnIdeal.nD,
      m' ((c.tc : Thread Cert.AttendIdeal.nD Cert.AttendIdeal.τ).loc Cert.AttendIdeal.main_arg0) = m ((c.tc : Thread Cert.DiffAttnIdeal.nD Cert.DiffAttnIdeal.τ).loc Cert.DiffAttnIdeal.main_arg0)
      ∧ m' ((c.tc : Thread Cert.AttendIdeal.nD Cert.AttendIdeal.τ).loc Cert.AttendIdeal.main_arg1) = m ((c.tc : Thread Cert.DiffAttnIdeal.nD Cert.DiffAttnIdeal.τ).loc Cert.DiffAttnIdeal.main_arg1)
      ∧ m' ((c.tc : Thread Cert.AttendIdeal.nD Cert.AttendIdeal.τ).loc Cert.AttendIdeal.main_arg2) = m ((c.tc : Thread Cert.DiffAttnIdeal.nD Cert.DiffAttnIdeal.τ).loc Cert.DiffAttnIdeal.main_arg2)
      ∧ m' ((c.tc : Thread Cert.AttendIdeal.nD Cert.AttendIdeal.τ).loc Cert.AttendIdeal.main_arg3) = m ((c.tc : Thread Cert.DiffAttnIdeal.nD Cert.DiffAttnIdeal.τ).loc Cert.DiffAttnIdeal.main_arg3)
      ∧ m' ((c.tc : Thread Cert.AttendIdeal.nD Cert.AttendIdeal.τ).loc Cert.AttendIdeal.main_arg4) = m ((c.tc : Thread Cert.DiffAttnIdeal.nD Cert.DiffAttnIdeal.τ).loc Cert.DiffAttnIdeal.main_arg4)
      ∧ m' ((c.tc : Thread Cert.AttendIdeal.nD Cert.AttendIdeal.τ).loc Cert.AttendIdeal.main_arg5) = m ((c.tc : Thread Cert.DiffAttnIdeal.nD Cert.DiffAttnIdeal.τ).loc Cert.DiffAttnIdeal.main_arg5)
      ∧ m' ((c.tc : Thread Cert.AttendIdeal.nD Cert.AttendIdeal.τ).loc Cert.AttendIdeal.main_arg6) = m ((c.tc : Thread Cert.DiffAttnIdeal.nD Cert.DiffAttnIdeal.τ).loc Cert.DiffAttnIdeal.main_arg6)
      ∧ m' ((c.tc : Thread Cert.AttendIdeal.nD Cert.AttendIdeal.τ).loc Cert.AttendIdeal.main_arg7) = m ((c.tc : Thread Cert.DiffAttnIdeal.nD Cert.DiffAttnIdeal.τ).loc Cert.DiffAttnIdeal.main_arg7)
      ∧ m' ((c.tc : Thread Cert.AttendIdeal.nD Cert.AttendIdeal.τ).loc Cert.AttendIdeal.main_arg8) = m ((c.tc : Thread Cert.DiffAttnIdeal.nD Cert.DiffAttnIdeal.τ).loc Cert.DiffAttnIdeal.main_arg8)
      ∧ m' ((c.tc : Thread Cert.AttendIdeal.nD Cert.AttendIdeal.τ).loc Cert.AttendIdeal.main_arg9) = m ((c.tc : Thread Cert.DiffAttnIdeal.nD Cert.DiffAttnIdeal.τ).loc Cert.DiffAttnIdeal.main_arg9)) →
    ∃ (v0 : (c : Dev Cert.DiffAttnIdeal.nD) → Buf (Elt Ideal) ((c.tc : Thread Cert.DiffAttnIdeal.nD Cert.DiffAttnIdeal.τ).loc Cert.DiffAttnIdeal.main_v0)),
      θ_run (Cert.DiffAttnIdeal.defs (F := Ideal)) (onTc (τ := Cert.DiffAttnIdeal.τ) (Cert.DiffAttnIdeal.main (F := Ideal))) ⟨m, fun _ => 0, g⟩ (fun r => ∀ c : Dev Cert.DiffAttnIdeal.nD,
          r.2.mem ((c.tc : Thread Cert.DiffAttnIdeal.nD Cert.DiffAttnIdeal.τ).loc Cert.DiffAttnIdeal.main_v0) = v0 c
          ∧ r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
          ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
          ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
          ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
          ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
          ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
          ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6)
          ∧ r.2.mem ((c.tc : Thread Cert.DiffAttnIdeal.nD Cert.DiffAttnIdeal.τ).loc Cert.DiffAttnIdeal.main_arg7) = m ((c.tc : Thread Cert.DiffAttnIdeal.nD Cert.DiffAttnIdeal.τ).loc Cert.DiffAttnIdeal.main_arg7)
          ∧ r.2.mem ((c.tc : Thread Cert.DiffAttnIdeal.nD Cert.DiffAttnIdeal.τ).loc Cert.DiffAttnIdeal.main_arg8) = m ((c.tc : Thread Cert.DiffAttnIdeal.nD Cert.DiffAttnIdeal.τ).loc Cert.DiffAttnIdeal.main_arg8)
          ∧ r.2.mem ((c.tc : Thread Cert.DiffAttnIdeal.nD Cert.DiffAttnIdeal.τ).loc Cert.DiffAttnIdeal.main_arg9) = m ((c.tc : Thread Cert.DiffAttnIdeal.nD Cert.DiffAttnIdeal.τ).loc Cert.DiffAttnIdeal.main_arg9))
      ∧ θ_run (Cert.AttendIdeal.defs (F := Ideal)) (onTc (τ := Cert.AttendIdeal.τ) (Cert.AttendIdeal.main (F := Ideal))) ⟨m', fun _ => 0, g'⟩ (fun r => ∀ c : Dev Cert.AttendIdeal.nD,
          r.2.mem ((c.tc : Thread Cert.AttendIdeal.nD Cert.AttendIdeal.τ).loc Cert.AttendIdeal.main_v75) = v0 c
          ∧ r.2.mem ((c.tc : Thread Cert.AttendIdeal.nD Cert.AttendIdeal.τ).loc Cert.AttendIdeal.main_arg0) = m' ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m' ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m' ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m' ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m' ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m' ((c.tc : Thread Cert.AttendIdeal.nD Cert.AttendIdeal.τ).loc Cert.AttendIdeal.main_arg5)
          ∧ r.2.mem ((c.tc : Thread Cert.AttendIdeal.nD Cert.AttendIdeal.τ).loc Cert.AttendIdeal.main_arg6) = m' ((c.tc : Thread Cert.AttendIdeal.nD Cert.AttendIdeal.τ).loc Cert.AttendIdeal.main_arg6)
          ∧ r.2.mem ((c.tc : Thread Cert.AttendIdeal.nD Cert.AttendIdeal.τ).loc Cert.AttendIdeal.main_arg7) = m' ((c.tc : Thread Cert.AttendIdeal.nD Cert.AttendIdeal.τ).loc Cert.AttendIdeal.main_arg7)
          ∧ r.2.mem ((c.tc : Thread Cert.AttendIdeal.nD Cert.AttendIdeal.τ).loc Cert.AttendIdeal.main_arg8) = m' ((c.tc : Thread Cert.AttendIdeal.nD Cert.AttendIdeal.τ).loc Cert.AttendIdeal.main_arg8)
          ∧ r.2.mem ((c.tc : Thread Cert.AttendIdeal.nD Cert.AttendIdeal.τ).loc Cert.AttendIdeal.main_arg9) = m' ((c.tc : Thread Cert.AttendIdeal.nD Cert.AttendIdeal.τ).loc Cert.AttendIdeal.main_arg9))

def preserves_PleMid_PleMidIdeal : Prop :=
  True

def algebraic_PleMidIdeal_EmbedIdeal [hPleMidIdeal : Cert.PleMidIdeal.Facts] [hEmbedIdeal : Cert.EmbedIdeal.Facts] : Prop :=
  ∀ (m : (ℓ : Loc Cert.PleMidIdeal.nD Cert.PleMidIdeal.τ Cert.PleMidIdeal.sig) → Buf (Elt Ideal) ℓ) (g : Dev Cert.PleMidIdeal.nD → PrngReg)
    (m' : (ℓ : Loc Cert.EmbedIdeal.nD Cert.EmbedIdeal.τ Cert.EmbedIdeal.sig) → Buf (Elt Ideal) ℓ) (g' : Dev Cert.EmbedIdeal.nD → PrngReg), Pre_PleMidIdeal m →
    (∀ c : Dev Cert.PleMidIdeal.nD,
      m' ((c.tc : Thread Cert.EmbedIdeal.nD Cert.EmbedIdeal.τ).loc Cert.EmbedIdeal.main_arg0) = m ((c.tc : Thread Cert.PleMidIdeal.nD Cert.PleMidIdeal.τ).loc Cert.PleMidIdeal.main_arg0)
      ∧ m' ((c.tc : Thread Cert.EmbedIdeal.nD Cert.EmbedIdeal.τ).loc Cert.EmbedIdeal.main_arg1) = m ((c.tc : Thread Cert.PleMidIdeal.nD Cert.PleMidIdeal.τ).loc Cert.PleMidIdeal.main_arg1)
      ∧ m' ((c.tc : Thread Cert.EmbedIdeal.nD Cert.EmbedIdeal.τ).loc Cert.EmbedIdeal.main_arg2) = m ((c.tc : Thread Cert.PleMidIdeal.nD Cert.PleMidIdeal.τ).loc Cert.PleMidIdeal.main_arg2)
      ∧ m' ((c.tc : Thread Cert.EmbedIdeal.nD Cert.EmbedIdeal.τ).loc Cert.EmbedIdeal.main_arg3) = m ((c.tc : Thread Cert.PleMidIdeal.nD Cert.PleMidIdeal.τ).loc Cert.PleMidIdeal.main_arg3)
      ∧ m' ((c.tc : Thread Cert.EmbedIdeal.nD Cert.EmbedIdeal.τ).loc Cert.EmbedIdeal.main_arg4) = m ((c.tc : Thread Cert.PleMidIdeal.nD Cert.PleMidIdeal.τ).loc Cert.PleMidIdeal.main_arg4)
      ∧ m' ((c.tc : Thread Cert.EmbedIdeal.nD Cert.EmbedIdeal.τ).loc Cert.EmbedIdeal.main_arg5) = m ((c.tc : Thread Cert.PleMidIdeal.nD Cert.PleMidIdeal.τ).loc Cert.PleMidIdeal.main_arg5)) →
    ∃ (v0 : (c : Dev Cert.PleMidIdeal.nD) → Buf (Elt Ideal) ((c.tc : Thread Cert.PleMidIdeal.nD Cert.PleMidIdeal.τ).loc Cert.PleMidIdeal.main_v0)),
      θ_run (Cert.PleMidIdeal.defs (F := Ideal)) (onTc (τ := Cert.PleMidIdeal.τ) (Cert.PleMidIdeal.main (F := Ideal))) ⟨m, fun _ => 0, g⟩ (fun r => ∀ c : Dev Cert.PleMidIdeal.nD,
          r.2.mem ((c.tc : Thread Cert.PleMidIdeal.nD Cert.PleMidIdeal.τ).loc Cert.PleMidIdeal.main_v0) = v0 c
          ∧ r.2.mem ((c.tc : Thread Cert.PleMidIdeal.nD Cert.PleMidIdeal.τ).loc Cert.PleMidIdeal.main_arg0) = m ((c.tc : Thread Cert.PleMidIdeal.nD Cert.PleMidIdeal.τ).loc Cert.PleMidIdeal.main_arg0)
          ∧ r.2.mem ((c.tc : Thread Cert.PleMidIdeal.nD Cert.PleMidIdeal.τ).loc Cert.PleMidIdeal.main_arg1) = m ((c.tc : Thread Cert.PleMidIdeal.nD Cert.PleMidIdeal.τ).loc Cert.PleMidIdeal.main_arg1)
          ∧ r.2.mem ((c.tc : Thread Cert.PleMidIdeal.nD Cert.PleMidIdeal.τ).loc Cert.PleMidIdeal.main_arg2) = m ((c.tc : Thread Cert.PleMidIdeal.nD Cert.PleMidIdeal.τ).loc Cert.PleMidIdeal.main_arg2)
          ∧ r.2.mem ((c.tc : Thread Cert.PleMidIdeal.nD Cert.PleMidIdeal.τ).loc Cert.PleMidIdeal.main_arg3) = m ((c.tc : Thread Cert.PleMidIdeal.nD Cert.PleMidIdeal.τ).loc Cert.PleMidIdeal.main_arg3)
          ∧ r.2.mem ((c.tc : Thread Cert.PleMidIdeal.nD Cert.PleMidIdeal.τ).loc Cert.PleMidIdeal.main_arg4) = m ((c.tc : Thread Cert.PleMidIdeal.nD Cert.PleMidIdeal.τ).loc Cert.PleMidIdeal.main_arg4)
          ∧ r.2.mem ((c.tc : Thread Cert.PleMidIdeal.nD Cert.PleMidIdeal.τ).loc Cert.PleMidIdeal.main_arg5) = m ((c.tc : Thread Cert.PleMidIdeal.nD Cert.PleMidIdeal.τ).loc Cert.PleMidIdeal.main_arg5))
      ∧ θ_run (Cert.EmbedIdeal.defs (F := Ideal)) (onTc (τ := Cert.EmbedIdeal.τ) (Cert.EmbedIdeal.main (F := Ideal))) ⟨m', fun _ => 0, g'⟩ (fun r => ∀ c : Dev Cert.EmbedIdeal.nD,
          r.2.mem ((c.tc : Thread Cert.EmbedIdeal.nD Cert.EmbedIdeal.τ).loc Cert.EmbedIdeal.main_v23) = v0 c
          ∧ r.2.mem ((c.tc : Thread Cert.EmbedIdeal.nD Cert.EmbedIdeal.τ).loc Cert.EmbedIdeal.main_arg0) = m' ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m' ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m' ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m' ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m' ((c.tc : Thread Cert.EmbedIdeal.nD Cert.EmbedIdeal.τ).loc Cert.EmbedIdeal.main_arg4)
          ∧ r.2.mem ((c.tc : Thread Cert.EmbedIdeal.nD Cert.EmbedIdeal.τ).loc Cert.EmbedIdeal.main_arg5) = m' ((c.tc : Thread Cert.EmbedIdeal.nD Cert.EmbedIdeal.τ).loc Cert.EmbedIdeal.main_arg5))

def preserves_PleLast_PleLastIdeal : Prop :=
  True

def algebraic_PleLastIdeal_EmbedLastIdeal [hPleLastIdeal : Cert.PleLastIdeal.Facts] [hEmbedLastIdeal : Cert.EmbedLastIdeal.Facts] : Prop :=
  ∀ (m : (ℓ : Loc Cert.PleLastIdeal.nD Cert.PleLastIdeal.τ Cert.PleLastIdeal.sig) → Buf (Elt Ideal) ℓ) (g : Dev Cert.PleLastIdeal.nD → PrngReg)
    (m' : (ℓ : Loc Cert.EmbedLastIdeal.nD Cert.EmbedLastIdeal.τ Cert.EmbedLastIdeal.sig) → Buf (Elt Ideal) ℓ) (g' : Dev Cert.EmbedLastIdeal.nD → PrngReg), Pre_PleLastIdeal m →
    (∀ c : Dev Cert.PleLastIdeal.nD,
      m' ((c.tc : Thread Cert.EmbedLastIdeal.nD Cert.EmbedLastIdeal.τ).loc Cert.EmbedLastIdeal.main_arg0) = m ((c.tc : Thread Cert.PleLastIdeal.nD Cert.PleLastIdeal.τ).loc Cert.PleLastIdeal.main_arg0)
      ∧ m' ((c.tc : Thread Cert.EmbedLastIdeal.nD Cert.EmbedLastIdeal.τ).loc Cert.EmbedLastIdeal.main_arg1) = m ((c.tc : Thread Cert.PleLastIdeal.nD Cert.PleLastIdeal.τ).loc Cert.PleLastIdeal.main_arg1)
      ∧ m' ((c.tc : Thread Cert.EmbedLastIdeal.nD Cert.EmbedLastIdeal.τ).loc Cert.EmbedLastIdeal.main_arg2) = m ((c.tc : Thread Cert.PleLastIdeal.nD Cert.PleLastIdeal.τ).loc Cert.PleLastIdeal.main_arg2)
      ∧ m' ((c.tc : Thread Cert.EmbedLastIdeal.nD Cert.EmbedLastIdeal.τ).loc Cert.EmbedLastIdeal.main_arg3) = m ((c.tc : Thread Cert.PleLastIdeal.nD Cert.PleLastIdeal.τ).loc Cert.PleLastIdeal.main_arg3)
      ∧ m' ((c.tc : Thread Cert.EmbedLastIdeal.nD Cert.EmbedLastIdeal.τ).loc Cert.EmbedLastIdeal.main_arg4) = m ((c.tc : Thread Cert.PleLastIdeal.nD Cert.PleLastIdeal.τ).loc Cert.PleLastIdeal.main_arg4)
      ∧ m' ((c.tc : Thread Cert.EmbedLastIdeal.nD Cert.EmbedLastIdeal.τ).loc Cert.EmbedLastIdeal.main_arg5) = m ((c.tc : Thread Cert.PleLastIdeal.nD Cert.PleLastIdeal.τ).loc Cert.PleLastIdeal.main_arg5)) →
    ∃ (v0 : (c : Dev Cert.PleLastIdeal.nD) → Buf (Elt Ideal) ((c.tc : Thread Cert.PleLastIdeal.nD Cert.PleLastIdeal.τ).loc Cert.PleLastIdeal.main_v0)),
      θ_run (Cert.PleLastIdeal.defs (F := Ideal)) (onTc (τ := Cert.PleLastIdeal.τ) (Cert.PleLastIdeal.main (F := Ideal))) ⟨m, fun _ => 0, g⟩ (fun r => ∀ c : Dev Cert.PleLastIdeal.nD,
          r.2.mem ((c.tc : Thread Cert.PleLastIdeal.nD Cert.PleLastIdeal.τ).loc Cert.PleLastIdeal.main_v0) = v0 c
          ∧ r.2.mem ((c.tc : Thread Cert.PleLastIdeal.nD Cert.PleLastIdeal.τ).loc Cert.PleLastIdeal.main_arg0) = m ((c.tc : Thread Cert.PleLastIdeal.nD Cert.PleLastIdeal.τ).loc Cert.PleLastIdeal.main_arg0)
          ∧ r.2.mem ((c.tc : Thread Cert.PleLastIdeal.nD Cert.PleLastIdeal.τ).loc Cert.PleLastIdeal.main_arg1) = m ((c.tc : Thread Cert.PleLastIdeal.nD Cert.PleLastIdeal.τ).loc Cert.PleLastIdeal.main_arg1)
          ∧ r.2.mem ((c.tc : Thread Cert.PleLastIdeal.nD Cert.PleLastIdeal.τ).loc Cert.PleLastIdeal.main_arg2) = m ((c.tc : Thread Cert.PleLastIdeal.nD Cert.PleLastIdeal.τ).loc Cert.PleLastIdeal.main_arg2)
          ∧ r.2.mem ((c.tc : Thread Cert.PleLastIdeal.nD Cert.PleLastIdeal.τ).loc Cert.PleLastIdeal.main_arg3) = m ((c.tc : Thread Cert.PleLastIdeal.nD Cert.PleLastIdeal.τ).loc Cert.PleLastIdeal.main_arg3)
          ∧ r.2.mem ((c.tc : Thread Cert.PleLastIdeal.nD Cert.PleLastIdeal.τ).loc Cert.PleLastIdeal.main_arg4) = m ((c.tc : Thread Cert.PleLastIdeal.nD Cert.PleLastIdeal.τ).loc Cert.PleLastIdeal.main_arg4)
          ∧ r.2.mem ((c.tc : Thread Cert.PleLastIdeal.nD Cert.PleLastIdeal.τ).loc Cert.PleLastIdeal.main_arg5) = m ((c.tc : Thread Cert.PleLastIdeal.nD Cert.PleLastIdeal.τ).loc Cert.PleLastIdeal.main_arg5))
      ∧ θ_run (Cert.EmbedLastIdeal.defs (F := Ideal)) (onTc (τ := Cert.EmbedLastIdeal.τ) (Cert.EmbedLastIdeal.main (F := Ideal))) ⟨m', fun _ => 0, g'⟩ (fun r => ∀ c : Dev Cert.EmbedLastIdeal.nD,
          r.2.mem ((c.tc : Thread Cert.EmbedLastIdeal.nD Cert.EmbedLastIdeal.τ).loc Cert.EmbedLastIdeal.main_v35) = v0 c
          ∧ r.2.mem ((c.tc : Thread Cert.EmbedLastIdeal.nD Cert.EmbedLastIdeal.τ).loc Cert.EmbedLastIdeal.main_arg0) = m' ((c.tc : Thread Cert.EmbedLastIdeal.nD Cert.EmbedLastIdeal.τ).loc Cert.EmbedLastIdeal.main_arg0)
          ∧ r.2.mem ((c.tc : Thread Cert.EmbedLastIdeal.nD Cert.EmbedLastIdeal.τ).loc Cert.EmbedLastIdeal.main_arg1) = m' ((c.tc : Thread Cert.EmbedLastIdeal.nD Cert.EmbedLastIdeal.τ).loc Cert.EmbedLastIdeal.main_arg1)
          ∧ r.2.mem ((c.tc : Thread Cert.EmbedLastIdeal.nD Cert.EmbedLastIdeal.τ).loc Cert.EmbedLastIdeal.main_arg2) = m' ((c.tc : Thread Cert.EmbedLastIdeal.nD Cert.EmbedLastIdeal.τ).loc Cert.EmbedLastIdeal.main_arg2)
          ∧ r.2.mem ((c.tc : Thread Cert.EmbedLastIdeal.nD Cert.EmbedLastIdeal.τ).loc Cert.EmbedLastIdeal.main_arg3) = m' ((c.tc : Thread Cert.EmbedLastIdeal.nD Cert.EmbedLastIdeal.τ).loc Cert.EmbedLastIdeal.main_arg3)
          ∧ r.2.mem ((c.tc : Thread Cert.EmbedLastIdeal.nD Cert.EmbedLastIdeal.τ).loc Cert.EmbedLastIdeal.main_arg4) = m' ((c.tc : Thread Cert.EmbedLastIdeal.nD Cert.EmbedLastIdeal.τ).loc Cert.EmbedLastIdeal.main_arg4)
          ∧ r.2.mem ((c.tc : Thread Cert.EmbedLastIdeal.nD Cert.EmbedLastIdeal.τ).loc Cert.EmbedLastIdeal.main_arg5) = m' ((c.tc : Thread Cert.EmbedLastIdeal.nD Cert.EmbedLastIdeal.τ).loc Cert.EmbedLastIdeal.main_arg5))

def preserves_RetOut_RetOutIdeal : Prop :=
  True

def algebraic_RetOutIdeal_RetMixIdeal [hRetOutIdeal : Cert.RetOutIdeal.Facts] [hRetMixIdeal : Cert.RetMixIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetMixIdeal.nD Cert.RetMixIdeal.τ Cert.RetMixIdeal.sig) → Buf (Elt Ideal) ℓ) (g' : Dev Cert.RetMixIdeal.nD → PrngReg), Pre_RetOutIdeal m →
    (∀ c : Dev Cert.RetOutIdeal.nD,
      m' ((c.tc : Thread Cert.RetMixIdeal.nD Cert.RetMixIdeal.τ).loc Cert.RetMixIdeal.main_arg0) = m ((c.tc : Thread Cert.RetOutIdeal.nD Cert.RetOutIdeal.τ).loc Cert.RetOutIdeal.main_arg0)
      ∧ m' ((c.tc : Thread Cert.RetMixIdeal.nD Cert.RetMixIdeal.τ).loc Cert.RetMixIdeal.main_arg1) = m ((c.tc : Thread Cert.RetOutIdeal.nD Cert.RetOutIdeal.τ).loc Cert.RetOutIdeal.main_arg1)
      ∧ m' ((c.tc : Thread Cert.RetMixIdeal.nD Cert.RetMixIdeal.τ).loc Cert.RetMixIdeal.main_arg2) = m ((c.tc : Thread Cert.RetOutIdeal.nD Cert.RetOutIdeal.τ).loc Cert.RetOutIdeal.main_arg2)) →
    ∃ (v0 : (c : Dev Cert.RetOutIdeal.nD) → Buf (Elt Ideal) ((c.tc : Thread Cert.RetOutIdeal.nD Cert.RetOutIdeal.τ).loc Cert.RetOutIdeal.main_v0)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v0) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ θ_run (Cert.RetMixIdeal.defs (F := Ideal)) (onTc (τ := Cert.RetMixIdeal.τ) (Cert.RetMixIdeal.main (F := Ideal))) ⟨m', fun _ => 0, g'⟩ (fun r => ∀ c : Dev Cert.RetMixIdeal.nD,
          r.2.mem ((c.tc : Thread Cert.RetMixIdeal.nD Cert.RetMixIdeal.τ).loc Cert.RetMixIdeal.main_v3) = v0 c
          ∧ r.2.mem ((c.tc : Thread Cert.RetMixIdeal.nD Cert.RetMixIdeal.τ).loc Cert.RetMixIdeal.main_arg0) = m' ((c.tc : Thread Cert.RetMixIdeal.nD Cert.RetMixIdeal.τ).loc Cert.RetMixIdeal.main_arg0)
          ∧ r.2.mem ((c.tc : Thread Cert.RetMixIdeal.nD Cert.RetMixIdeal.τ).loc Cert.RetMixIdeal.main_arg1) = m' ((c.tc : Thread Cert.RetMixIdeal.nD Cert.RetMixIdeal.τ).loc Cert.RetMixIdeal.main_arg1)
          ∧ r.2.mem ((c.tc : Thread Cert.RetMixIdeal.nD Cert.RetMixIdeal.τ).loc Cert.RetMixIdeal.main_arg2) = m' ((c.tc : Thread Cert.RetMixIdeal.nD Cert.RetMixIdeal.τ).loc Cert.RetMixIdeal.main_arg2))

def preserves_DiffOut_DiffOutIdeal : Prop :=
  True

def algebraic_DiffOutIdeal_DiffMixIdeal [hDiffOutIdeal : Cert.DiffOutIdeal.Facts] [hDiffMixIdeal : Cert.DiffMixIdeal.Facts] : Prop :=
  ∀ (m : (ℓ : Loc Cert.DiffOutIdeal.nD Cert.DiffOutIdeal.τ Cert.DiffOutIdeal.sig) → Buf (Elt Ideal) ℓ) (g : Dev Cert.DiffOutIdeal.nD → PrngReg)
    (m' : (ℓ : Loc Cert.DiffMixIdeal.nD Cert.DiffMixIdeal.τ Cert.DiffMixIdeal.sig) → Buf (Elt Ideal) ℓ) (g' : Dev Cert.DiffMixIdeal.nD → PrngReg), Pre_DiffOutIdeal m →
    (∀ c : Dev Cert.DiffOutIdeal.nD,
      m' ((c.tc : Thread Cert.DiffMixIdeal.nD Cert.DiffMixIdeal.τ).loc Cert.DiffMixIdeal.main_arg0) = m ((c.tc : Thread Cert.DiffOutIdeal.nD Cert.DiffOutIdeal.τ).loc Cert.DiffOutIdeal.main_arg0)
      ∧ m' ((c.tc : Thread Cert.DiffMixIdeal.nD Cert.DiffMixIdeal.τ).loc Cert.DiffMixIdeal.main_arg1) = m ((c.tc : Thread Cert.DiffOutIdeal.nD Cert.DiffOutIdeal.τ).loc Cert.DiffOutIdeal.main_arg1)
      ∧ m' ((c.tc : Thread Cert.DiffMixIdeal.nD Cert.DiffMixIdeal.τ).loc Cert.DiffMixIdeal.main_arg2) = m ((c.tc : Thread Cert.DiffOutIdeal.nD Cert.DiffOutIdeal.τ).loc Cert.DiffOutIdeal.main_arg2)) →
    ∃ (v0 : (c : Dev Cert.DiffOutIdeal.nD) → Buf (Elt Ideal) ((c.tc : Thread Cert.DiffOutIdeal.nD Cert.DiffOutIdeal.τ).loc Cert.DiffOutIdeal.main_v0)),
      θ_run (Cert.DiffOutIdeal.defs (F := Ideal)) (onTc (τ := Cert.DiffOutIdeal.τ) (Cert.DiffOutIdeal.main (F := Ideal))) ⟨m, fun _ => 0, g⟩ (fun r => ∀ c : Dev Cert.DiffOutIdeal.nD,
          r.2.mem ((c.tc : Thread Cert.DiffOutIdeal.nD Cert.DiffOutIdeal.τ).loc Cert.DiffOutIdeal.main_v0) = v0 c
          ∧ r.2.mem ((c.tc : Thread Cert.DiffOutIdeal.nD Cert.DiffOutIdeal.τ).loc Cert.DiffOutIdeal.main_arg0) = m ((c.tc : Thread Cert.DiffOutIdeal.nD Cert.DiffOutIdeal.τ).loc Cert.DiffOutIdeal.main_arg0)
          ∧ r.2.mem ((c.tc : Thread Cert.DiffOutIdeal.nD Cert.DiffOutIdeal.τ).loc Cert.DiffOutIdeal.main_arg1) = m ((c.tc : Thread Cert.DiffOutIdeal.nD Cert.DiffOutIdeal.τ).loc Cert.DiffOutIdeal.main_arg1)
          ∧ r.2.mem ((c.tc : Thread Cert.DiffOutIdeal.nD Cert.DiffOutIdeal.τ).loc Cert.DiffOutIdeal.main_arg2) = m ((c.tc : Thread Cert.DiffOutIdeal.nD Cert.DiffOutIdeal.τ).loc Cert.DiffOutIdeal.main_arg2))
      ∧ θ_run (Cert.DiffMixIdeal.defs (F := Ideal)) (onTc (τ := Cert.DiffMixIdeal.τ) (Cert.DiffMixIdeal.main (F := Ideal))) ⟨m', fun _ => 0, g'⟩ (fun r => ∀ c : Dev Cert.DiffMixIdeal.nD,
          r.2.mem ((c.tc : Thread Cert.DiffMixIdeal.nD Cert.DiffMixIdeal.τ).loc Cert.DiffMixIdeal.main_v3) = v0 c
          ∧ r.2.mem ((c.tc : Thread Cert.DiffMixIdeal.nD Cert.DiffMixIdeal.τ).loc Cert.DiffMixIdeal.main_arg0) = m' ((c.tc : Thread Cert.DiffMixIdeal.nD Cert.DiffMixIdeal.τ).loc Cert.DiffMixIdeal.main_arg0)
          ∧ r.2.mem ((c.tc : Thread Cert.DiffMixIdeal.nD Cert.DiffMixIdeal.τ).loc Cert.DiffMixIdeal.main_arg1) = m' ((c.tc : Thread Cert.DiffMixIdeal.nD Cert.DiffMixIdeal.τ).loc Cert.DiffMixIdeal.main_arg1)
          ∧ r.2.mem ((c.tc : Thread Cert.DiffMixIdeal.nD Cert.DiffMixIdeal.τ).loc Cert.DiffMixIdeal.main_arg2) = m' ((c.tc : Thread Cert.DiffMixIdeal.nD Cert.DiffMixIdeal.τ).loc Cert.DiffMixIdeal.main_arg2))

def preserves_RetStep_RetStepIdeal : Prop :=
  True

def algebraic_RetStepIdeal_StepRefIdeal [hRetStepIdeal : Cert.RetStepIdeal.Facts] [hStepRefIdeal : Cert.StepRefIdeal.Facts] : Prop :=
  ∀ (m : (ℓ : Loc Cert.RetStepIdeal.nD Cert.RetStepIdeal.τ Cert.RetStepIdeal.sig) → Buf (Elt Ideal) ℓ) (g : Dev Cert.RetStepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_RetStepIdeal m →
    (∀ c : Dev Cert.RetStepIdeal.nD,
      m' ((c.tc : Thread Cert.StepRefIdeal.nD Cert.StepRefIdeal.τ).loc Cert.StepRefIdeal.main_arg0) = m ((c.tc : Thread Cert.RetStepIdeal.nD Cert.RetStepIdeal.τ).loc Cert.RetStepIdeal.main_arg0)
      ∧ m' ((c.tc : Thread Cert.StepRefIdeal.nD Cert.StepRefIdeal.τ).loc Cert.StepRefIdeal.main_arg1) = m ((c.tc : Thread Cert.RetStepIdeal.nD Cert.RetStepIdeal.τ).loc Cert.RetStepIdeal.main_arg1)
      ∧ m' ((c.tc : Thread Cert.StepRefIdeal.nD Cert.StepRefIdeal.τ).loc Cert.StepRefIdeal.main_arg2) = m ((c.tc : Thread Cert.RetStepIdeal.nD Cert.RetStepIdeal.τ).loc Cert.RetStepIdeal.main_arg2)
      ∧ m' ((c.tc : Thread Cert.StepRefIdeal.nD Cert.StepRefIdeal.τ).loc Cert.StepRefIdeal.main_arg3) = m ((c.tc : Thread Cert.RetStepIdeal.nD Cert.RetStepIdeal.τ).loc Cert.RetStepIdeal.main_arg3)
      ∧ m' ((c.tc : Thread Cert.StepRefIdeal.nD Cert.StepRefIdeal.τ).loc Cert.StepRefIdeal.main_arg4) = m ((c.tc : Thread Cert.RetStepIdeal.nD Cert.RetStepIdeal.τ).loc Cert.RetStepIdeal.main_arg4)) →
    ∃ (v0 : (c : Dev Cert.RetStepIdeal.nD) → Buf (Elt Ideal) ((c.tc : Thread Cert.RetStepIdeal.nD Cert.RetStepIdeal.τ).loc Cert.RetStepIdeal.main_v42_0)) (v1 : (c : Dev Cert.RetStepIdeal.nD) → Buf (Elt Ideal) ((c.tc : Thread Cert.RetStepIdeal.nD Cert.RetStepIdeal.τ).loc Cert.RetStepIdeal.main_v42_1)),
      θ_run (Cert.RetStepIdeal.defs (F := Ideal)) (onTc (τ := Cert.RetStepIdeal.τ) (Cert.RetStepIdeal.main (F := Ideal))) ⟨m, fun _ => 0, g⟩ (fun r => ∀ c : Dev Cert.RetStepIdeal.nD,
          r.2.mem ((c.tc : Thread Cert.RetStepIdeal.nD Cert.RetStepIdeal.τ).loc Cert.RetStepIdeal.main_v42_0) = v0 c
          ∧ r.2.mem ((c.tc : Thread Cert.RetStepIdeal.nD Cert.RetStepIdeal.τ).loc Cert.RetStepIdeal.main_v42_1) = v1 c
          ∧ r.2.mem ((c.tc : Thread Cert.RetStepIdeal.nD Cert.RetStepIdeal.τ).loc Cert.RetStepIdeal.main_arg0) = m ((c.tc : Thread Cert.RetStepIdeal.nD Cert.RetStepIdeal.τ).loc Cert.RetStepIdeal.main_arg0)
          ∧ r.2.mem ((c.tc : Thread Cert.RetStepIdeal.nD Cert.RetStepIdeal.τ).loc Cert.RetStepIdeal.main_arg1) = m ((c.tc : Thread Cert.RetStepIdeal.nD Cert.RetStepIdeal.τ).loc Cert.RetStepIdeal.main_arg1)
          ∧ r.2.mem ((c.tc : Thread Cert.RetStepIdeal.nD Cert.RetStepIdeal.τ).loc Cert.RetStepIdeal.main_arg2) = m ((c.tc : Thread Cert.RetStepIdeal.nD Cert.RetStepIdeal.τ).loc Cert.RetStepIdeal.main_arg2)
          ∧ r.2.mem ((c.tc : Thread Cert.RetStepIdeal.nD Cert.RetStepIdeal.τ).loc Cert.RetStepIdeal.main_arg3) = m ((c.tc : Thread Cert.RetStepIdeal.nD Cert.RetStepIdeal.τ).loc Cert.RetStepIdeal.main_arg3)
          ∧ r.2.mem ((c.tc : Thread Cert.RetStepIdeal.nD Cert.RetStepIdeal.τ).loc Cert.RetStepIdeal.main_arg4) = m ((c.tc : Thread Cert.RetStepIdeal.nD Cert.RetStepIdeal.τ).loc Cert.RetStepIdeal.main_arg4))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v53) = v0 c
          ∧ r.2.mem ((c.tc : Thread Cert.StepRefIdeal.nD Cert.StepRefIdeal.τ).loc Cert.StepRefIdeal.main_v31) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4))

def preserves_RetProj_RetProjIdeal : Prop :=
  True

def algebraic_RetProjIdeal_RotatedIdeal [hRetProjIdeal : Cert.RetProjIdeal.Facts] [hRotatedIdeal : Cert.RotatedIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RotatedIdeal.nD Cert.RotatedIdeal.τ Cert.RotatedIdeal.sig) → Buf (Elt Ideal) ℓ) (g' : Dev Cert.RotatedIdeal.nD → PrngReg), Pre_RetProjIdeal m →
    (∀ c : Dev Cert.RetProjIdeal.nD,
      m' ((c.tc : Thread Cert.RotatedIdeal.nD Cert.RotatedIdeal.τ).loc Cert.RotatedIdeal.main_arg0) = m ((c.tc : Thread Cert.RetProjIdeal.nD Cert.RetProjIdeal.τ).loc Cert.RetProjIdeal.main_arg0)
      ∧ m' ((c.tc : Thread Cert.RotatedIdeal.nD Cert.RotatedIdeal.τ).loc Cert.RotatedIdeal.main_arg1) = m ((c.tc : Thread Cert.RetProjIdeal.nD Cert.RetProjIdeal.τ).loc Cert.RetProjIdeal.main_arg1)
      ∧ m' ((c.tc : Thread Cert.RotatedIdeal.nD Cert.RotatedIdeal.τ).loc Cert.RotatedIdeal.main_arg2) = m ((c.tc : Thread Cert.RetProjIdeal.nD Cert.RetProjIdeal.τ).loc Cert.RetProjIdeal.main_arg2)) →
    ∃ (v0 : (c : Dev Cert.RetProjIdeal.nD) → Buf (Elt Ideal) ((c.tc : Thread Cert.RetProjIdeal.nD Cert.RetProjIdeal.τ).loc Cert.RetProjIdeal.main_v32)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v32) = v0 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
          ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2))
      ∧ θ_run (Cert.RotatedIdeal.defs (F := Ideal)) (onTc (τ := Cert.RotatedIdeal.τ) (Cert.RotatedIdeal.main (F := Ideal))) ⟨m', fun _ => 0, g'⟩ (fun r => ∀ c : Dev Cert.RotatedIdeal.nD,
          r.2.mem ((c.tc : Thread Cert.RotatedIdeal.nD Cert.RotatedIdeal.τ).loc Cert.RotatedIdeal.main_v86) = v0 c
          ∧ r.2.mem ((c.tc : Thread Cert.RotatedIdeal.nD Cert.RotatedIdeal.τ).loc Cert.RotatedIdeal.main_arg0) = m' ((c.tc : Thread Cert.RotatedIdeal.nD Cert.RotatedIdeal.τ).loc Cert.RotatedIdeal.main_arg0)
          ∧ r.2.mem ((c.tc : Thread Cert.RotatedIdeal.nD Cert.RotatedIdeal.τ).loc Cert.RotatedIdeal.main_arg1) = m' ((c.tc : Thread Cert.RotatedIdeal.nD Cert.RotatedIdeal.τ).loc Cert.RotatedIdeal.main_arg1)
          ∧ r.2.mem ((c.tc : Thread Cert.RotatedIdeal.nD Cert.RotatedIdeal.τ).loc Cert.RotatedIdeal.main_arg2) = m' ((c.tc : Thread Cert.RotatedIdeal.nD Cert.RotatedIdeal.τ).loc Cert.RotatedIdeal.main_arg2))

def Claim : Prop :=
  ∃ (hRetScan : Cert.RetScan.Facts) (hRetScanIdeal : Cert.RetScanIdeal.Facts) (hRetentionIdeal : Cert.RetentionIdeal.Facts) (hFfn : Cert.Ffn.Facts) (hFfnIdeal : Cert.FfnIdeal.Facts) (hFfnRefIdeal : Cert.FfnRefIdeal.Facts) (hDiffAttn : Cert.DiffAttn.Facts) (hDiffAttnIdeal : Cert.DiffAttnIdeal.Facts) (hAttendIdeal : Cert.AttendIdeal.Facts) (hPleMid : Cert.PleMid.Facts) (hPleMidIdeal : Cert.PleMidIdeal.Facts) (hEmbedIdeal : Cert.EmbedIdeal.Facts) (hPleLast : Cert.PleLast.Facts) (hPleLastIdeal : Cert.PleLastIdeal.Facts) (hEmbedLastIdeal : Cert.EmbedLastIdeal.Facts) (hRetOut : Cert.RetOut.Facts) (hRetOutIdeal : Cert.RetOutIdeal.Facts) (hRetMixIdeal : Cert.RetMixIdeal.Facts) (hDiffOut : Cert.DiffOut.Facts) (hDiffOutIdeal : Cert.DiffOutIdeal.Facts) (hDiffMixIdeal : Cert.DiffMixIdeal.Facts) (hRetStep : Cert.RetStep.Facts) (hRetStepIdeal : Cert.RetStepIdeal.Facts) (hStepRefIdeal : Cert.StepRefIdeal.Facts) (hRetProj : Cert.RetProj.Facts) (hRetProjIdeal : Cert.RetProjIdeal.Facts) (hRotatedIdeal : Cert.RotatedIdeal.Facts) (hPre_drawn : Cert.Pre_drawn.Facts),
    quiescent_RetScan (hRetScan := hRetScan)
    ∧ quiescent_RetScanIdeal (hRetScanIdeal := hRetScanIdeal)
    ∧ quiescent_RetentionIdeal (hRetentionIdeal := hRetentionIdeal)
    ∧ quiescent_Ffn (hFfn := hFfn)
    ∧ quiescent_FfnIdeal (hFfnIdeal := hFfnIdeal)
    ∧ quiescent_FfnRefIdeal (hFfnRefIdeal := hFfnRefIdeal)
    ∧ quiescent_DiffAttn (hDiffAttn := hDiffAttn) (hPre_drawn := hPre_drawn)
    ∧ quiescent_DiffAttnIdeal (hDiffAttnIdeal := hDiffAttnIdeal) (hPre_drawn := hPre_drawn)
    ∧ quiescent_AttendIdeal (hAttendIdeal := hAttendIdeal) (hPre_drawn := hPre_drawn)
    ∧ quiescent_PleMid (hPleMid := hPleMid)
    ∧ quiescent_PleMidIdeal (hPleMidIdeal := hPleMidIdeal)
    ∧ quiescent_EmbedIdeal (hEmbedIdeal := hEmbedIdeal)
    ∧ quiescent_PleLast (hPleLast := hPleLast)
    ∧ quiescent_PleLastIdeal (hPleLastIdeal := hPleLastIdeal)
    ∧ quiescent_EmbedLastIdeal (hEmbedLastIdeal := hEmbedLastIdeal)
    ∧ quiescent_RetOut (hRetOut := hRetOut)
    ∧ quiescent_RetOutIdeal (hRetOutIdeal := hRetOutIdeal)
    ∧ quiescent_RetMixIdeal (hRetMixIdeal := hRetMixIdeal)
    ∧ quiescent_DiffOut (hDiffOut := hDiffOut)
    ∧ quiescent_DiffOutIdeal (hDiffOutIdeal := hDiffOutIdeal)
    ∧ quiescent_DiffMixIdeal (hDiffMixIdeal := hDiffMixIdeal)
    ∧ quiescent_RetStep (hRetStep := hRetStep)
    ∧ quiescent_RetStepIdeal (hRetStepIdeal := hRetStepIdeal)
    ∧ quiescent_StepRefIdeal (hStepRefIdeal := hStepRefIdeal)
    ∧ quiescent_RetProj (hRetProj := hRetProj)
    ∧ quiescent_RetProjIdeal (hRetProjIdeal := hRetProjIdeal)
    ∧ quiescent_RotatedIdeal (hRotatedIdeal := hRotatedIdeal)
    ∧ preserves_RetScan_RetScanIdeal
    ∧ algebraic_RetScanIdeal_RetentionIdeal (hRetScanIdeal := hRetScanIdeal) (hRetentionIdeal := hRetentionIdeal)
    ∧ preserves_Ffn_FfnIdeal
    ∧ algebraic_FfnIdeal_FfnRefIdeal (hFfnIdeal := hFfnIdeal) (hFfnRefIdeal := hFfnRefIdeal)
    ∧ preserves_DiffAttn_DiffAttnIdeal
    ∧ algebraic_DiffAttnIdeal_AttendIdeal (hDiffAttnIdeal := hDiffAttnIdeal) (hAttendIdeal := hAttendIdeal) (hPre_drawn := hPre_drawn)
    ∧ preserves_PleMid_PleMidIdeal
    ∧ algebraic_PleMidIdeal_EmbedIdeal (hPleMidIdeal := hPleMidIdeal) (hEmbedIdeal := hEmbedIdeal)
    ∧ preserves_PleLast_PleLastIdeal
    ∧ algebraic_PleLastIdeal_EmbedLastIdeal (hPleLastIdeal := hPleLastIdeal) (hEmbedLastIdeal := hEmbedLastIdeal)
    ∧ preserves_RetOut_RetOutIdeal
    ∧ algebraic_RetOutIdeal_RetMixIdeal (hRetOutIdeal := hRetOutIdeal) (hRetMixIdeal := hRetMixIdeal)
    ∧ preserves_DiffOut_DiffOutIdeal
    ∧ algebraic_DiffOutIdeal_DiffMixIdeal (hDiffOutIdeal := hDiffOutIdeal) (hDiffMixIdeal := hDiffMixIdeal)
    ∧ preserves_RetStep_RetStepIdeal
    ∧ algebraic_RetStepIdeal_StepRefIdeal (hRetStepIdeal := hRetStepIdeal) (hStepRefIdeal := hStepRefIdeal)
    ∧ preserves_RetProj_RetProjIdeal
    ∧ algebraic_RetProjIdeal_RotatedIdeal (hRetProjIdeal := hRetProjIdeal) (hRotatedIdeal := hRotatedIdeal)
-- ==== Pre_drawn.lean ====
abbrev S136 : Shape := ⟨1, ![136]⟩
abbrev S16384x1024 : Shape := ⟨2, ![16384, 1024]⟩
abbrev S1x64 : Shape := ⟨2, ![1, 64]⟩
abbrev S1x128 : Shape := ⟨2, ![1, 128]⟩
abbrev S_ : Shape := ⟨0, ![]⟩

class Facts : Prop where
  reducesTo_S136_S_d0 : S136.ReducesTo [0] S_
  h_S_ : 0 < S_.numel
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  bcast_S_S1x64 : S_.BroadcastsInDim S1x64 (![] : Fin 0 → Fin S1x64.rank)
  reducesTo_S1x64_S_d0_1 : S1x64.ReducesTo [0, 1] S_

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn_part2 {F : FTy → Type} [FloatOps F] (main_arg8 : FVec F S1x64 .f32) (main_v32 : IVec S_ 1) (main_v33 : FVec F S1x64 .f32) : IVec S_ 1 :=
  let main_cst_12 : FVec F S_ .f32 := constant S_ .f32 0x7F800000#32
  let main_v34 : FVec F S1x64 .f32 := broadcastInDim S1x64 ![] bcast_S_S1x64 main_cst_12
  let main_v35 : IVec S1x64 1 := cmpf .olt main_v33 main_v34
  let main_c_13 : IVec S_ 1 := constantI S_ 1 1#1
  let main_v36 : IVec S_ 1 := (fun x v => Host.reduce IntOp.andi x v reducesTo_S1x64_S_d0_1 h_S_) main_v35 main_c_13
  let main_v37 : IVec S_ 1 := andi main_v32 main_v36
  let main_v38 : FVec F S1x64 .f32 := Host.absf main_arg8
  let main_cst_14 : FVec F S_ .f32 := constant S_ .f32 0x7F800000#32
  let main_v39 : FVec F S1x64 .f32 := broadcastInDim S1x64 ![] bcast_S_S1x64 main_cst_14
  let main_v40 : IVec S1x64 1 := cmpf .olt main_v38 main_v39
  let main_c_15 : IVec S_ 1 := constantI S_ 1 1#1
  let main_v41 : IVec S_ 1 := (fun x v => Host.reduce IntOp.andi x v reducesTo_S1x64_S_d0_1 h_S_) main_v40 main_c_15
  let main_v42 : IVec S_ 1 := andi main_v37 main_v41
  main_v42

def fn_part1 {F : FTy → Type} [FloatOps F] (main_arg4 : FVec F S16384x1024 .bf16) (main_arg5 : FVec F S1x64 .f32) (main_arg6 : FVec F S1x64 .f32) (main_arg7 : FVec F S1x64 .f32) (main_arg8 : FVec F S1x64 .f32) (main_v10 : IVec S_ 1) (main_v15 : IVec S_ 1) : IVec S_ 1 :=
  let main_v16 : IVec S_ 1 := andi main_v10 main_v15
  let main_v17 : FVec F S16384x1024 .f32 := (extf .f32 · bitsLt_bf16_f32) main_arg4
  let main_v18 : FVec F S16384x1024 .f32 := Host.absf main_v17
  let main_cst_6 : FVec F S_ .f32 := constant S_ .f32 0x7F800000#32
  let main_v19 : FVec F S16384x1024 .f32 := broadcastInDim S16384x1024 ![] bcast_S_S16384x1024 main_cst_6
  let main_v20 : IVec S16384x1024 1 := cmpf .olt main_v18 main_v19
  let main_c_7 : IVec S_ 1 := constantI S_ 1 1#1
  let main_v21 : IVec S_ 1 := (fun x v => Host.reduce IntOp.andi x v reducesTo_S16384x1024_S_d0_1 h_S_) main_v20 main_c_7
  let main_v22 : IVec S_ 1 := andi main_v16 main_v21
  let main_v23 : FVec F S1x64 .f32 := Host.absf main_arg5
  let main_cst_8 : FVec F S_ .f32 := constant S_ .f32 0x7F800000#32
  let main_v24 : FVec F S1x64 .f32 := broadcastInDim S1x64 ![] bcast_S_S1x64 main_cst_8
  let main_v25 : IVec S1x64 1 := cmpf .olt main_v23 main_v24
  let main_c_9 : IVec S_ 1 := constantI S_ 1 1#1
  let main_v26 : IVec S_ 1 := (fun x v => Host.reduce IntOp.andi x v reducesTo_S1x64_S_d0_1 h_S_) main_v25 main_c_9
  let main_v27 : IVec S_ 1 := andi main_v22 main_v26
  let main_v28 : FVec F S1x64 .f32 := Host.absf main_arg6
  let main_cst_10 : FVec F S_ .f32 := constant S_ .f32 0x7F800000#32
  let main_v29 : FVec F S1x64 .f32 := broadcastInDim S1x64 ![] bcast_S_S1x64 main_cst_10
  let main_v30 : IVec S1x64 1 := cmpf .olt main_v28 main_v29
  let main_c_11 : IVec S_ 1 := constantI S_ 1 1#1
  let main_v31 : IVec S_ 1 := (fun x v => Host.reduce IntOp.andi x v reducesTo_S1x64_S_d0_1 h_S_) main_v30 main_c_11
  let main_v32 : IVec S_ 1 := andi main_v27 main_v31
  let main_v33 : FVec F S1x64 .f32 := Host.absf main_arg7
  fn_part2 (F := F) main_arg8 main_v32 main_v33

def fn {F : FTy → Type} [FloatOps F] (main_arg0 : IVec S136 32) (main_arg1 : IVec S136 32) (main_arg2 : FVec F S16384x1024 .bf16) (main_arg3 : FVec F S16384x1024 .bf16) (main_arg4 : FVec F S16384x1024 .bf16) (main_arg5 : FVec F S1x64 .f32) (main_arg6 : FVec F S1x64 .f32) (main_arg7 : FVec F S1x64 .f32) (main_arg8 : FVec F S1x64 .f32) (main_arg9 : FVec F S1x128 .f32) : IVec S_ 1 :=
  let main_c : IVec S136 32 := fun i => lit0 (S136.rowMajor i)
  let main_c_0 : IVec S136 32 := fun i => lit1 (S136.rowMajor i)
  let main_v0 : IVec S136 1 := cmpi .eq main_arg0 main_c
  let main_c_1 : IVec S_ 1 := constantI S_ 1 1#1
  let main_v1 : IVec S_ 1 := (fun x v => Host.reduce IntOp.andi x v reducesTo_S136_S_d0 h_S_) main_v0 main_c_1
  let main_v2 : IVec S136 1 := cmpi .eq main_arg1 main_c_0
  let main_c_2 : IVec S_ 1 := constantI S_ 1 1#1
  let main_v3 : IVec S_ 1 := (fun x v => Host.reduce IntOp.andi x v reducesTo_S136_S_d0 h_S_) main_v2 main_c_2
  let main_v4 : IVec S_ 1 := andi main_v1 main_v3
  let main_v5 : FVec F S16384x1024 .f32 := (extf .f32 · bitsLt_bf16_f32) main_arg2
  let main_v6 : FVec F S16384x1024 .f32 := Host.absf main_v5
  let main_cst : FVec F S_ .f32 := constant S_ .f32 0x7F800000#32
  let main_v7 : FVec F S16384x1024 .f32 := broadcastInDim S16384x1024 ![] bcast_S_S16384x1024 main_cst
  let main_v8 : IVec S16384x1024 1 := cmpf .olt main_v6 main_v7
  let main_c_3 : IVec S_ 1 := constantI S_ 1 1#1
  let main_v9 : IVec S_ 1 := (fun x v => Host.reduce IntOp.andi x v reducesTo_S16384x1024_S_d0_1 h_S_) main_v8 main_c_3
  let main_v10 : IVec S_ 1 := andi main_v4 main_v9
  let main_v11 : FVec F S16384x1024 .f32 := (extf .f32 · bitsLt_bf16_f32) main_arg3
  let main_v12 : FVec F S16384x1024 .f32 := Host.absf main_v11
  let main_cst_4 : FVec F S_ .f32 := constant S_ .f32 0x7F800000#32
  let main_v13 : FVec F S16384x1024 .f32 := broadcastInDim S16384x1024 ![] bcast_S_S16384x1024 main_cst_4
  let main_v14 : IVec S16384x1024 1 := cmpf .olt main_v12 main_v13
  let main_c_5 : IVec S_ 1 := constantI S_ 1 1#1
  let main_v15 : IVec S_ 1 := (fun x v => Host.reduce IntOp.andi x v reducesTo_S16384x1024_S_d0_1 h_S_) main_v14 main_c_5
  fn_part1 (F := F) main_arg4 main_arg5 main_arg6 main_arg7 main_arg8 main_v10 main_v15
-- ==== RetScan.lean ====
abbrev S16384x6144 : Shape := ⟨2, ![16384, 6144]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S16384x2048 : Shape := ⟨2, ![16384, 2048]⟩
abbrev S2x4x256x512 : Shape := ⟨4, ![2, 4, 256, 512]⟩
abbrev S128x256 : Shape := ⟨2, ![128, 256]⟩
abbrev S128x512 : Shape := ⟨2, ![128, 512]⟩
abbrev S1x128x1 : Shape := ⟨3, ![1, 128, 1]⟩
abbrev S1x1x256x512 : Shape := ⟨4, ![1, 1, 256, 512]⟩
abbrev S256x512 : Shape := ⟨2, ![256, 512]⟩
abbrev S1 : Shape := ⟨1, ![1]⟩

abbrev nBuf : Space → Nat
  | .hbm => 61
  | .vmem => 19
  | .smem => 1
  | _ => 0

abbrev bufTy : (tb : Table) → Fin (tcTables nBuf tb) → BufTy
  | .hbm, ⟨0, _⟩ => ⟨S16384x6144, .bf16⟩
  | .hbm, ⟨1, _⟩ => ⟨S4, .f32⟩
  | .hbm, ⟨2, _⟩ => ⟨S_, .f32⟩
  | .hbm, ⟨3, _⟩ => ⟨S4, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S128, .f32⟩
  | .hbm, ⟨12, _⟩ => ⟨S128x1, .f32⟩
  | .hbm, ⟨13, _⟩ => ⟨S1x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S1x128x128, .f32⟩
  | .hbm, ⟨18, _⟩ => ⟨S_, .f32⟩
  | .hbm, ⟨19, _⟩ => ⟨S1x128x128, .f32⟩
  | .hbm, ⟨20, _⟩ => ⟨S1x128x128, .i1⟩
  | .hbm, ⟨21, _⟩ => ⟨S4x1x1, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S1x128x128, .f32⟩
  | .hbm, ⟨26, _⟩ => ⟨S4x128x128, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S_, .f32⟩
  | .hbm, ⟨31, _⟩ => ⟨S_, .f32⟩
  | .hbm, ⟨32, _⟩ => ⟨S4x128x128, .i1⟩
  | .hbm, ⟨33, _⟩ => ⟨S4x128x128, .f32⟩
  | .hbm, ⟨34, _⟩ => ⟨S4x128x128, .f32⟩
  | .hbm, ⟨35, _⟩ => ⟨S4x1, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S4x128, .f32⟩
  | .hbm, ⟨44, _⟩ => ⟨S4x128x1, .f32⟩
  | .hbm, ⟨45, _⟩ => ⟨S4x1, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S4x128, .f32⟩
  | .hbm, ⟨51, _⟩ => ⟨S4x128, .f32⟩
  | .hbm, ⟨52, _⟩ => ⟨S4x128, .f32⟩
  | .hbm, ⟨53, _⟩ => ⟨S4x128, .f32⟩
  | .hbm, ⟨54, _⟩ => ⟨S4x128x1, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S16384x2048, .bf16⟩
  | .hbm, ⟨60, _⟩ => ⟨S2x4x256x512, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1x128x1, .f32⟩
  | .local _ .vmem, ⟨13, _⟩ => ⟨S1x128x1, .f32⟩
  | .local _ .vmem, ⟨14, _⟩ => ⟨S128x512, .bf16⟩
  | .local _ .vmem, ⟨15, _⟩ => ⟨S128x512, .bf16⟩
  | .local _ .vmem, ⟨16, _⟩ => ⟨S1x1x256x512, .f32⟩
  | .local _ .vmem, ⟨17, _⟩ => ⟨S1x1x256x512, .f32⟩
  | .local _ .vmem, ⟨18, _⟩ => ⟨S256x512, .f32⟩
  | .local _ .smem, ⟨0, _⟩ => ⟨S4, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47_0 : Ref sig .tc := ⟨.hbm, 59, rfl⟩
abbrev main_v47_1 : Ref sig .tc := ⟨.hbm, 60, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 64], ![false, false]⟩

def k0_off1 (i : grid0.Coords) : Fin 1 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : Index := Scalar.indexCast v9
  ![v36.toNat]
def k0_cond2 (i : grid0.Coords) : BitVec 1 :=
  let arg1 : BitVec 32 := BitVec.ofNat 32 (i 1).val
  let c63_i32 : BitVec 32 := 63#32
  let v45 : BitVec 1 := Scalar.cmpi .eq arg1 c63_i32
  let v46 : BitVec 32 := Scalar.extui v45
  let c0_i32_26 : BitVec 32 := 0#32
  let v47 : BitVec 1 := Scalar.cmpi .ne v46 c0_i32_26
  v47

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli v16 c64_i32
  let v18 : BitVec 32 := Scalar.addi v17 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli v16 c64_i32
  let v18 : BitVec 32 := Scalar.addi v17 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c4_i32_10 : BitVec 32 := 4#32
  let v29 : BitVec 32 := Scalar.addi c4_i32_10 v28
  let c0_i32_11 : BitVec 32 := 0#32
  ![v18.toNat, v29.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli v16 c64_i32
  let v18 : BitVec 32 := Scalar.addi v17 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c4_i32_10 : BitVec 32 := 4#32
  let v29 : BitVec 32 := Scalar.addi c4_i32_10 v28
  let c0_i32_11 : BitVec 32 := 0#32
  ![v18.toNat, v29.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli v16 c64_i32
  let v18 : BitVec 32 := Scalar.addi v17 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c8_i32 : BitVec 32 := 8#32
  let v29 : BitVec 32 := Scalar.addi c8_i32 v28
  let c0_i32_10 : BitVec 32 := 0#32
  ![v18.toNat, v29.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli v16 c64_i32
  let v18 : BitVec 32 := Scalar.addi v17 arg1
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RetentionIdeal.lean ====
abbrev S16384x6144 : Shape := ⟨2, ![16384, 6144]⟩
abbrev S2x8192x6144 : Shape := ⟨3, ![2, 8192, 6144]⟩
abbrev S2x8192x1024 : Shape := ⟨3, ![2, 8192, 1024]⟩
abbrev S2x8192x4x256 : Shape := ⟨4, ![2, 8192, 4, 256]⟩
abbrev S2x8192x2048 : Shape := ⟨3, ![2, 8192, 2048]⟩
abbrev S2x8192x4x512 : Shape := ⟨4, ![2, 8192, 4, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S2x4x256x512 : Shape := ⟨4, ![2, 4, 256, 512]⟩
abbrev S2x64x128x4x256 : Shape := ⟨5, ![2, 64, 128, 4, 256]⟩
abbrev S64x2x4x128x256 : Shape := ⟨5, ![64, 2, 4, 128, 256]⟩
abbrev S2x64x128x4x512 : Shape := ⟨5, ![2, 64, 128, 4, 512]⟩
abbrev S64x2x4x128x512 : Shape := ⟨5, ![64, 2, 4, 128, 512]⟩
abbrev S1x2x4x128x256 : Shape := ⟨5, ![1, 2, 4, 128, 256]⟩
abbrev S2x4x128x256 : Shape := ⟨4, ![2, 4, 128, 256]⟩
abbrev S1x2x4x128x512 : Shape := ⟨5, ![1, 2, 4, 128, 512]⟩
abbrev S2x4x128x512 : Shape := ⟨4, ![2, 4, 128, 512]⟩
abbrev S2x4x128x128 : Shape := ⟨4, ![2, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S2x8192x4 : Shape := ⟨3, ![2, 8192, 4]⟩
abbrev S2x8192x4x1 : Shape := ⟨4, ![2, 8192, 4, 1]⟩
abbrev S16384x2048 : Shape := ⟨2, ![16384, 2048]⟩

abbrev nBuf : Space → Nat
  | .hbm => 173
  | .vmem => 0
  | .smem => 0
  | _ => 0

abbrev hbmTy0_0 (i : Nat) : BufTy := match i % 128 with
  | 0 => ⟨S16384x6144, .bf16⟩
  | 1 => ⟨S16384x6144, .f32⟩
  | 2 => ⟨S2x8192x6144, .f32⟩
  | 3 => ⟨S2x8192x1024, .f32⟩
  | 4 => ⟨S2x8192x4x256, .f32⟩
  | 5 => ⟨S2x8192x1024, .f32⟩
  | 6 => ⟨S2x8192x4x256, .f32⟩
  | 7 => ⟨S2x8192x2048, .f32⟩
  | 8 => ⟨S2x8192x4x512, .f32⟩
  | 9 => ⟨S4, .f32⟩
  | 10 => ⟨S_, .f32⟩
  | 11 => ⟨S4, .f32⟩
  | 12 => ⟨S4, .f32⟩
  | 13 => ⟨S_, .f32⟩
  | 14 => ⟨S4, .f32⟩
  | 15 => ⟨S4, .f32⟩
  | 16 => ⟨S4, .f32⟩
  | 17 => ⟨S4, .f32⟩
  | 18 => ⟨S4, .f32⟩
  | 19 => ⟨S128, .f32⟩
  | 20 => ⟨S128x1, .f32⟩
  | 21 => ⟨S1x128, .f32⟩
  | 22 => ⟨S128x128, .f32⟩
  | 23 => ⟨S128x128, .f32⟩
  | 24 => ⟨S128x128, .f32⟩
  | 25 => ⟨S1x128x128, .f32⟩
  | 26 => ⟨S_, .f32⟩
  | 27 => ⟨S1x128x128, .f32⟩
  | 28 => ⟨S1x128x128, .i1⟩
  | 29 => ⟨S4x1x1, .f32⟩
  | 30 => ⟨S_, .f32⟩
  | 31 => ⟨S128x128, .f32⟩
  | 32 => ⟨S128x128, .f32⟩
  | 33 => ⟨S1x128x128, .f32⟩
  | 34 => ⟨S4x128x128, .f32⟩
  | 35 => ⟨S4x128x128, .f32⟩
  | 36 => ⟨S4x128x128, .f32⟩
  | 37 => ⟨S4x128x128, .f32⟩
  | 38 => ⟨S_, .f32⟩
  | 39 => ⟨S_, .f32⟩
  | 40 => ⟨S4x128x128, .i1⟩
  | 41 => ⟨S4x128x128, .f32⟩
  | 42 => ⟨S4x128x128, .f32⟩
  | 43 => ⟨S4x1, .f32⟩
  | 44 => ⟨S_, .f32⟩
  | 45 => ⟨S128, .f32⟩
  | 46 => ⟨S128, .f32⟩
  | 47 => ⟨S1x128, .f32⟩
  | 48 => ⟨S4x128, .f32⟩
  | 49 => ⟨S4x128, .f32⟩
  | 50 => ⟨S4x128, .f32⟩
  | 51 => ⟨S4x128, .f32⟩
  | 52 => ⟨S4x1, .f32⟩
  | 53 => ⟨S_, .f32⟩
  | 54 => ⟨S128, .f32⟩
  | 55 => ⟨S128, .f32⟩
  | 56 => ⟨S1x128, .f32⟩
  | 57 => ⟨S4x128, .f32⟩
  | 58 => ⟨S4x128, .f32⟩
  | 59 => ⟨S4x128, .f32⟩
  | 60 => ⟨S4x128, .f32⟩
  | 61 => ⟨S_, .f32⟩
  | 62 => ⟨S4, .f32⟩
  | 63 => ⟨S4, .f32⟩
  | 64 => ⟨S4, .f32⟩
  | 65 => ⟨S_, .f32⟩
  | 66 => ⟨S2x4x256x512, .f32⟩
  | 67 => ⟨S2x64x128x4x256, .f32⟩
  | 68 => ⟨S64x2x4x128x256, .f32⟩
  | 69 => ⟨S2x64x128x4x256, .f32⟩
  | 70 => ⟨S64x2x4x128x256, .f32⟩
  | 71 => ⟨S2x64x128x4x512, .f32⟩
  | 72 => ⟨S64x2x4x128x512, .f32⟩
  | 73 => ⟨S_, .f32⟩
  | 74 => ⟨S64x2x4x128x512, .f32⟩
  | 75 => ⟨S_, .i32⟩
  | 76 => ⟨S64x2x4x128x256, .f32⟩
  | 77 => ⟨S64x2x4x128x256, .f32⟩
  | 78 => ⟨S64x2x4x128x512, .f32⟩
  | 79 => ⟨S4x128x128, .f32⟩
  | 80 => ⟨S4x128, .f32⟩
  | 81 => ⟨S4, .f32⟩
  | 82 => ⟨S4x128, .f32⟩
  | 83 => ⟨S_, .i32⟩
  | 84 => ⟨S2x4x256x512, .f32⟩
  | 85 => ⟨S64x2x4x128x512, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x2x4x128x256, .f32⟩
  | 93 => ⟨S2x4x128x256, .f32⟩
  | 94 => ⟨S_, .i32⟩
  | 95 => ⟨S_, .i32⟩
  | 96 => ⟨S_, .i32⟩
  | 97 => ⟨S_, .i32⟩
  | 98 => ⟨S1x2x4x128x256, .f32⟩
  | 99 => ⟨S2x4x128x256, .f32⟩
  | 100 => ⟨S_, .i32⟩
  | 101 => ⟨S_, .i32⟩
  | 102 => ⟨S_, .i32⟩
  | 103 => ⟨S_, .i32⟩
  | 104 => ⟨S1x2x4x128x512, .f32⟩
  | 105 => ⟨S2x4x128x512, .f32⟩
  | 106 => ⟨S2x4x128x128, .f32⟩
  | 107 => ⟨S1x4x128x128, .f32⟩
  | 108 => ⟨S2x4x128x128, .f32⟩
  | 109 => ⟨S2x4x128x128, .f32⟩
  | 110 => ⟨S2x4x128x512, .f32⟩
  | 111 => ⟨S2x4x128x512, .f32⟩
  | 112 => ⟨S1x4x128x1, .f32⟩
  | 113 => ⟨S2x4x128x512, .f32⟩
  | 114 => ⟨S2x4x128x512, .f32⟩
  | 115 => ⟨S2x4x128x512, .f32⟩
  | 116 => ⟨S1x4x1x1, .f32⟩
  | 117 => ⟨S2x4x256x512, .f32⟩
  | 118 => ⟨S2x4x256x512, .f32⟩
  | 119 => ⟨S1x4x128x1, .f32⟩
  | 120 => ⟨S2x4x128x256, .f32⟩
  | 121 => ⟨S2x4x128x256, .f32⟩
  | 122 => ⟨S2x4x256x512, .f32⟩
  | 123 => ⟨S2x4x256x512, .f32⟩
  | 124 => ⟨S1x2x4x128x512, .f32⟩
  | 125 => ⟨S_, .i32⟩
  | 126 => ⟨S_, .i32⟩
  | 127 => ⟨S_, .i32⟩
  | _ => ⟨S16384x6144, .bf16⟩

abbrev hbmTy0_1 (i : Nat) : BufTy := match i % 128 with
  | 0 => ⟨S_, .i32⟩
  | 1 => ⟨S64x2x4x128x512, .f32⟩
  | 2 => ⟨S_, .i32⟩
  | 3 => ⟨S_, .i32⟩
  | 4 => ⟨S2x64x128x4x512, .f32⟩
  | 5 => ⟨S2x8192x4x512, .f32⟩
  | 6 => ⟨S_, .f32⟩
  | 7 => ⟨S2x8192x4, .f32⟩
  | 8 => ⟨S2x8192x4x1, .f32⟩
  | 9 => ⟨S_, .f32⟩
  | 10 => ⟨S2x8192x4x1, .f32⟩
  | 11 => ⟨S2x8192x4x1, .f32⟩
  | 12 => ⟨S2x8192x4x512, .f32⟩
  | 13 => ⟨S2x8192x4x512, .f32⟩
  | 14 => ⟨S2x8192x4x512, .f32⟩
  | 15 => ⟨S_, .f32⟩
  | 16 => ⟨S2x8192x4, .f32⟩
  | 17 => ⟨S2x8192x4x1, .f32⟩
  | 18 => ⟨S_, .f32⟩
  | 19 => ⟨S2x8192x4x1, .f32⟩
  | 20 => ⟨S2x8192x4x1, .f32⟩
  | 21 => ⟨S2x8192x4x512, .f32⟩
  | 22 => ⟨S2x8192x4x512, .f32⟩
  | 23 => ⟨S_, .f32⟩
  | 24 => ⟨S2x8192x4x1, .f32⟩
  | 25 => ⟨S2x8192x4x1, .f32⟩
  | 26 => ⟨S2x8192x4x1, .f32⟩
  | 27 => ⟨S2x8192x4x512, .f32⟩
  | 28 => ⟨S2x8192x4x512, .f32⟩
  | 29 => ⟨S2x8192x2048, .f32⟩
  | 30 => ⟨S16384x6144, .f32⟩
  | 31 => ⟨S2x8192x6144, .f32⟩
  | 32 => ⟨S2x8192x2048, .f32⟩
  | 33 => ⟨S2x8192x2048, .f32⟩
  | 34 => ⟨S2x8192x2048, .f32⟩
  | 35 => ⟨S_, .f32⟩
  | 36 => ⟨S2x8192x2048, .f32⟩
  | 37 => ⟨S2x8192x2048, .f32⟩
  | 38 => ⟨S_, .f32⟩
  | 39 => ⟨S2x8192x2048, .f32⟩
  | 40 => ⟨S2x8192x2048, .f32⟩
  | 41 => ⟨S2x8192x2048, .f32⟩
  | 42 => ⟨S2x8192x2048, .f32⟩
  | 43 => ⟨S16384x2048, .f32⟩
  | 44 => ⟨S16384x2048, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_1 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_2 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_c : Ref sig .tc := ⟨.hbm, 75, rfl⟩
abbrev main_v61_0 : Ref sig .tc := ⟨.hbm, 76, rfl⟩
abbrev main_v61_1 : Ref sig .tc := ⟨.hbm, 77, rfl⟩
abbrev main_v61_2 : Ref sig .tc := ⟨.hbm, 78, rfl⟩
abbrev main_v61_3 : Ref sig .tc := ⟨.hbm, 79, rfl⟩
abbrev main_v61_4 : Ref sig .tc := ⟨.hbm, 80, rfl⟩
abbrev main_v61_5 : Ref sig .tc := ⟨.hbm, 81, rfl⟩
abbrev main_v61_6 : Ref sig .tc := ⟨.hbm, 82, rfl⟩
abbrev main_v61_7 : Ref sig .tc := ⟨.hbm, 83, rfl⟩
abbrev main_v61_8 : Ref sig .tc := ⟨.hbm, 84, rfl⟩
abbrev main_v61_9 : Ref sig .tc := ⟨.hbm, 85, rfl⟩
abbrev main_while0c_c_23 : Ref sig .tc := ⟨.hbm, 86, rfl⟩
abbrev main_while0c_v90 : Ref sig .tc := ⟨.hbm, 87, rfl⟩
abbrev main_while0b_call1_c : Ref sig .tc := ⟨.hbm, 88, rfl⟩
abbrev main_while0b_call1_c_0 : Ref sig .tc := ⟨.hbm, 89, rfl⟩
abbrev main_while0b_call1_c_1 : Ref sig .tc := ⟨.hbm, 90, rfl⟩
abbrev main_while0b_call1_c_2 : Ref sig .tc := ⟨.hbm, 91, rfl⟩
abbrev main_while0b_call1_v0 : Ref sig .tc := ⟨.hbm, 92, rfl⟩
abbrev main_while0b_v90 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_c_2 : Ref sig .tc := ⟨.hbm, 97, rfl⟩
abbrev main_while0b_call2_v0 : Ref sig .tc := ⟨.hbm, 98, rfl⟩
abbrev main_while0b_v91 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_c_1 : Ref sig .tc := ⟨.hbm, 102, rfl⟩
abbrev main_while0b_call3_c_2 : Ref sig .tc := ⟨.hbm, 103, rfl⟩
abbrev main_while0b_call3_v0 : Ref sig .tc := ⟨.hbm, 104, rfl⟩
abbrev main_while0b_v92 : Ref sig .tc := ⟨.hbm, 105, rfl⟩
abbrev main_while0b_v93 : Ref sig .tc := ⟨.hbm, 106, rfl⟩
abbrev main_while0b_v94 : Ref sig .tc := ⟨.hbm, 107, rfl⟩
abbrev main_while0b_v95 : Ref sig .tc := ⟨.hbm, 108, rfl⟩
abbrev main_while0b_v96 : Ref sig .tc := ⟨.hbm, 109, rfl⟩
abbrev main_while0b_v97 : Ref sig .tc := ⟨.hbm, 110, rfl⟩
abbrev main_while0b_v98 : Ref sig .tc := ⟨.hbm, 111, rfl⟩
abbrev main_while0b_v99 : Ref sig .tc := ⟨.hbm, 112, rfl⟩
abbrev main_while0b_v100 : Ref sig .tc := ⟨.hbm, 113, rfl⟩
abbrev main_while0b_v101 : Ref sig .tc := ⟨.hbm, 114, rfl⟩
abbrev main_while0b_v102 : Ref sig .tc := ⟨.hbm, 115, rfl⟩
abbrev main_while0b_v103 : Ref sig .tc := ⟨.hbm, 116, rfl⟩
abbrev main_while0b_v104 : Ref sig .tc := ⟨.hbm, 117, rfl⟩
abbrev main_while0b_v105 : Ref sig .tc := ⟨.hbm, 118, rfl⟩
abbrev main_while0b_v106 : Ref sig .tc := ⟨.hbm, 119, rfl⟩
abbrev main_while0b_v107 : Ref sig .tc := ⟨.hbm, 120, rfl⟩
abbrev main_while0b_v108 : Ref sig .tc := ⟨.hbm, 121, rfl⟩
abbrev main_while0b_v109 : Ref sig .tc := ⟨.hbm, 122, rfl⟩
abbrev main_while0b_v110 : Ref sig .tc := ⟨.hbm, 123, rfl⟩
abbrev main_while0b_call4_v0 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_c_2 : Ref sig .tc := ⟨.hbm, 128, rfl⟩
abbrev main_while0b_v111 : Ref sig .tc := ⟨.hbm, 129, rfl⟩
abbrev main_while0b_c_23 : Ref sig .tc := ⟨.hbm, 130, rfl⟩
abbrev main_while0b_v112 : Ref sig .tc := ⟨.hbm, 131, rfl⟩
abbrev main_v62 : Ref sig .tc := ⟨.hbm, 132, rfl⟩
abbrev main_v63 : Ref sig .tc := ⟨.hbm, 133, rfl⟩
abbrev main_cst_9 : Ref sig .tc := ⟨.hbm, 134, rfl⟩
abbrev main_v64 : Ref sig .tc := ⟨.hbm, 135, rfl⟩
abbrev main_v65 : Ref sig .tc := ⟨.hbm, 136, rfl⟩
abbrev main_cst_10 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_cst_11 : Ref sig .tc := ⟨.hbm, 143, rfl⟩
abbrev main_v71 : Ref sig .tc := ⟨.hbm, 144, rfl⟩
abbrev main_v72 : Ref sig .tc := ⟨.hbm, 145, rfl⟩
abbrev main_cst_12 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_cst_13 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_call5_v0 : Ref sig .tc := ⟨.hbm, 161, rfl⟩
abbrev main_call5_v1 : Ref sig .tc := ⟨.hbm, 162, rfl⟩
abbrev main_call5_cst : Ref sig .tc := ⟨.hbm, 163, rfl⟩
abbrev main_call5_v2 : Ref sig .tc := ⟨.hbm, 164, rfl⟩
abbrev main_call5_v3 : Ref sig .tc := ⟨.hbm, 165, rfl⟩
abbrev main_call5_cst_0 : Ref sig .tc := ⟨.hbm, 166, rfl⟩
abbrev main_call5_v4 : Ref sig .tc := ⟨.hbm, 167, rfl⟩
abbrev main_call5_v5 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 5
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024x4096, .f32⟩
  | .hbm, ⟨20, _⟩ => ⟨S4096x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== DiffAttn.lean ====
abbrev S136 : Shape := ⟨1, ![136]⟩
abbrev S16384x1024 : Shape := ⟨2, ![16384, 1024]⟩
abbrev S1x64 : Shape := ⟨2, ![1, 64]⟩
abbrev S1x128 : Shape := ⟨2, ![1, 128]⟩
abbrev S512x128 : Shape := ⟨2, ![512, 128]⟩
abbrev S1 : Shape := ⟨1, ![1]⟩
abbrev S2x512x1 : Shape := ⟨3, ![2, 512, 1]⟩
abbrev S2x512x128 : Shape := ⟨3, ![2, 512, 128]⟩
abbrev S512x512 : Shape := ⟨2, ![512, 512]⟩
abbrev S512x64 : Shape := ⟨2, ![512, 64]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S1x1 : Shape := ⟨2, ![1, 1]⟩

abbrev nBuf : Space → Nat
  | .hbm => 9
  | .vmem => 16
  | .smem => 2
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S512x128, .bf16⟩
  | .local _ .vmem, ⟨12, _⟩ => ⟨S512x128, .bf16⟩
  | .local _ .vmem, ⟨13, _⟩ => ⟨S2x512x1, .f32⟩
  | .local _ .vmem, ⟨14, _⟩ => ⟨S2x512x1, .f32⟩
  | .local _ .vmem, ⟨15, _⟩ => ⟨S2x512x128, .f32⟩
  | .local _ .smem, ⟨0, _⟩ => ⟨S136, .i32⟩
  | .local _ .smem, ⟨1, _⟩ => ⟨S136, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![16, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v18 : Index := Scalar.indexCast arg1
  ![v18.toNat]
def k0_cond2 (v1 : BitVec 32) (v3 : BitVec 32) : BitVec 1 :=
  let v93 : BitVec 1 := Scalar.cmpi .eq v3 v1
  let v94 : BitVec 32 := Scalar.extui v93
  let c0_i32_51 : BitVec 32 := 0#32
  let v95 : BitVec 1 := Scalar.cmpi .ne v94 c0_i32_51
  v95

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : Index := Scalar.indexCast arg1
  let v19 : BitVec 32 := pf.at 0 (Rect.unit (s := S136) ![v18.toNat] S1.size (k0_off1_inb i)) numel1_S1
  let v20 : BitVec 32 := Scalar.addi v17 v19
  let c8_i32_4 : BitVec 32 := 8#32
  let c0_i32_5 : BitVec 32 := 0#32
  let v21 : BitVec 1 := Scalar.cmpi .eq c8_i32_4 c0_i32_5
  let c1_i32_6 : BitVec 32 := 1#32
  let v22 : BitVec 32 := Scalar.select v21 c1_i32_6 c8_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  ![v20.toNat, v30.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : Index := Scalar.indexCast arg1
  let v19 : BitVec 32 := pf.at 1 (Rect.unit (s := S136) ![v18.toNat] S1.size (k0_off1_inb i)) numel1_S1
  let v20 : BitVec 32 := Scalar.addi v17 v19
  let c8_i32_4 : BitVec 32 := 8#32
  let c0_i32_5 : BitVec 32 := 0#32
  let v21 : BitVec 1 := Scalar.cmpi .eq c8_i32_4 c0_i32_5
  let c1_i32_6 : BitVec 32 := 1#32
  let v22 : BitVec 32 := Scalar.select v21 c1_i32_6 c8_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  ![v20.toNat, v30.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : Index := Scalar.indexCast arg1
  let v19 : BitVec 32 := pf.at 1 (Rect.unit (s := S136) ![v18.toNat] S1.size (k0_off1_inb i)) numel1_S1
  let v20 : BitVec 32 := Scalar.addi v17 v19
  let c8_i32_4 : BitVec 32 := 8#32
  let c0_i32_5 : BitVec 32 := 0#32
  let v21 : BitVec 1 := Scalar.cmpi .eq c8_i32_4 c0_i32_5
  let c1_i32_6 : BitVec 32 := 1#32
  let v22 : BitVec 32 := Scalar.select v21 c1_i32_6 c8_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  ![v20.toNat, v30.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.muli v16 c16_i32
  let v18 : Index := Scalar.indexCast arg1
  let v19 : BitVec 32 := pf.at 0 (Rect.unit (s := S136) ![v18.toNat] S1.size (k0_off1_inb i)) numel1_S1
  let v20 : BitVec 32 := Scalar.addi v17 v19
  let c8_i32_4 : BitVec 32 := 8#32
  let c0_i32_5 : BitVec 32 := 0#32
  let v21 : BitVec 1 := Scalar.cmpi .eq c8_i32_4 c0_i32_5
  let c1_i32_6 : BitVec 32 := 1#32
  let v22 : BitVec 32 := Scalar.select v21 c1_i32_6 c8_i32_4
  let v23 : BitVec 32 := Scalar.remsi arg0 v22
  let c0_i32_7 : BitVec 32 := 0#32
  let v24 : BitVec 1 := Scalar.cmpi .ne v23 c0_i32_7
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let v28 : BitVec 1 := Scalar.andi v27 v24
  let v29 : BitVec 32 := Scalar.addi v23 v22
  let v30 : BitVec 32 := Scalar.select v28 v29 v23
  let c0_i32_10 : BitVec 32 := 0#32
  ![v20.toNat, v30.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DiffAttnIdeal.lean ====
variable {F : FTy → Type} [FloatOps F] [Named F]
def κ : String → Option EReal := fun
  | "mask" => some ⊥
  | _ => none
-- ==== AttendIdeal.lean ====
abbrev S136 : Shape := ⟨1, ![136]⟩
abbrev S16384x1024 : Shape := ⟨2, ![16384, 1024]⟩
abbrev S1x64 : Shape := ⟨2, ![1, 64]⟩
abbrev S1x128 : Shape := ⟨2, ![1, 128]⟩
abbrev S_ : Shape := ⟨0, ![]⟩
abbrev S2x8192x8x2x64 : Shape := ⟨5, ![2, 8192, 8, 2, 64]⟩
abbrev S2x8192x8x128 : Shape := ⟨4, ![2, 8192, 8, 128]⟩
abbrev S2x8192x8x64 : Shape := ⟨4, ![2, 8192, 8, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x8192x8x1x64 : Shape := ⟨5, ![2, 8192, 8, 1, 64]⟩
abbrev S2x8x8192x8192 : Shape := ⟨4, ![2, 8, 8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩

abbrev nBuf : Space → Nat
  | .hbm => 107
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S1x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16384x1024, .f32⟩
  | .hbm, ⟨22, _⟩ => ⟨S2x8192x8x2x64, .f32⟩
  | .hbm, ⟨23, _⟩ => ⟨S16384x1024, .f32⟩
  | .hbm, ⟨24, _⟩ => ⟨S2x8192x8x128, .f32⟩
  | .hbm, ⟨25, _⟩ => ⟨S16384x1024, .f32⟩
  | .hbm, ⟨26, _⟩ => ⟨S2x8192x8x128, .f32⟩
  | .hbm, ⟨27, _⟩ => ⟨S2x8192x8x64, .f32⟩
  | .hbm, ⟨28, _⟩ => ⟨S2x8192x8x64, .f32⟩
  | .hbm, ⟨29, _⟩ => ⟨S8192, .i32⟩
  | .hbm, ⟨30, _⟩ => ⟨S1x8192, .i32⟩
  | .hbm, ⟨31, _⟩ => ⟨S8192x1, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S1x1x8192x8192, .i1⟩
  | .hbm, ⟨36, _⟩ => ⟨S2x8192x8x1x64, .f32⟩
  | .hbm, ⟨37, _⟩ => ⟨S2x8192x8x64, .f32⟩
  | .hbm, ⟨38, _⟩ => ⟨S2x8x8192x8192, .f32⟩
  | .hbm, ⟨39, _⟩ => ⟨S2x8192x8x1x64, .f32⟩
  | .hbm, ⟨40, _⟩ => ⟨S2x8192x8x64, .f32⟩
  | .hbm, ⟨41, _⟩ => ⟨S2x8x8192x8192, .f32⟩
  | .hbm, ⟨42, _⟩ => ⟨S_, .f32⟩
  | .hbm, ⟨43, _⟩ => ⟨S_, .f32⟩
  | .hbm, ⟨44, _⟩ => ⟨S2x8x8192x8192, .i1⟩
  | .hbm, ⟨45, _⟩ => ⟨S2x8x8192x8192, .f32⟩
  | .hbm, ⟨46, _⟩ => ⟨S2x8x8192x8192, .f32⟩
  | .hbm, ⟨47, _⟩ => ⟨S_, .f32⟩
  | .hbm, ⟨48, _⟩ => ⟨S2x8x8192, .f32⟩
  | .hbm, ⟨49, _⟩ => ⟨S_, .f32⟩
  | .hbm, ⟨50, _⟩ => ⟨S2x8x8192, .f32⟩
  | .hbm, ⟨51, _⟩ => ⟨S2x8x8192, .f32⟩
  | .hbm, ⟨52, _⟩ => ⟨S2x8x8192x1, .f32⟩
  | .hbm, ⟨53, _⟩ => ⟨S2x8x8192x8192, .f32⟩
  | .hbm, ⟨54, _⟩ => ⟨S2x8x8192x8192, .f32⟩
  | .hbm, ⟨55, _⟩ => ⟨S2x8x8192x8192, .f32⟩
  | .hbm, ⟨56, _⟩ => ⟨S_, .f32⟩
  | .hbm, ⟨57, _⟩ => ⟨S2x8x8192, .f32⟩
  | .hbm, ⟨58, _⟩ => ⟨S2x8x8192x1, .f32⟩
  | .hbm, ⟨59, _⟩ => ⟨S2x8x8192x8192, .f32⟩
  | .hbm, ⟨60, _⟩ => ⟨S2x8x8192x8192, .f32⟩
  | .hbm, ⟨61, _⟩ => ⟨S_, .f32⟩
  | .hbm, ⟨62, _⟩ => ⟨S_, .f32⟩
  | .hbm, ⟨63, _⟩ => ⟨S2x8x8192x8192, .i1⟩
  | .hbm, ⟨64, _⟩ => ⟨S2x8x8192x8192, .f32⟩
  | .hbm, ⟨65, _⟩ => ⟨S2x8x8192x8192, .f32⟩
  | .hbm, ⟨66, _⟩ => ⟨S_, .f32⟩
  | .hbm, ⟨67, _⟩ => ⟨S2x8x8192, .f32⟩
  | .hbm, ⟨68, _⟩ => ⟨S_, .f32⟩
  | .hbm, ⟨69, _⟩ => ⟨S2x8x8192, .f32⟩
  | .hbm, ⟨70, _⟩ => ⟨S2x8x8192, .f32⟩
  | .hbm, ⟨71, _⟩ => ⟨S2x8x8192x1, .f32⟩
  | .hbm, ⟨72, _⟩ => ⟨S2x8x8192x8192, .f32⟩
  | .hbm, ⟨73, _⟩ => ⟨S2x8x8192x8192, .f32⟩
  | .hbm, ⟨74, _⟩ => ⟨S2x8x8192x8192, .f32⟩
  | .hbm, ⟨75, _⟩ => ⟨S_, .f32⟩
  | .hbm, ⟨76, _⟩ => ⟨S2x8x8192, .f32⟩
  | .hbm, ⟨77, _⟩ => ⟨S2x8x8192x1, .f32⟩
  | .hbm, ⟨78, _⟩ => ⟨S2x8x8192x8192, .f32⟩
  | .hbm, ⟨79, _⟩ => ⟨S2x8x8192x8192, .f32⟩
  | .hbm, ⟨80, _⟩ => ⟨S2x8x8192x8192, .f32⟩
  | .hbm, ⟨81, _⟩ => ⟨S2x8x8192x8192, .f32⟩
  | .hbm, ⟨82, _⟩ => ⟨S2x8x8192x8192, .f32⟩
  | .hbm, ⟨83, _⟩ => ⟨S2x8x128x8192, .f32⟩
  | .hbm, ⟨84, _⟩ => ⟨S2x8192x8x128, .f32⟩
  | .hbm, ⟨85, _⟩ => ⟨S2x8192x8x128, .f32⟩
  | .hbm, ⟨86, _⟩ => ⟨S_, .f32⟩
  | .hbm, ⟨87, _⟩ => ⟨S2x8192x8, .f32⟩
  | .hbm, ⟨88, _⟩ => ⟨S2x8192x8x1, .f32⟩
  | .hbm, ⟨89, _⟩ => ⟨S_, .f32⟩
  | .hbm, ⟨90, _⟩ => ⟨S2x8192x8x1, .f32⟩
  | .hbm, ⟨91, _⟩ => ⟨S2x8192x8x1, .f32⟩
  | .hbm, ⟨92, _⟩ => ⟨S_, .f32⟩
  | .hbm, ⟨93, _⟩ => ⟨S2x8192x8x1, .f32⟩
  | .hbm, ⟨94, _⟩ => ⟨S2x8192x8x1, .f32⟩
  | .hbm, ⟨95, _⟩ => ⟨S2x8192x8x1, .f32⟩
  | .hbm, ⟨96, _⟩ => ⟨S2x8192x8x128, .f32⟩
  | .hbm, ⟨97, _⟩ => ⟨S2x8192x8x128, .f32⟩
  | .hbm, ⟨98, _⟩ => ⟨S128, .f32⟩
  | .hbm, ⟨99, _⟩ => ⟨S1x1x1x128, .f32⟩
  | .hbm, ⟨100, _⟩ => ⟨S2x8192x8x128, .f32⟩
  | .hbm, ⟨101, _⟩ => ⟨S2x8192x8x128, .f32⟩
  | .hbm, ⟨102, _⟩ => ⟨S_, .f32⟩
  | .hbm, ⟨103, _⟩ => ⟨S2x8192x8x128, .f32⟩
  | .hbm, ⟨104, _⟩ => ⟨S2x8192x8x128, .f32⟩
  | .hbm, ⟨105, _⟩ => ⟨S16384x1024, .f32⟩
  | .hbm, ⟨106, _⟩ => ⟨S16384x1024, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== PleMid.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EmbedIdeal.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1024x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S256x1024, .f32⟩
  | .hbm, ⟨32, _⟩ => ⟨S16384x1024, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== PleLast.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EmbedLastIdeal.lean ====
abbrev S16384x1024 : Shape := ⟨2, ![16384, 1024]⟩
abbrev S16384x256 : Shape := ⟨2, ![16384, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1024x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S256x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== RetOut.lean ====
abbrev S16384x2048 : Shape := ⟨2, ![16384, 2048]⟩
abbrev S2048x1024 : Shape := ⟨2, ![2048, 1024]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RetOutIdeal.lean ====
abbrev S16384x2048 : Shape := ⟨2, ![16384, 2048]⟩
abbrev S2048x1024 : Shape := ⟨2, ![2048, 1024]⟩
abbrev S16384x1024 : Shape := ⟨2, ![16384, 1024]⟩
abbrev S512x2048 : Shape := ⟨2, ![512, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RetMixIdeal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DiffOut.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DiffMixIdeal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RetStep.lean ====
abbrev S32x4x256x1 : Shape := ⟨4, ![32, 4, 256, 1]⟩
abbrev S32x4x1x512 : Shape := ⟨4, ![32, 4, 1, 512]⟩
abbrev S32x4x256x512 : Shape := ⟨4, ![32, 4, 256, 512]⟩
abbrev S4 : Shape := ⟨1, ![4]⟩
abbrev S_ : Shape := ⟨0, ![]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4x1 : Shape := ⟨2, ![4, 1]⟩
abbrev S1x1x256x1 : Shape := ⟨4, ![1, 1, 256, 1]⟩
abbrev S1x1x1x512 : Shape := ⟨4, ![1, 1, 1, 512]⟩
abbrev S1x1x256x512 : Shape := ⟨4, ![1, 1, 256, 512]⟩
abbrev S256x1 : Shape := ⟨2, ![256, 1]⟩
abbrev S1x512 : Shape := ⟨2, ![1, 512]⟩
abbrev S256x512 : Shape := ⟨2, ![256, 512]⟩
abbrev S512 : Shape := ⟨1, ![512]⟩

abbrev nBuf : Space → Nat
  | .hbm => 60
  | .vmem => 14
  | .smem => 1
  | _ => 0

abbrev bufTy : (tb : Table) → Fin (tcTables nBuf tb) → BufTy
  | .hbm, ⟨0, _⟩ => ⟨S32x4x256x1, .f32⟩
  | .hbm, ⟨1, _⟩ => ⟨S32x4x256x1, .f32⟩
  | .hbm, ⟨2, _⟩ => ⟨S32x4x1x512, .f32⟩
  | .hbm, ⟨3, _⟩ => ⟨S32x4x1x512, .f32⟩
  | .hbm, ⟨4, _⟩ => ⟨S32x4x256x512, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1x1x1, .f32⟩
  | .hbm, ⟨20, _⟩ => ⟨S_, .f32⟩
  | .hbm, ⟨21, _⟩ => ⟨S1x1x1, .f32⟩
  | .hbm, ⟨22, _⟩ => ⟨S1x1x1, .i1⟩
  | .hbm, ⟨23, _⟩ => ⟨S4x1x1, .f32⟩
  | .hbm, ⟨24, _⟩ => ⟨S_, .f32⟩
  | .hbm, ⟨25, _⟩ => ⟨S1x1, .f32⟩
  | .hbm, ⟨26, _⟩ => ⟨S1x1, .f32⟩
  | .hbm, ⟨27, _⟩ => ⟨S1x1x1, .f32⟩
  | .hbm, ⟨28, _⟩ => ⟨S4x1x1, .f32⟩
  | .hbm, ⟨29, _⟩ => ⟨S4x1x1, .f32⟩
  | .hbm, ⟨30, _⟩ => ⟨S4x1x1, .f32⟩
  | .hbm, ⟨31, _⟩ => ⟨S_, .f32⟩
  | .hbm, ⟨32, _⟩ => ⟨S_, .f32⟩
  | .hbm, ⟨33, _⟩ => ⟨S4x1x1, .i1⟩
  | .hbm, ⟨34, _⟩ => ⟨S4x1x1, .f32⟩
  | .hbm, ⟨35, _⟩ => ⟨S4x1x1, .f32⟩
  | .hbm, ⟨36, _⟩ => ⟨S4x1, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S1x1, .f32⟩
  | .hbm, ⟨41, _⟩ => ⟨S4x1, .f32⟩
  | .hbm, ⟨42, _⟩ => ⟨S4x1, .f32⟩
  | .hbm, ⟨43, _⟩ => ⟨S4x1, .f32⟩
  | .hbm, ⟨44, _⟩ => ⟨S4x1x1, .f32⟩
  | .hbm, ⟨45, _⟩ => ⟨S4x1, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S1x1, .f32⟩
  | .hbm, ⟨50, _⟩ => ⟨S4x1, .f32⟩
  | .hbm, ⟨51, _⟩ => ⟨S4x1, .f32⟩
  | .hbm, ⟨52, _⟩ => ⟨S4x1, .f32⟩
  | .hbm, ⟨53, _⟩ => ⟨S4x1x1, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S32x4x1x512, .bf16⟩
  | .hbm, ⟨59, _⟩ => ⟨S32x4x256x512, .f32⟩
  | .local _ .vmem, ⟨0, _⟩ => ⟨S1x1x256x1, .f32⟩
  | .local _ .vmem, ⟨1, _⟩ => ⟨S1x1x256x1, .f32⟩
  | .local _ .vmem, ⟨2, _⟩ => ⟨S1x1x256x1, .f32⟩
  | .local _ .vmem, ⟨3, _⟩ => ⟨S1x1x256x1, .f32⟩
  | .local _ .vmem, ⟨4, _⟩ => ⟨S1x1x1x512, .f32⟩
  | .local _ .vmem, ⟨5, _⟩ => ⟨S1x1x1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x256x512, .f32⟩
  | .local _ .vmem, ⟨9, _⟩ => ⟨S1x1x256x512, .f32⟩
  | .local _ .vmem, ⟨10, _⟩ => ⟨S1x1x1x512, .bf16⟩
  | .local _ .vmem, ⟨11, _⟩ => ⟨S1x1x1x512, .bf16⟩
  | .local _ .vmem, ⟨12, _⟩ => ⟨S1x1x256x512, .f32⟩
  | .local _ .vmem, ⟨13, _⟩ => ⟨S1x1x256x512, .f32⟩
  | .local _ .smem, ⟨0, _⟩ => ⟨S4, .f32⟩
  | _, _ => ⟨S32x4x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 4], ![false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StepRefIdeal.lean ====
abbrev S32x4x256x1 : Shape := ⟨4, ![32, 4, 256, 1]⟩
abbrev S32x4x1x512 : Shape := ⟨4, ![32, 4, 1, 512]⟩
abbrev S32x4x256x512 : Shape := ⟨4, ![32, 4, 256, 512]⟩
abbrev S32x4x256 : Shape := ⟨3, ![32, 4, 256]⟩
abbrev S32x4x512 : Shape := ⟨3, ![32, 4, 512]⟩
abbrev S4 : Shape := ⟨1, ![4]⟩
abbrev S_ : Shape := ⟨0, ![]⟩
abbrev S1x4x1 : Shape := ⟨3, ![1, 4, 1]⟩
abbrev S32x4 : Shape := ⟨2, ![32, 4]⟩
abbrev S32x4x1 : Shape := ⟨3, ![32, 4, 1]⟩
abbrev S1x4x1x1 : Shape := ⟨4, ![1, 4, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S32x4x256x1, .f32⟩
  | .hbm, ⟨1, _⟩ => ⟨S32x4x256x1, .f32⟩
  | .hbm, ⟨2, _⟩ => ⟨S32x4x1x512, .f32⟩
  | .hbm, ⟨3, _⟩ => ⟨S32x4x1x512, .f32⟩
  | .hbm, ⟨4, _⟩ => ⟨S32x4x256x512, .f32⟩
  | .hbm, ⟨5, _⟩ => ⟨S32x4x256, .f32⟩
  | .hbm, ⟨6, _⟩ => ⟨S32x4x256, .f32⟩
  | .hbm, ⟨7, _⟩ => ⟨S32x4x512, .f32⟩
  | .hbm, ⟨8, _⟩ => ⟨S32x4x512, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S1x4x1, .f32⟩
  | .hbm, ⟨21, _⟩ => ⟨S32x4x256, .f32⟩
  | .hbm, ⟨22, _⟩ => ⟨S_, .f32⟩
  | .hbm, ⟨23, _⟩ => ⟨S32x4, .f32⟩
  | .hbm, ⟨24, _⟩ => ⟨S32x4x1, .f32⟩
  | .hbm, ⟨25, _⟩ => ⟨S32x4x512, .f32⟩
  | .hbm, ⟨26, _⟩ => ⟨S32x4x512, .f32⟩
  | .hbm, ⟨27, _⟩ => ⟨S32x4x512, .f32⟩
  | .hbm, ⟨28, _⟩ => ⟨S32x4x512, .f32⟩
  | .hbm, ⟨29, _⟩ => ⟨S32x4x512, .f32⟩
  | .hbm, ⟨30, _⟩ => ⟨S32x4x512, .f32⟩
  | .hbm, ⟨31, _⟩ => ⟨S1x4x1x1, .f32⟩
  | .hbm, ⟨32, _⟩ => ⟨S32x4x256x512, .f32⟩
  | .hbm, ⟨33, _⟩ => ⟨S32x4x256x512, .f32⟩
  | .hbm, ⟨34, _⟩ => ⟨S32x4x256x1, .f32⟩
  | .hbm, ⟨35, _⟩ => ⟨S32x4x1x512, .f32⟩
  | .hbm, ⟨36, _⟩ => ⟨S32x4x256x512, .f32⟩
  | .hbm, ⟨37, _⟩ => ⟨S32x4x256x512, .f32⟩
  | .hbm, ⟨38, _⟩ => ⟨S32x4x256x512, .f32⟩
  | .hbm, ⟨39, _⟩ => ⟨S32x4x256x512, .f32⟩
  | .hbm, ⟨40, _⟩ => ⟨S_, .f32⟩
  | .hbm, ⟨41, _⟩ => ⟨S32x4, .f32⟩
  | .hbm, ⟨42, _⟩ => ⟨S32x4x1, .f32⟩
  | .hbm, ⟨43, _⟩ => ⟨S_, .f32⟩
  | .hbm, ⟨44, _⟩ => ⟨S32x4x1, .f32⟩
  | .hbm, ⟨45, _⟩ => ⟨S32x4x1, .f32⟩
  | .hbm, ⟨46, _⟩ => ⟨S32x4x512, .f32⟩
  | .hbm, ⟨47, _⟩ => ⟨S32x4x512, .f32⟩
  | .hbm, ⟨48, _⟩ => ⟨S32x4x512, .f32⟩
  | .hbm, ⟨49, _⟩ => ⟨S_, .f32⟩
  | .hbm, ⟨50, _⟩ => ⟨S32x4, .f32⟩
  | .hbm, ⟨51, _⟩ => ⟨S32x4x1, .f32⟩
  | .hbm, ⟨52, _⟩ => ⟨S_, .f32⟩
  | .hbm, ⟨53, _⟩ => ⟨S32x4x1, .f32⟩
  | .hbm, ⟨54, _⟩ => ⟨S32x4x1, .f32⟩
  | .hbm, ⟨55, _⟩ => ⟨S32x4x512, .f32⟩
  | .hbm, ⟨56, _⟩ => ⟨S32x4x512, .f32⟩
  | .hbm, ⟨57, _⟩ => ⟨S_, .f32⟩
  | .hbm, ⟨58, _⟩ => ⟨S32x4x1, .f32⟩
  | .hbm, ⟨59, _⟩ => ⟨S32x4x1, .f32⟩
  | .hbm, ⟨60, _⟩ => ⟨S32x4x1, .f32⟩
  | .hbm, ⟨61, _⟩ => ⟨S32x4x512, .f32⟩
  | .hbm, ⟨62, _⟩ => ⟨S32x4x512, .f32⟩
  | .hbm, ⟨63, _⟩ => ⟨S32x4x512, .f32⟩
  | .hbm, ⟨64, _⟩ => ⟨S32x4x512, .f32⟩
  | .hbm, ⟨65, _⟩ => ⟨S_, .f32⟩
  | .hbm, ⟨66, _⟩ => ⟨S32x4x512, .f32⟩
  | .hbm, ⟨67, _⟩ => ⟨S32x4x512, .f32⟩
  | .hbm, ⟨68, _⟩ => ⟨S_, .f32⟩
  | .hbm, ⟨69, _⟩ => ⟨S32x4x512, .f32⟩
  | .hbm, ⟨70, _⟩ => ⟨S32x4x512, .f32⟩
  | .hbm, ⟨71, _⟩ => ⟨S32x4x512, .f32⟩
  | .hbm, ⟨72, _⟩ => ⟨S32x4x512, .f32⟩
  | .hbm, ⟨73, _⟩ => ⟨S32x4x512, .bf16⟩
  | .hbm, ⟨74, _⟩ => ⟨S32x4x1x512, .bf16⟩
  | _, _ => ⟨S32x4x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== RetProj.lean ====
abbrev S16384x1024 : Shape := ⟨2, ![16384, 1024]⟩
abbrev S1x1024 : Shape := ⟨2, ![1, 1024]⟩
abbrev S1024x6144 : Shape := ⟨2, ![1024, 6144]⟩
abbrev S_ : Shape := ⟨0, ![]⟩
abbrev S127 : Shape := ⟨1, ![127]⟩
abbrev S1 : Shape := ⟨1, ![1]⟩
abbrev S128 : Shape := ⟨1, ![128]⟩
abbrev S128x2 : Shape := ⟨2, ![128, 2]⟩
abbrev S256 : Shape := ⟨1, ![256]⟩
abbrev S8192 : Shape := ⟨1, ![8192]⟩
abbrev S8192x1 : Shape := ⟨2, ![8192, 1]⟩
abbrev S1x256 : Shape := ⟨2, ![1, 256]⟩
abbrev S8192x256 : Shape := ⟨2, ![8192, 256]⟩
abbrev S1x8192x1x256 : Shape := ⟨4, ![1, 8192, 1, 256]⟩
abbrev S1x8192x2x256 : Shape := ⟨4, ![1, 8192, 2, 256]⟩
abbrev S8192x512 : Shape := ⟨2, ![8192, 512]⟩
abbrev S16384x6144 : Shape := ⟨2, ![16384, 6144]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 87
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6144, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S127, .f32⟩
  | .hbm, ⟨11, _⟩ => ⟨S_, .f32⟩
  | .hbm, ⟨12, _⟩ => ⟨S127, .f32⟩
  | .hbm, ⟨13, _⟩ => ⟨S127, .f32⟩
  | .hbm, ⟨14, _⟩ => ⟨S1, .f32⟩
  | .hbm, ⟨15, _⟩ => ⟨S_, .f32⟩
  | .hbm, ⟨16, _⟩ => ⟨S127, .f32⟩
  | .hbm, ⟨17, _⟩ => ⟨S127, .f32⟩
  | .hbm, ⟨18, _⟩ => ⟨S127, .f32⟩
  | .hbm, ⟨19, _⟩ => ⟨S127, .f32⟩
  | .hbm, ⟨20, _⟩ => ⟨S1, .f32⟩
  | .hbm, ⟨21, _⟩ => ⟨S127, .f32⟩
  | .hbm, ⟨22, _⟩ => ⟨S127, .f32⟩
  | .hbm, ⟨23, _⟩ => ⟨S127, .f32⟩
  | .hbm, ⟨24, _⟩ => ⟨S1, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128x2, .f32⟩
  | .hbm, ⟨33, _⟩ => ⟨S256, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S1x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S256, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S_, .i32⟩
  | .hbm, ⟨53, _⟩ => ⟨S256, .i32⟩
  | .hbm, ⟨54, _⟩ => ⟨S256, .i1⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S_, .i32⟩
  | .hbm, ⟨59, _⟩ => ⟨S_, .i1⟩
  | .hbm, ⟨60, _⟩ => ⟨S256, .i1⟩
  | .hbm, ⟨61, _⟩ => ⟨S256, .i1⟩
  | .hbm, ⟨62, _⟩ => ⟨S256, .i1⟩
  | .hbm, ⟨63, _⟩ => ⟨S256, .i32⟩
  | .hbm, ⟨64, _⟩ => ⟨S256, .i32⟩
  | .hbm, ⟨65, _⟩ => ⟨S256, .i32⟩
  | .hbm, ⟨66, _⟩ => ⟨S_, .i32⟩
  | .hbm, ⟨67, _⟩ => ⟨S256, .i32⟩
  | .hbm, ⟨68, _⟩ => ⟨S256, .i1⟩
  | .hbm, ⟨69, _⟩ => ⟨S_, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S256, .f32⟩
  | .hbm, ⟨74, _⟩ => ⟨S256, .f32⟩
  | .hbm, ⟨75, _⟩ => ⟨S8192x256, .f32⟩
  | .hbm, ⟨76, _⟩ => ⟨S1x8192x1x256, .f32⟩
  | .hbm, ⟨77, _⟩ => ⟨S1x8192x2x256, .f32⟩
  | .hbm, ⟨78, _⟩ => ⟨S8192x512, .f32⟩
  | .hbm, ⟨79, _⟩ => ⟨S8192x256, .f32⟩
  | .hbm, ⟨80, _⟩ => ⟨S1x256, .f32⟩
  | .hbm, ⟨81, _⟩ => ⟨S8192x256, .f32⟩
  | .hbm, ⟨82, _⟩ => ⟨S8192x256, .f32⟩
  | .hbm, ⟨83, _⟩ => ⟨S1x8192x1x256, .f32⟩
  | .hbm, ⟨84, _⟩ => ⟨S1x8192x2x256, .f32⟩
  | .hbm, ⟨85, _⟩ => ⟨S8192x512, .f32⟩
  | .hbm, ⟨86, _⟩ => ⟨S16384x6144, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .bf16⟩
  | .local _ .vmem, ⟨10, _⟩ => ⟨S1024x512, .bf16⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v0 : Ref sig .tc := ⟨.hbm, 25, rfl⟩
abbrev main_cst_1 : Ref sig .tc := ⟨.hbm, 26, rfl⟩
abbrev main_v1 : Ref sig .tc := ⟨.hbm, 27, rfl⟩
abbrev main_v2 : Ref sig .tc := ⟨.hbm, 28, rfl⟩
abbrev main_cst_2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_3 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v16 : Ref sig .tc := ⟨.hbm, 65, rfl⟩
abbrev main_c_4 : Ref sig .tc := ⟨.hbm, 66, rfl⟩
abbrev main_v17 : Ref sig .tc := ⟨.hbm, 67, rfl⟩
abbrev main_v18 : Ref sig .tc := ⟨.hbm, 68, rfl⟩
abbrev main_cst_5 : Ref sig .tc := ⟨.hbm, 69, rfl⟩
abbrev main_cst_6 : Ref sig .tc := ⟨.hbm, 70, rfl⟩
abbrev main_call2_v0 : Ref sig .tc := ⟨.hbm, 71, rfl⟩
abbrev main_call2_v1 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 12], ![false, false]⟩

def k0_cond2 (i : grid0.Coords) : BitVec 1 :=
  let arg1 : BitVec 32 := BitVec.ofNat 32 (i 1).val
  let c4_i32 : BitVec 32 := 4#32
  let v6 : BitVec 1 := Scalar.cmpi .slt arg1 c4_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c4_i32_5 : BitVec 32 := 4#32
  let v9 : BitVec 1 := Scalar.cmpi .sge arg1 c4_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RotatedIdeal.lean ====
abbrev S16384x1024 : Shape := ⟨2, ![16384, 1024]⟩
abbrev S1x1024 : Shape := ⟨2, ![1, 1024]⟩
abbrev S1024x6144 : Shape := ⟨2, ![1024, 6144]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩
abbrev S2x8192x4x256 : Shape := ⟨4, ![2, 8192, 4, 256]⟩
abbrev S127 : Shape := ⟨1, ![127]⟩
abbrev S1 : Shape := ⟨1, ![1]⟩
abbrev S128 : Shape := ⟨1, ![128]⟩
abbrev S128x2 : Shape := ⟨2, ![128, 2]⟩
abbrev S256 : Shape := ⟨1, ![256]⟩
abbrev S8192 : Shape := ⟨1, ![8192]⟩
abbrev S8192x1 : Shape := ⟨2, ![8192, 1]⟩
abbrev S1x256 : Shape := ⟨2, ![1, 256]⟩
abbrev S8192x256 : Shape := ⟨2, ![8192, 256]⟩
abbrev S1x8192x1x256 : Shape := ⟨4, ![1, 8192, 1, 256]⟩
abbrev S2x8192x4x128 : Shape := ⟨4, ![2, 8192, 4, 128]⟩
abbrev S2x8192x4x128x1 : Shape := ⟨5, ![2, 8192, 4, 128, 1]⟩
abbrev S2x8192x4x128x2 : Shape := ⟨5, ![2, 8192, 4, 128, 2]⟩
abbrev S16384x4096 : Shape := ⟨2, ![16384, 4096]⟩

abbrev nBuf : Space → Nat
  | .hbm => 144
  | .vmem => 0
  | .smem => 0
  | _ => 0

abbrev hbmTy0_0 (i : Nat) : BufTy := match i % 128 with
  | 0 => ⟨S16384x1024, .f32⟩
  | 1 => ⟨S1x1024, .f32⟩
  | 2 => ⟨S1024x6144, .bf16⟩
  | 3 => ⟨S16384x1024, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x1024, .f32⟩
  | 15 => ⟨S16384x1024, .f32⟩
  | 16 => ⟨S16384x1024, .f32⟩
  | 17 => ⟨S16384x1024, .f32⟩
  | 18 => ⟨S1024x6144, .f32⟩
  | 19 => ⟨S16384x6144, .f32⟩
  | 20 => ⟨S16384x1024, .f32⟩
  | 21 => ⟨S2x8192x4x256, .f32⟩
  | 22 => ⟨S16384x1024, .f32⟩
  | 23 => ⟨S2x8192x4x256, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S127, .f32⟩
  | 32 => ⟨S_, .f32⟩
  | 33 => ⟨S127, .f32⟩
  | 34 => ⟨S127, .f32⟩
  | 35 => ⟨S1, .f32⟩
  | 36 => ⟨S_, .f32⟩
  | 37 => ⟨S127, .f32⟩
  | 38 => ⟨S127, .f32⟩
  | 39 => ⟨S127, .f32⟩
  | 40 => ⟨S127, .f32⟩
  | 41 => ⟨S1, .f32⟩
  | 42 => ⟨S127, .f32⟩
  | 43 => ⟨S127, .f32⟩
  | 44 => ⟨S127, .f32⟩
  | 45 => ⟨S1, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S128x2, .f32⟩
  | 54 => ⟨S256, .f32⟩
  | 55 => ⟨S8192, .f32⟩
  | 56 => ⟨S_, .f32⟩
  | 57 => ⟨S8192, .f32⟩
  | 58 => ⟨S8192, .f32⟩
  | 59 => ⟨S8192x1, .f32⟩
  | 60 => ⟨S1x256, .f32⟩
  | 61 => ⟨S8192x256, .f32⟩
  | 62 => ⟨S8192x256, .f32⟩
  | 63 => ⟨S8192x256, .f32⟩
  | 64 => ⟨S8192x256, .f32⟩
  | 65 => ⟨S1x8192x1x256, .f32⟩
  | 66 => ⟨S8192x256, .f32⟩
  | 67 => ⟨S1x8192x1x256, .f32⟩
  | 68 => ⟨S2x8192x4x128, .f32⟩
  | 69 => ⟨S2x8192x4x128, .f32⟩
  | 70 => ⟨S2x8192x4x128, .f32⟩
  | 71 => ⟨S2x8192x4x128x1, .f32⟩
  | 72 => ⟨S2x8192x4x128x1, .f32⟩
  | 73 => ⟨S2x8192x4x128x2, .f32⟩
  | 74 => ⟨S2x8192x4x256, .f32⟩
  | 75 => ⟨S2x8192x4x256, .f32⟩
  | 76 => ⟨S2x8192x4x256, .f32⟩
  | 77 => ⟨S2x8192x4x256, .f32⟩
  | 78 => ⟨S2x8192x4x256, .f32⟩
  | 79 => ⟨S2x8192x4x256, .f32⟩
  | 80 => ⟨S16384x1024, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S127, .f32⟩
  | 89 => ⟨S_, .f32⟩
  | 90 => ⟨S127, .f32⟩
  | 91 => ⟨S127, .f32⟩
  | 92 => ⟨S1, .f32⟩
  | 93 => ⟨S_, .f32⟩
  | 94 => ⟨S127, .f32⟩
  | 95 => ⟨S127, .f32⟩
  | 96 => ⟨S127, .f32⟩
  | 97 => ⟨S127, .f32⟩
  | 98 => ⟨S1, .f32⟩
  | 99 => ⟨S127, .f32⟩
  | 100 => ⟨S127, .f32⟩
  | 101 => ⟨S127, .f32⟩
  | 102 => ⟨S1, .f32⟩
  | 103 => ⟨S128, .f32⟩
  | 104 => ⟨S_, .f32⟩
  | 105 => ⟨S128, .f32⟩
  | 106 => ⟨S128, .f32⟩
  | 107 => ⟨S_, .f32⟩
  | 108 => ⟨S128, .f32⟩
  | 109 => ⟨S128, .f32⟩
  | 110 => ⟨S128x2, .f32⟩
  | 111 => ⟨S256, .f32⟩
  | 112 => ⟨S8192, .f32⟩
  | 113 => ⟨S_, .f32⟩
  | 114 => ⟨S8192, .f32⟩
  | 115 => ⟨S8192, .f32⟩
  | 116 => ⟨S8192x1, .f32⟩
  | 117 => ⟨S1x256, .f32⟩
  | 118 => ⟨S8192x256, .f32⟩
  | 119 => ⟨S8192x256, .f32⟩
  | 120 => ⟨S8192x256, .f32⟩
  | 121 => ⟨S8192x256, .f32⟩
  | 122 => ⟨S1x8192x1x256, .f32⟩
  | 123 => ⟨S8192x256, .f32⟩
  | 124 => ⟨S1x8192x1x256, .f32⟩
  | 125 => ⟨S2x8192x4x128, .f32⟩
  | 126 => ⟨S2x8192x4x128, .f32⟩
  | 127 => ⟨S2x8192x4x128, .f32⟩
  | _ => ⟨S16384x1024, .f32⟩

abbrev hbmTy0_1 (i : Nat) : BufTy := match i % 128 with
  | 0 => ⟨S2x8192x4x128x1, .f32⟩
  | 1 => ⟨S2x8192x4x128x1, .f32⟩
  | 2 => ⟨S2x8192x4x128x2, .f32⟩
  | 3 => ⟨S2x8192x4x256, .f32⟩
  | 4 => ⟨S2x8192x4x256, .f32⟩
  | 5 => ⟨S2x8192x4x256, .f32⟩
  | 6 => ⟨S2x8192x4x256, .f32⟩
  | 7 => ⟨S2x8192x4x256, .f32⟩
  | 8 => ⟨S2x8192x4x256, .f32⟩
  | 9 => ⟨S_, .f32⟩
  | 10 => ⟨S2x8192x4x256, .f32⟩
  | 11 => ⟨S2x8192x4x256, .f32⟩
  | 12 => ⟨S16384x1024, .f32⟩
  | 13 => ⟨S16384x4096, .f32⟩
  | 14 => ⟨S16384x6144, .f32⟩
  | 15 => ⟨S16384x6144, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_cst : Ref sig .tc := ⟨.hbm, 29, rfl⟩
abbrev main_call0_v3 : Ref sig .tc := ⟨.hbm, 30, rfl⟩
abbrev main_call0_v4 : Ref sig .tc := ⟨.hbm, 31, rfl⟩
abbrev main_call0_cst_0 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_v15 : Ref sig .tc := ⟨.hbm, 44, rfl⟩
abbrev main_call0_v16 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_cst_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_7 : Ref sig .tc := ⟨.hbm, 81, rfl⟩
abbrev main_cst_8 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_cst : Ref sig .tc := ⟨.hbm, 86, rfl⟩
abbrev main_call1_v3 : Ref sig .tc := ⟨.hbm, 87, rfl⟩
abbrev main_call1_v4 : Ref sig .tc := ⟨.hbm, 88, rfl⟩
abbrev main_call1_cst_0 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_call1_v15 : Ref sig .tc := ⟨.hbm, 101, rfl⟩
abbrev main_call1_v16 : Ref sig .tc := ⟨.hbm, 102, rfl⟩
abbrev main_v50 : Ref sig .tc := ⟨.hbm, 103, rfl⟩
abbrev main_cst_9 : Ref sig .tc := ⟨.hbm, 104, rfl⟩
abbrev main_v51 : Ref sig .tc := ⟨.hbm, 105, rfl⟩
abbrev main_v52 : Ref sig .tc := ⟨.hbm, 106, rfl⟩
abbrev main_cst_10 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_cst_11 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_12 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩

abbrev nD : Nat := 1
abbrev τ : Topo := Topo.v7x

variable {F : FTy → Type} [FloatOps F]
-- ==== Proof.MixValue.lean ====
/-
  What the output projection of a mixer leaves in its result array, at both of its widths: the rows plus the product of
  the mixed values with the projection, 512 rows at a time.
-/
module

public import proofs.«01_k».proof.Proof.Gen.RetOutIdeal.Frame
public import proofs.«01_k».proof.Proof.Gen.RetMixIdeal.Read
public import proofs.«01_k».proof.Proof.Gen.DiffOutIdeal.Frame
public import proofs.«01_k».proof.Proof.Gen.DiffMixIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RetOutIdeal.Hand

open Cert.RetOutIdeal Cert.RetOutIdeal.Gen

variable (m : (ℓ : Loc nD τ sig) → Buf (Elt Ideal) ℓ)

/-- The block each window is on at grid point `t`. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- One block of rows: the rows plus the product. -/
theorem mix_apply (y : Vec Ideal S512x1024 .f32) (a : Vec Ideal S512x2048 .bf16) (w : Vec Ideal S2048x1024 .bf16)
    (j : S512x1024.Idx) : k0_pay1 y a w j = y j + ∑ k : Fin 2048, a (ix2 (j 0) k) * w (ix2 k (j 1)) := by
  pointwise [k0_pay1]

open Cert.RetMixIdeal.Read in
/-- The formula of the layer at a row and a column. -/
theorem ref_apply (A : FVec Ideal S16384x2048 .bf16) (W : FVec Ideal S2048x1024 .bf16) (Y : FVec Ideal S16384x1024 .f32)
    (j : S16384x1024.Idx) : val_main_v3 (F := Ideal) A W Y j = Y j + ∑ k : Fin 2048, A (ix2 (j 0) k) * W (ix2 k (j 1)) := by
  pointwise [val_main_v3, val_main_v2, val_main_v1, val_main_v0]

/-- What a grid point leaves is that function of its three blocks. -/
theorem out_eq (a : Vec Ideal S512x2048 .bf16) (w : Vec Ideal S2048x1024 .bf16) (y : Vec Ideal S512x1024 .f32) :
    out0_3 a w y = k0_pay1 y a w := by
  frame_out

/-- The call's result array is the layer's formula of its arguments. -/
theorem final (c : Dev nD) : (dats m 0 c).arrAt 3 cfg0.N
    = Cert.RetMixIdeal.Read.val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3, out_eq, mix_apply, ref_apply]
  refine congrArg₂ (· + ·) ?_ (Finset.sum_congr rfl fun k _ => congrArg₂ (· * ·) ?_ ?_) <;> blk_ext [iblk, V, idx t]

end Cert.RetOutIdeal.Hand

namespace Cert.DiffOutIdeal.Hand

open Cert.DiffOutIdeal Cert.DiffOutIdeal.Gen

variable (m : (ℓ : Loc nD τ sig) → Buf (Elt Ideal) ℓ)

/-- The block each window is on at grid point `t`. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- One block of rows: the rows plus the product. -/
theorem mix_apply (y : Vec Ideal S512x1024 .f32) (a : Vec Ideal S512x1024 .bf16) (w : Vec Ideal S1024x1024 .bf16)
    (j : S512x1024.Idx) : k0_pay1 y a w j = y j + ∑ k : Fin 1024, a (ix2 (j 0) k) * w (ix2 k (j 1)) := by
  pointwise [k0_pay1]

open Cert.DiffMixIdeal.Read in
/-- The formula of the layer at a row and a column. -/
theorem ref_apply (A : FVec Ideal S16384x1024 .bf16) (W : FVec Ideal S1024x1024 .bf16) (Y : FVec Ideal S16384x1024 .f32)
    (j : S16384x1024.Idx) : val_main_v3 (F := Ideal) A W Y j = Y j + ∑ k : Fin 1024, A (ix2 (j 0) k) * W (ix2 k (j 1)) := by
  pointwise [val_main_v3, val_main_v2, val_main_v1, val_main_v0]

/-- What a grid point leaves is that function of its three blocks. -/
theorem out_eq (a : Vec Ideal S512x1024 .bf16) (w : Vec Ideal S1024x1024 .bf16) (y : Vec Ideal S512x1024 .f32) :
    out0_3 a w y = k0_pay1 y a w := by
  frame_out

/-- The call's result array is the layer's formula of its arguments. -/
theorem final (c : Dev nD) : (dats m 0 c).arrAt 3 cfg0.N
    = Cert.DiffMixIdeal.Read.val_main_v3 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3, out_eq, mix_apply, ref_apply]
  refine congrArg₂ (· + ·) ?_ (Finset.sum_congr rfl fun k _ => congrArg₂ (· * ·) ?_ ?_) <;> blk_ext [iblk, V, idx t]

end Cert.DiffOutIdeal.Hand

end
-- ==== Proof.EmbedValue.lean ====
/-
  What the per-layer embedding call leaves in its result array, inside the stack and at its last layer: the rows plus
  the gated projection of the embedding, and at the last layer the normalisation of that.
-/
module

public import proofs.«01_k».proof.Proof.Gen.PleMidIdeal.Frame
public import proofs.«01_k».proof.Proof.Gen.EmbedIdeal.Read
public import proofs.«01_k».proof.Proof.Gen.PleLastIdeal.Frame
public import proofs.«01_k».proof.Proof.Gen.EmbedLastIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Embed

/-- A row over the root of its mean square, times the gain. -/
def normed (y g : Fin 1024 → EReal) (x : Fin 1024) : EReal :=
  y x * Ideal.rsqrt (Ideal.div (∑ x : Fin 1024, y x * y x) (Ideal.ofBits FTy.f32 1149239296#32) + Ideal.ofBits FTy.f32 897988541#32) * g x

/-- A row plus the gated projection of its embedding. -/
def embed (y : Fin 1024 → EReal) (p : Fin 256 → EReal) (g : Fin 1024 → EReal) (wg : Fin 1024 → Fin 1024 → EReal)
    (wp : Fin 256 → Fin 1024 → EReal) (x : Fin 1024) : EReal :=
  y x + Ideal.logistic (∑ k, normed y g k * wg k x) * ∑ k, p k * wp k x

theorem embed_congr {y y' g g' : Fin 1024 → EReal} {p p' : Fin 256 → EReal} {wg wg' : Fin 1024 → Fin 1024 → EReal}
    {wp wp' : Fin 256 → Fin 1024 → EReal} {x x' : Fin 1024} (hy : ∀ k, y k = y' k) (hp : ∀ k, p k = p' k)
    (hg : ∀ k, g k = g' k) (hwg : ∀ i k, wg i k = wg' i k) (hwp : ∀ i k, wp i k = wp' i k) (hx : x = x') :
    embed y p g wg wp x = embed y' p' g' wg' wp' x' := by
  rw [funext hy, funext hp, funext hg, funext fun i => funext (hwg i), funext fun i => funext (hwp i), hx]

theorem normed_congr {y y' g g' : Fin 1024 → EReal} {x x' : Fin 1024} (hy : ∀ k, y k = y' k) (hg : ∀ k, g k = g' k)
    (hx : x = x') : normed y g x = normed y' g' x' := by
  rw [funext hy, funext hg, hx]

end Cert.Embed

namespace Cert.PleMidIdeal.Hand

open Cert.PleMidIdeal Cert.PleMidIdeal.Gen Cert.Embed

variable (m : (ℓ : Loc nD τ sig) → Buf (Elt Ideal) ℓ)

/-- The block each window is on at grid point `t`. -/
theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![t.val, 0] :=
  (by decide +kernel : ∀ t : Fin grid0.N, _)

/-- One block of rows at a row and a column. -/
theorem pay_apply (y : Vec Ideal S512x1024 .f32) (p : Vec Ideal S512x256 .f32) (g : Vec Ideal S1x1024 .f32)
    (wg : Vec Ideal S1024x1024 .bf16) (wp : Vec Ideal S256x1024 .bf16) (a : Fin 512) (b : Fin 1024) :
    k0_pay1 y g wg p wp (ix2 a b) = embed (fun x => y (ix2 a x)) (fun x => p (ix2 a x)) (fun x => g (ix2 0 x)) (fun k x => wg (ix2 k x))
      (fun k x => wp (ix2 k x)) b := by
  pointwise [k0_pay1, embed, normed, Ideal.logistic]

open Cert.EmbedIdeal.Read in
/-- The formula of the layer at a row and a column. -/
theorem ref_apply (y : FVec Ideal S16384x1024 .f32) (p : FVec Ideal S16384x256 .f32) (g : FVec Ideal S1x1024 .f32)
    (wg : FVec Ideal S1024x1024 .bf16) (wp : FVec Ideal S256x1024 .bf16) (j : S16384x1024.Idx) :
    val_main_v23 (F := Ideal) y p g wg wp j = embed (fun x => y (ix2 (j 0) x)) (fun x => p (ix2 (j 0) x)) (fun x => g (ix2 0 x)) (fun k x => wg (ix2 k x))
      (fun k x => wp (ix2 k x)) (j 1) := by
  obtain ⟨a, b, rfl⟩ : ∃ a b, j = ix2 a b := ⟨j 0, j 1, eq_ix2 j⟩
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, embed, normed, Ideal.logistic]

/-- What a grid point leaves is that function of its blocks. -/
theorem out_eq (y : Vec Ideal S512x1024 .f32) (p : Vec Ideal S512x256 .f32) (g : Vec Ideal S1x1024 .f32)
    (wg : Vec Ideal S1024x1024 .bf16) (wp : Vec Ideal S256x1024 .bf16) (fn : Vec Ideal S1x1024 .f32) :
    out0_6 y p g wg wp fn = k0_pay1 y g wg p wp := by
  frame_out

/-- The call's result array is the layer's formula of its arguments. -/
theorem final (c : Dev nD) : (dats m 0 c).arrAt 6 cfg0.N
    = Cert.EmbedIdeal.Read.val_main_v23 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨a, b, rfl⟩ : ∃ a b, y = ix2 a b := ⟨y 0, y 1, eq_ix2 y⟩
  blk_simp
  rw [after0_6, out_eq, pay_apply, ref_apply]
  refine embed_congr (fun k => ?_) (fun k => ?_) (fun k => ?_) (fun i k => ?_) (fun i k => ?_) ?_ <;> first | blk_ext [iblk, V, idx t] | (apply Fin.ext; blk_simp; simp [idx t])

end Cert.PleMidIdeal.Hand

namespace Cert.PleLastIdeal.Hand

open Cert.PleLastIdeal Cert.PleLastIdeal.Gen Cert.Embed

variable (m : (ℓ : Loc nD τ sig) → Buf (Elt Ideal) ℓ)

/-- The block each window is on at grid point `t`. -/
theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![t.val, 0] :=
  (by decide +kernel : ∀ t : Fin grid0.N, _)

/-- One block of rows at a row and a column. -/
theorem pay_apply (y : Vec Ideal S512x1024 .f32) (p : Vec Ideal S512x256 .f32) (g : Vec Ideal S1x1024 .f32)
    (wg : Vec Ideal S1024x1024 .bf16) (wp : Vec Ideal S256x1024 .bf16) (fn : Vec Ideal S1x1024 .f32) (a : Fin 512) (b : Fin 1024) :
    k0_pay1 y g wg p wp fn (ix2 a b) = normed (embed (fun x => y (ix2 a x)) (fun x => p (ix2 a x)) (fun x => g (ix2 0 x)) (fun k x => wg (ix2 k x)) (fun k x => wp (ix2 k x)))
      (fun x => fn (ix2 0 x)) b := by
  pointwise [k0_pay1, embed, normed, Ideal.logistic]

open Cert.EmbedLastIdeal.Read in
/-- The formula of the layer at a row and a column. -/
theorem ref_apply (y : FVec Ideal S16384x1024 .f32) (p : FVec Ideal S16384x256 .f32) (g : FVec Ideal S1x1024 .f32)
    (wg : FVec Ideal S1024x1024 .bf16) (wp : FVec Ideal S256x1024 .bf16) (fn : FVec Ideal S1x1024 .f32) (j : S16384x1024.Idx) :
    val_main_v35 (F := Ideal) y p g wg wp fn j = normed (embed (fun x => y (ix2 (j 0) x)) (fun x => p (ix2 (j 0) x)) (fun x => g (ix2 0 x)) (fun k x => wg (ix2 k x)) (fun k x => wp (ix2 k x)))
      (fun x => fn (ix2 0 x)) (j 1) := by
  obtain ⟨a, b, rfl⟩ : ∃ a b, j = ix2 a b := ⟨j 0, j 1, eq_ix2 j⟩
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, embed, normed, Ideal.logistic]

/-- What a grid point leaves is that function of its blocks. -/
theorem out_eq (y : Vec Ideal S512x1024 .f32) (p : Vec Ideal S512x256 .f32) (g : Vec Ideal S1x1024 .f32)
    (wg : Vec Ideal S1024x1024 .bf16) (wp : Vec Ideal S256x1024 .bf16) (fn : Vec Ideal S1x1024 .f32) :
    out0_6 y p g wg wp fn = k0_pay1 y g wg p wp fn := by
  frame_out

/-- The call's result array is the layer's formula of its arguments. -/
theorem final (c : Dev nD) : (dats m 0 c).arrAt 6 cfg0.N
    = Cert.EmbedLastIdeal.Read.val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨a, b, rfl⟩ : ∃ a b, y = ix2 a b := ⟨y 0, y 1, eq_ix2 y⟩
  blk_simp
  rw [after0_6, out_eq, pay_apply, ref_apply]
  refine normed_congr (fun x => embed_congr (fun k => ?_) (fun k => ?_) (fun k => ?_) (fun i k => ?_) (fun i k => ?_) rfl) (fun k => ?_) ?_ <;> first | blk_ext [iblk, V, idx t] | (apply Fin.ext; blk_simp; simp [idx t])

end Cert.PleLastIdeal.Hand

end
-- ==== Proof.RowClaims.lean ====
/- The claims about the calls that treat each row by itself: output projections and per-layer embeddings. -/
module

public import proofs.«01_k».proof.Defs
public import proofs.«01_k».proof.Proof.Gen.RetOut.Frame
public import proofs.«01_k».proof.Proof.Gen.RetOutIdeal.Frame
public import proofs.«01_k».proof.Proof.Gen.RetOutIdeal.Value
public import proofs.«01_k».proof.Proof.Gen.RetMixIdeal.Run
public import proofs.«01_k».proof.Proof.Gen.RetMixIdeal.Read
public import proofs.«01_k».proof.Proof.Gen.DiffOut.Frame
public import proofs.«01_k».proof.Proof.Gen.DiffOutIdeal.Frame
public import proofs.«01_k».proof.Proof.Gen.DiffOutIdeal.Value
public import proofs.«01_k».proof.Proof.Gen.DiffMixIdeal.Run
public import proofs.«01_k».proof.Proof.Gen.DiffMixIdeal.Read
public import proofs.«01_k».proof.Proof.Gen.PleMid.Frame
public import proofs.«01_k».proof.Proof.Gen.PleMidIdeal.Frame
public import proofs.«01_k».proof.Proof.Gen.PleMidIdeal.Value
public import proofs.«01_k».proof.Proof.Gen.EmbedIdeal.Run
public import proofs.«01_k».proof.Proof.Gen.EmbedIdeal.Read
public import proofs.«01_k».proof.Proof.Gen.PleLast.Frame
public import proofs.«01_k».proof.Proof.Gen.PleLastIdeal.Frame
public import proofs.«01_k».proof.Proof.Gen.PleLastIdeal.Value
public import proofs.«01_k».proof.Proof.Gen.EmbedLastIdeal.Run
public import proofs.«01_k».proof.Proof.Gen.EmbedLastIdeal.Read
public import proofs.«01_k».proof.Proof.MixValue
public import proofs.«01_k».proof.Proof.EmbedValue
public import Idealize.ShloMosaic.Lib.Quiescent

@[expose] public section

noncomputable section

namespace Cert.Proof

open Idealize.ShloMosaic Idealize.ShloMosaic.TcCoe Idealize.SL.Sem

/-- The reference of the output projection of the retention mixer terminates, keeps its arguments and uses no semaphore. -/
theorem retMix_frame : Cert.quiescent_RetMixIdeal := fun m g _ =>
  (θ_run _ _ _).mono (fun r h => ⟨fun c => (h c).2, sem_eq_zero_of_no_sems (by decide) r.2⟩) (Cert.RetMixIdeal.Value.run m g)

/-- The output projection of the retention mixer and its reference end with the same result. -/
theorem retMix : Cert.algebraic_RetOutIdeal_RetMixIdeal := fun m g m' g' _ hag =>
  ⟨fun c => Cert.RetMixIdeal.Read.val_main_v3 (F := Ideal) (m' ((c.tc : Thread Cert.RetMixIdeal.nD Cert.RetMixIdeal.τ).loc Cert.RetMixIdeal.main_arg0))
      (m' ((c.tc : Thread Cert.RetMixIdeal.nD Cert.RetMixIdeal.τ).loc Cert.RetMixIdeal.main_arg1))
      (m' ((c.tc : Thread Cert.RetMixIdeal.nD Cert.RetMixIdeal.τ).loc Cert.RetMixIdeal.main_arg2)),
    (θ_run _ _ _).mono (fun r h c => ⟨(h c).1.trans ((Cert.RetOutIdeal.Hand.final m c).trans
        (by dsimp only; rw [(hag c).1, (hag c).2.1, (hag c).2.2])), (h c).2⟩) (Cert.RetOutIdeal.Value.run_blocks m g),
    (θ_run _ _ _).mono (fun r h c => ⟨(h c).1.trans (Cert.RetMixIdeal.Read.val_main_v3_eq _ _ _).symm, (h c).2⟩)
      (Cert.RetMixIdeal.Value.run m' g')⟩

/-- The reference of the output projection of the attention mixer terminates, keeps its arguments and uses no semaphore. -/
theorem diffMix_frame : Cert.quiescent_DiffMixIdeal := fun m g _ =>
  (θ_run _ _ _).mono (fun r h => ⟨fun c => (h c).2, sem_eq_zero_of_no_sems (by decide) r.2⟩) (Cert.DiffMixIdeal.Value.run m g)

/-- The output projection of the attention mixer and its reference end with the same result. -/
theorem diffMix : Cert.algebraic_DiffOutIdeal_DiffMixIdeal := fun m g m' g' _ hag =>
  ⟨fun c => Cert.DiffMixIdeal.Read.val_main_v3 (F := Ideal) (m' ((c.tc : Thread Cert.DiffMixIdeal.nD Cert.DiffMixIdeal.τ).loc Cert.DiffMixIdeal.main_arg0))
      (m' ((c.tc : Thread Cert.DiffMixIdeal.nD Cert.DiffMixIdeal.τ).loc Cert.DiffMixIdeal.main_arg1))
      (m' ((c.tc : Thread Cert.DiffMixIdeal.nD Cert.DiffMixIdeal.τ).loc Cert.DiffMixIdeal.main_arg2)),
    (θ_run _ _ _).mono (fun r h c => ⟨(h c).1.trans ((Cert.DiffOutIdeal.Hand.final m c).trans
        (by dsimp only; rw [(hag c).1, (hag c).2.1, (hag c).2.2])), (h c).2⟩) (Cert.DiffOutIdeal.Value.run_blocks m g),
    (θ_run _ _ _).mono (fun r h c => ⟨(h c).1.trans (Cert.DiffMixIdeal.Read.val_main_v3_eq _ _ _).symm, (h c).2⟩)
      (Cert.DiffMixIdeal.Value.run m' g')⟩

/-- The reference of the embedding call inside the stack terminates, keeps its arguments and uses no semaphore. -/
theorem embed_frame : Cert.quiescent_EmbedIdeal := fun m g _ =>
  (θ_run _ _ _).mono (fun r h => ⟨fun c => (h c).2, sem_eq_zero_of_no_sems (by decide) r.2⟩) (Cert.EmbedIdeal.Value.run m g)

/-- The embedding call inside the stack and its reference end with the same result. -/
theorem embed : Cert.algebraic_PleMidIdeal_EmbedIdeal := fun m g m' g' _ hag =>
  ⟨fun c => Cert.EmbedIdeal.Read.val_main_v23 (F := Ideal) (m' ((c.tc : Thread Cert.EmbedIdeal.nD Cert.EmbedIdeal.τ).loc Cert.EmbedIdeal.main_arg0))
      (m' ((c.tc : Thread Cert.EmbedIdeal.nD Cert.EmbedIdeal.τ).loc Cert.EmbedIdeal.main_arg1))
      (m' ((c.tc : Thread Cert.EmbedIdeal.nD Cert.EmbedIdeal.τ).loc Cert.EmbedIdeal.main_arg2))
      (m' ((c.tc : Thread Cert.EmbedIdeal.nD Cert.EmbedIdeal.τ).loc Cert.EmbedIdeal.main_arg3))
      (m' ((c.tc : Thread Cert.EmbedIdeal.nD Cert.EmbedIdeal.τ).loc Cert.EmbedIdeal.main_arg4)),
    (θ_run _ _ _).mono (fun r h c => ⟨(h c).1.trans ((Cert.PleMidIdeal.Hand.final m c).trans
        (by dsimp only; rw [(hag c).1, (hag c).2.1, (hag c).2.2.1, (hag c).2.2.2.1, (hag c).2.2.2.2.1])), (h c).2⟩) (Cert.PleMidIdeal.Value.run_blocks m g),
    (θ_run _ _ _).mono (fun r h c => ⟨(h c).1.trans (Cert.EmbedIdeal.Read.val_main_v23_eq _ _ _ _ _).symm, (h c).2⟩)
      (Cert.EmbedIdeal.Value.run m' g')⟩

/-- The reference of the embedding call of the last layer terminates, keeps its arguments and uses no semaphore. -/
theorem embedLast_frame : Cert.quiescent_EmbedLastIdeal := fun m g _ =>
  (θ_run _ _ _).mono (fun r h => ⟨fun c => (h c).2, sem_eq_zero_of_no_sems (by decide) r.2⟩) (Cert.EmbedLastIdeal.Value.run m g)

/-- The embedding call of the last layer and its reference end with the same result. -/
theorem embedLast : Cert.algebraic_PleLastIdeal_EmbedLastIdeal := fun m g m' g' _ hag =>
  ⟨fun c => Cert.EmbedLastIdeal.Read.val_main_v35 (F := Ideal) (m' ((c.tc : Thread Cert.EmbedLastIdeal.nD Cert.EmbedLastIdeal.τ).loc Cert.EmbedLastIdeal.main_arg0))
      (m' ((c.tc : Thread Cert.EmbedLastIdeal.nD Cert.EmbedLastIdeal.τ).loc Cert.EmbedLastIdeal.main_arg1))
      (m' ((c.tc : Thread Cert.EmbedLastIdeal.nD Cert.EmbedLastIdeal.τ).loc Cert.EmbedLastIdeal.main_arg2))
      (m' ((c.tc : Thread Cert.EmbedLastIdeal.nD Cert.EmbedLastIdeal.τ).loc Cert.EmbedLastIdeal.main_arg3))
      (m' ((c.tc : Thread Cert.EmbedLastIdeal.nD Cert.EmbedLastIdeal.τ).loc Cert.EmbedLastIdeal.main_arg4))
      (m' ((c.tc : Thread Cert.EmbedLastIdeal.nD Cert.EmbedLastIdeal.τ).loc Cert.EmbedLastIdeal.main_arg5)),
    (θ_run _ _ _).mono (fun r h c => ⟨(h c).1.trans ((Cert.PleLastIdeal.Hand.final m c).trans
        (by dsimp only; rw [(hag c).1, (hag c).2.1, (hag c).2.2.1, (hag c).2.2.2.1, (hag c).2.2.2.2.1, (hag c).2.2.2.2.2])), (h c).2⟩) (Cert.PleLastIdeal.Value.run_blocks m g),
    (θ_run _ _ _).mono (fun r h c => ⟨(h c).1.trans (Cert.EmbedLastIdeal.Read.val_main_v35_eq m' c), (h c).2⟩)
      (Cert.EmbedLastIdeal.Value.run m' g')⟩

end Cert.Proof

end
-- ==== Proof.RetentionSpec.lean ====
/-
  The retention of a sequence in chunks of 128 positions, at an index: the decay tables, the state after each chunk,
  a chunk's output and the gated, normalised result.  Both programs' result arrays are read to these terms.
-/
module

public import Idealize.ShloMosaic.Lib.Pipeline.ValueKit

@[expose] public section

noncomputable section

open Idealize.ShloMosaic

namespace Cert.Spec

/-- The projected rows: queries, keys, values and gates side by side. -/
abbrev Rows := (⟨2, ![16384, 6144]⟩ : Shape).Idx → EReal

/-- An index word as a number. -/
def num (n : ℕ) : EReal := FloatOps.sitofp (F := Ideal) FTy.f32 (BitVec.ofNat 32 n)

/-- The logarithm of a head's decay, `log (1 - 2 ^ (-5 - h))`. -/
def lg (h : Fin 4) : EReal :=
  Ideal.log1p (-Ideal.exp (Ideal.ofBits FTy.f32 1060205080#32 * (Ideal.ofBits FTy.f32 3231711232#32 - num h.val)))

/-- The decay from position `j` to position `i` of one chunk; nothing is carried backwards. -/
def din (h : Fin 4) (i j : Fin 128) : EReal :=
  if 0 ≤ num i.val - num j.val then Ideal.exp (lg h * max (num i.val - num j.val) 0) else 0

/-- The decay from the chunk's start to position `i`. -/
def dq (h : Fin 4) (i : Fin 128) : EReal := Ideal.exp (lg h * (num i.val + 1))

/-- The decay from position `j` to the chunk's end. -/
def dk (h : Fin 4) (j : Fin 128) : EReal := Ideal.exp (lg h * (Ideal.ofBits FTy.f32 1123942400#32 - num j.val))

/-- The decay across one chunk. -/
def dc (h : Fin 4) : EReal := Ideal.exp (lg h * Ideal.ofBits FTy.f32 1124073472#32)

/-- Position `i` of chunk `n` of sequence `b` among all rows. -/
def row (b : Fin 2) (n : ℕ) (hn : n < 64) (i : Fin 128) : Fin 16384 := ⟨8192 * b.val + 128 * n + i.val, by omega⟩

/-- The column of a head's query, key, value and gate. -/
def qcol (h : Fin 4) (d : Fin 256) : Fin 6144 := ⟨256 * h.val + d.val, by omega⟩
def kcol (h : Fin 4) (d : Fin 256) : Fin 6144 := ⟨1024 + 256 * h.val + d.val, by omega⟩
def vcol (h : Fin 4) (e : Fin 512) : Fin 6144 := ⟨2048 + 512 * h.val + e.val, by omega⟩
def gcol (h : Fin 4) (e : Fin 512) : Fin 6144 := ⟨4096 + 512 * h.val + e.val, by omega⟩

variable (P : Rows) (b : Fin 2) (h : Fin 4)

/-- The state before chunk `n`: the decayed state before the chunk behind it plus that chunk's keys by values. -/
def state : (n : ℕ) → n ≤ 64 → Fin 256 → Fin 512 → EReal
  | 0, _ => fun _ _ => 0
  | n + 1, hn => fun d e => state n (Nat.le_of_lt hn) d e * dc h
      + ∑ x : Fin 128, P (ix2 (row b n hn x) (kcol h d)) * dk h x * P (ix2 (row b n hn x) (vcol h e))

/-- The output of position `i` of chunk `n`: within the chunk, and from the state before it. -/
def out (n : ℕ) (hn : n < 64) (i : Fin 128) (e : Fin 512) : EReal :=
  (∑ x : Fin 128, (∑ d : Fin 256, P (ix2 (row b n hn i) (qcol h d)) * P (ix2 (row b n hn x) (kcol h d))) * din h i x
      * P (ix2 (row b n hn x) (vcol h e)))
    + (∑ d : Fin 256, P (ix2 (row b n hn i) (qcol h d)) * state P b h n (Nat.le_of_lt hn) d e) * dq h i

/-- One entry normalised over its row of 512, then gated. -/
def gated (o : Fin 512 → EReal) (g : EReal) (e : Fin 512) : EReal :=
  g * Ideal.logistic g * ((o e - Ideal.div (∑ x, o x) (Ideal.ofBits FTy.f32 1140850688#32)) *
    Ideal.rsqrt (Ideal.div (∑ x, (o x - Ideal.div (∑ x, o x) (Ideal.ofBits FTy.f32 1140850688#32)) *
      (o x - Ideal.div (∑ x, o x) (Ideal.ofBits FTy.f32 1140850688#32))) (Ideal.ofBits FTy.f32 1140850688#32)
        + Ideal.ofBits FTy.f32 897988541#32))

/-- The first result at a row and a column. -/
def result (j : (⟨2, ![16384, 2048]⟩ : Shape).Idx) : EReal :=
  gated (out P ⟨(j 0).val / 8192, by have := (j 0).isLt; simp at this; omega⟩ ⟨(j 1).val / 512, by have := (j 1).isLt; simp at this; omega⟩
      ((j 0).val % 8192 / 128) (by omega) ⟨(j 0).val % 8192 % 128, by omega⟩)
    (P (ix2 (j 0) ⟨4096 + (j 1).val, by have := (j 1).isLt; simp at this; omega⟩)) ⟨(j 1).val % 512, by omega⟩

/-- The second result: the state after the last chunk. -/
def last (j : (⟨4, ![2, 4, 256, 512]⟩ : Shape).Idx) : EReal := state P (j 0) (j 1) 64 le_rfl (j 2) (j 3)

end Cert.Spec

end
-- ==== Proof.StepValue.lean ====
/-
  What the retention step of the sample leaves in its two result arrays: for every sample and head one token's output,
  normalised and gated, and the new state.
-/
module

public import proofs.«01_k».proof.Proof.Gen.RetStepIdeal.Frame
public import proofs.«01_k».proof.Proof.Gen.StepRefIdeal.Read
public import proofs.«01_k».proof.Proof.RetentionSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RetStepIdeal.Hand

open Cert.RetStepIdeal Cert.RetStepIdeal.Gen

variable (m : (ℓ : Loc nD τ sig) → Buf (Elt Ideal) ℓ)

/-- A head's decay. -/
def gam (h : Fin 4) : EReal := Ideal.exp (Spec.lg h)

/-- One token's output before the normalisation: its own value weighted by key and query, and the decayed state read by the query. -/
def tok (q k : Fin 256 → EReal) (v : Fin 512 → EReal) (s : Fin 256 → Fin 512 → EReal) (γ : EReal) (e : Fin 512) : EReal :=
  (∑ d, q d * k d) * v e + γ * ∑ d, q d * s d e

/-- The block each window is on at grid point `t`: sample `t / 4`, head `t % 4`. -/
theorem idx : ∀ t : Fin cfg0.N, win0_0.index t = ![0]
    ∧ win0_1.index t = ![t.val / 4, t.val % 4, 0, 0] ∧ win0_2.index t = ![t.val / 4, t.val % 4, 0, 0]
    ∧ win0_3.index t = ![t.val / 4, t.val % 4, 0, 0] ∧ win0_4.index t = ![t.val / 4, t.val % 4, 0, 0]
    ∧ win0_5.index t = ![t.val / 4, t.val % 4, 0, 0] ∧ win0_6.index t = ![t.val / 4, t.val % 4, 0, 0]
    ∧ win0_7.index t = ![t.val / 4, t.val % 4, 0, 0] :=
  (by decide +kernel : ∀ t : Fin grid0.N, _)

/-- Where the head's decay is read in its table. -/
theorem off : ∀ t : Fin cfg0.N, k0_off1 (grid0.coords t) = ![t.val % 4] :=
  (by decide +kernel : ∀ t : Fin grid0.N, k0_off1 (grid0.coords t) = ![t.val % 4])

def head (t : Fin cfg0.N) : Fin 4 := ⟨t.val % 4, by omega⟩

/-- The table of decays. -/
theorem tab (c : Dev nD) (j : S4.Idx) : V m c main_v41 j = gam (j 0) := by
  simp only [V, List.flatten_cons, List.flatten_nil, List.append_nil, StableHlo.after_append]
  entry_read
  pointwise [gam, Spec.lg, Spec.num, mul_one]

theorem blk_tab (c : Dev nD) (t : Fin cfg0.N) (i) : (iblk m c 0 t : Vec Ideal S4 .f32) i = gam (i 0) := by
  refine Eq.trans ?_ (tab m c i)
  blk_ext [iblk, idx t]

theorem blk_gam (c : Dev nD) (t : Fin cfg0.N) (h) (h') :
    View.ld (iblk m c 0 t) (Rect.unit (k0_off1 (grid0.coords t)) ![1] h) (Shape.Idx.first h') = gam (head t) := by
  refine (blk_tab m c t _).trans (congrArg gam (Fin.ext ?_))
  show (k0_off1 (grid0.coords t)) 0 + 0 * 1 = _
  rw [off t]
  rfl

/-- The token's normalised and gated output. -/
theorem pay1_apply (γ : EReal) (q k : Vec Ideal S1x1x256x1 .f32) (v g : Vec Ideal S1x1x1x512 .f32) (s : Vec Ideal S1x1x256x512 .f32)
    (e : Fin 512) : k0_pay1 (F := Ideal) (k0_pay5 γ q k v s) (k0_pay7 γ q k v s) (Scalar.ofBits .f32 0x44000000#32) g (ix4 0 0 0 e)
    = Spec.gated (tok (fun d => q (ix4 0 0 d 0)) (fun d => k (ix4 0 0 d 0)) (fun e => v (ix4 0 0 0 e)) (fun d e => s (ix4 0 0 d e)) γ)
      (g (ix4 0 0 0 e)) e := by
  pointwise [k0_pay1, k0_pay2, k0_pay3, k0_pay4, k0_pay5, k0_pay7, Spec.gated, tok]

/-- The new state. -/
theorem pay6_apply (γ : EReal) (k : Vec Ideal S1x1x256x1 .f32) (v : Vec Ideal S1x1x1x512 .f32) (s : Vec Ideal S1x1x256x512 .f32)
    (d : Fin 256) (e : Fin 512) : k0_pay6 (F := Ideal) γ k v s (ix4 0 0 d e)
    = s (ix4 0 0 d e) * γ + k (ix4 0 0 d 0) * v (ix4 0 0 0 e) := by
  pointwise [k0_pay2, k0_pay3, k0_pay4, k0_pay6]

open Cert.StepRefIdeal.Read in
/-- The reference's first result at an index. -/
theorem ref_out (q k : FVec Ideal S32x4x256x1 .f32) (v g : FVec Ideal S32x4x1x512 .f32) (s : FVec Ideal S32x4x256x512 .f32)
    (b : Fin 32) (h : Fin 4) (e : Fin 512) : val_main_v53 (F := Ideal) q k v g s (ix4 b h 0 e)
    = Spec.gated (tok (fun d => q (ix4 b h d 0)) (fun d => k (ix4 b h d 0)) (fun e => v (ix4 b h 0 e)) (fun d e => s (ix4 b h d e)) (gam h))
      (g (ix4 b h 0 e)) e := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_call0_v0, val_main_call0_v1, val_main_call0_v2, val_main_call0_v3, val_main_call0_v4, val_main_call0_v5, val_main_call0_cst, val_main_call0_cst_0, Spec.gated, tok, gam, Spec.lg, Spec.num, Ideal.logistic, mul_comm (Ideal.exp _)]

open Cert.StepRefIdeal.Read in
/-- The reference's second result at an index. -/
theorem ref_state (k : FVec Ideal S32x4x256x1 .f32) (v : FVec Ideal S32x4x1x512 .f32) (s : FVec Ideal S32x4x256x512 .f32)
    (b : Fin 32) (h : Fin 4) (d : Fin 256) (e : Fin 512) : val_main_v31 (F := Ideal) k v s (ix4 b h d e)
    = s (ix4 b h d e) * gam h + k (ix4 b h d 0) * v (ix4 b h 0 e) := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_call0_v0, val_main_call0_v1, val_main_call0_v2, val_main_call0_v3, val_main_call0_v4, val_main_call0_v5, val_main_call0_cst, val_main_call0_cst_0, gam, Spec.lg, Spec.num]

/-- What a grid point leaves is that function of its blocks. -/
theorem leaves (c : Dev nD) (t : Fin cfg0.N) :
    (outsAt0 m c t).1 = k0_pay1 (F := Ideal) (k0_pay5 (gam (head t)) (iblk m c 1 t) (iblk m c 2 t) (iblk m c 3 t) (iblk m c 5 t))
        (k0_pay7 (gam (head t)) (iblk m c 1 t) (iblk m c 2 t) (iblk m c 3 t) (iblk m c 5 t)) (Scalar.ofBits .f32 0x44000000#32) (iblk m c 4 t)
    ∧ (outsAt0 m c t).2 = k0_pay6 (F := Ideal) (gam (head t)) (iblk m c 2 t) (iblk m c 3 t) (iblk m c 5 t) := by
  constructor
  · unfold outsAt0
    frame_out
    rw [blk_gam]
  · unfold outsAt0
    frame_out
    rw [blk_gam]

theorem lt128 (t : Fin cfg0.N) : t.val < 128 := lt_of_lt_of_eq t.isLt (show cfg0.N = 128 from N_0)

def sample (t : Fin cfg0.N) : Fin 32 := ⟨t.val / 4, by have := lt128 t; omega⟩

theorem blk1 (c : Dev nD) (t : Fin cfg0.N) (d : Fin 256) : (iblk m c 1 t : Vec Ideal S1x1x256x1 .f32) (ix4 0 0 d 0)
    = (m ((c : Thread nD τ).loc main_arg0) : Vec Ideal S32x4x256x1 .f32) (ix4 (sample t) (head t) d 0) := by
  blk_ext [iblk, V, idx t, head, sample]

theorem blk2 (c : Dev nD) (t : Fin cfg0.N) (d : Fin 256) : (iblk m c 2 t : Vec Ideal S1x1x256x1 .f32) (ix4 0 0 d 0)
    = (m ((c : Thread nD τ).loc main_arg1) : Vec Ideal S32x4x256x1 .f32) (ix4 (sample t) (head t) d 0) := by
  blk_ext [iblk, V, idx t, head, sample]

theorem blk3 (c : Dev nD) (t : Fin cfg0.N) (e : Fin 512) : (iblk m c 3 t : Vec Ideal S1x1x1x512 .f32) (ix4 0 0 0 e)
    = (m ((c : Thread nD τ).loc main_arg2) : Vec Ideal S32x4x1x512 .f32) (ix4 (sample t) (head t) 0 e) := by
  blk_ext [iblk, V, idx t, head, sample]

theorem blk4 (c : Dev nD) (t : Fin cfg0.N) (e : Fin 512) : (iblk m c 4 t : Vec Ideal S1x1x1x512 .f32) (ix4 0 0 0 e)
    = (m ((c : Thread nD τ).loc main_arg3) : Vec Ideal S32x4x1x512 .f32) (ix4 (sample t) (head t) 0 e) := by
  blk_ext [iblk, V, idx t, head, sample]

theorem blk5 (c : Dev nD) (t : Fin cfg0.N) (d : Fin 256) (e : Fin 512) : (iblk m c 5 t : Vec Ideal S1x1x256x512 .f32) (ix4 0 0 d e)
    = (m ((c : Thread nD τ).loc main_arg4) : Vec Ideal S32x4x256x512 .f32) (ix4 (sample t) (head t) d e) := by
  blk_ext [iblk, V, idx t, head, sample]

theorem row_eq (y : S1x1x1x512.Idx) : y = ix4 0 0 0 (y 3) := by
  refine (eq_ix4 y).trans ?_
  rw [Subsingleton.elim (α := Fin 1) (y 0) 0, Subsingleton.elim (α := Fin 1) (y 1) 0, Subsingleton.elim (α := Fin 1) (y 2) 0]
  rfl

theorem mat_eq (y : S1x1x256x512.Idx) : y = ix4 0 0 (y 2) (y 3) := by
  refine (eq_ix4 y).trans ?_
  rw [Subsingleton.elim (α := Fin 1) (y 0) 0, Subsingleton.elim (α := Fin 1) (y 1) 0]
  rfl

/-- The call's first result is the reference's. -/
theorem final6 (c : Dev nD) : (dats m 0 c).arrAt 6 cfg0.N
    = Cert.StepRefIdeal.Read.val_main_v53 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨e, rfl⟩ : ∃ e, y = ix4 0 0 0 e := ⟨y 3, row_eq y⟩
  have hx : ((cfg0.win 6).blk t).view.emb (ix4 0 0 0 e) = ix4 (sample t) (head t) 0 e := by
    blk_ext [idx t, head, sample]
  blk_simp
  refine Eq.trans ?_ (congrArg (Cert.StepRefIdeal.Read.val_main_v53 (F := Ideal) _ _ _ _ _) hx.symm)
  rw [after0_6, (leaves m c t).1, pay1_apply, ref_out]
  simp only [blk1, blk2, blk3, blk4, blk5]

/-- The call's second result is the reference's. -/
theorem final7 (c : Dev nD) : (dats m 0 c).arrAt 7 cfg0.N
    = Cert.StepRefIdeal.Read.val_main_v31 (F := Ideal) (m ((c : Thread nD τ).loc main_arg1))
        (m ((c : Thread nD τ).loc main_arg2)) (m ((c : Thread nD τ).loc main_arg4)) := by
  refine (dats m 0 c).arrAt_eq_of_covers 7 _ (by decide +kernel) fun t hf y => ?_
  obtain ⟨d, e, rfl⟩ : ∃ d e, y = ix4 0 0 d e := ⟨y 2, y 3, mat_eq y⟩
  have hx : ((cfg0.win 7).blk t).view.emb (ix4 0 0 d e) = ix4 (sample t) (head t) d e := by
    blk_ext [idx t, head, sample]
  blk_simp
  refine Eq.trans ?_ (congrArg (Cert.StepRefIdeal.Read.val_main_v31 (F := Ideal) _ _ _) hx.symm)
  rw [after0_7, (leaves m c t).2, pay6_apply, ref_state]
  simp only [blk2, blk3, blk5]

end Cert.RetStepIdeal.Hand

end
-- ==== Proof.RotAng.lean ====
/- The angles by which the lanes of the retention's queries and keys are turned, and the projection they are taken from. -/
module

public import proofs.«01_k».proof.Proof.Gen.RotatedIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RotatedIdeal.Hand

open Cert.RotatedIdeal Cert.RotatedIdeal.Read

/-- The angle by which lane `l` of a head is turned at position `p`. -/
def ang (p l : ℕ) : EReal :=
  FloatOps.sitofp (F := Ideal) FTy.f32 (BitVec.ofNat 32 p) * Ideal.div 1 (Ideal.pow (Ideal.ofBits FTy.f32 1176256512#32)
    (if l / 2 < 127 then
      0 * (1 - Ideal.div (FloatOps.sitofp (F := Ideal) FTy.f32 (BitVec.ofNat 32 (l / 2))) (Ideal.ofBits FTy.f32 1123942400#32))
        + Ideal.div (FloatOps.sitofp (F := Ideal) FTy.f32 (BitVec.ofNat 32 (l / 2))) (Ideal.ofBits FTy.f32 1123942400#32)
    else 1))

/-- The other lane of a pair, among the lanes of the whole row. -/
def pair (n : Fin 6144) : Fin 6144 := if n.val % 2 = 0 then ⟨(n.val + 1) % 6144, by omega⟩ else ⟨n.val - 1, by omega⟩

/-- Lane `n` of the row `P` turned at position `p`. -/
def turned (P : Fin 6144 → EReal) (p : ℕ) (n : Fin 6144) : EReal :=
  P n * Ideal.cos (ang p (n.val % 256)) + (if n.val % 2 = 0 then -P (pair n) else P (pair n)) * Ideal.sin (ang p (n.val % 256))

/-- The projection of the reference. -/
theorem ref_proj (Y : FVec Ideal S16384x1024 .f32) (G : FVec Ideal S1x1024 .f32) (U : FVec Ideal S1024x6144 .bf16)
    (r : Fin 16384) (n : Fin 6144) : val_main_v13 (F := Ideal) Y G U (ix2 r n)
    = ∑ k : Fin 1024, Y (ix2 r k) * Ideal.rsqrt (Ideal.div (∑ x : Fin 1024, Y (ix2 r x) * Y (ix2 r x))
      (Ideal.ofBits FTy.f32 1149239296#32) + Ideal.ofBits FTy.f32 897988541#32) * G (ix2 0 k) * U (ix2 k n) := by
  pointwise [val_main_v13, val_main_v0, val_main_cst, val_main_v1, val_main_v2, val_main_cst_0, val_main_v3, val_main_v4,
    val_main_cst_1, val_main_v5, val_main_v6, val_main_v7, val_main_v8, val_main_v9, val_main_v10,
    val_main_v11, val_main_v12]

/-- The angles of the reference's queries. -/
theorem ref_ang_q (p : Fin 8192) (l : Fin 256) : val_main_v32 (F := Ideal) (ix2 p l) = ang p.val l.val := by
  pointwise [val_main_cst_2, val_main_cst_3, val_main_call0_v0, val_main_call0_v1, val_main_call0_v2,
    val_main_call0_cst, val_main_call0_v3, val_main_call0_v4, val_main_call0_cst_0, val_main_call0_v5,
    val_main_call0_v6, val_main_call0_v7, val_main_call0_cst_1, val_main_call0_v8, val_main_call0_v9,
    val_main_call0_v10, val_main_call0_v11, val_main_call0_v12, val_main_call0_v13, val_main_call0_v14,
    val_main_call0_v15, val_main_call0_v16, val_main_v18, val_main_cst_4, val_main_v19, val_main_v20,
    val_main_cst_5, val_main_v21, val_main_v22, val_main_v23, val_main_v24, val_main_v25, val_main_cst_6,
    val_main_v26, val_main_v27, val_main_v28, val_main_v29, val_main_v30, val_main_v31, val_main_v32, ang, id]
  pointwise [dite_eq_ite]

/-- The angles of the reference's keys. -/
theorem ref_ang_k (p : Fin 8192) (l : Fin 256) : val_main_v64 (F := Ideal) (ix2 p l) = ang p.val l.val := by
  pointwise [val_main_cst_7, val_main_cst_8, val_main_call1_v0, val_main_call1_v1, val_main_call1_v2,
    val_main_call1_cst, val_main_call1_v3, val_main_call1_v4, val_main_call1_cst_0, val_main_call1_v5,
    val_main_call1_v6, val_main_call1_v7, val_main_call1_cst_1, val_main_call1_v8, val_main_call1_v9,
    val_main_call1_v10, val_main_call1_v11, val_main_call1_v12, val_main_call1_v13, val_main_call1_v14,
    val_main_call1_v15, val_main_call1_v16, val_main_v50, val_main_cst_9, val_main_v51, val_main_v52,
    val_main_cst_10, val_main_v53, val_main_v54, val_main_v55, val_main_v56, val_main_v57, val_main_cst_11,
    val_main_v58, val_main_v59, val_main_v60, val_main_v61, val_main_v62, val_main_v63, val_main_v64, ang, id]
  pointwise [dite_eq_ite]

end Cert.RotatedIdeal.Hand

end
-- ==== Proof.RotLanes.lean ====
/- How the reference cuts its projection into queries, keys and the rest, pairs their lanes, and lays the parts side by side. -/
module

public import proofs.«01_k».proof.Proof.Gen.RotatedIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RotatedIdeal.Hand

open Cert.RotatedIdeal Cert.RotatedIdeal.Read

variable (Y : FVec Ideal S16384x1024 .f32) (G : FVec Ideal S1x1024 .f32) (U : FVec Ideal S1024x6144 .bf16)

/-- A query's lane in the projection. -/
theorem q_lane (s : Fin 2) (p : Fin 8192) (h : Fin 4) (l : Fin 256) : val_main_v15 (F := Ideal) Y G U (ix4 s p h l)
    = val_main_v13 (F := Ideal) Y G U (ix2 ⟨s.val * 8192 + p.val, by omega⟩ ⟨h.val * 256 + l.val, by omega⟩) := by
  pointwise [val_main_v15, val_main_v14]

/-- A key's lane in the projection. -/
theorem k_lane (s : Fin 2) (p : Fin 8192) (h : Fin 4) (l : Fin 256) : val_main_v17 (F := Ideal) Y G U (ix4 s p h l)
    = val_main_v13 (F := Ideal) Y G U (ix2 ⟨s.val * 8192 + p.val, by omega⟩ ⟨1024 + (h.val * 256 + l.val), by omega⟩) := by
  pointwise [val_main_v17, val_main_v16]

/-- The partner lanes of a query. -/
theorem q_swap (s : Fin 2) (p : Fin 8192) (h : Fin 4) (l : Fin 256) : val_main_v43 (F := Ideal) Y G U (ix4 s p h l)
    = if l.val % 2 < 1 then -val_main_v15 (F := Ideal) Y G U (ix4 s p h ⟨1 + 2 * (l.val / 2), by omega⟩)
      else val_main_v15 (F := Ideal) Y G U (ix4 s p h ⟨2 * (l.val / 2), by omega⟩) := by
  pointwise [val_main_v43, val_main_v42, val_main_v41, val_main_v40, val_main_v39, val_main_v38, val_main_v37]
  rfl

/-- The partner lanes of a key. -/
theorem k_swap (s : Fin 2) (p : Fin 8192) (h : Fin 4) (l : Fin 256) : val_main_v75 (F := Ideal) Y G U (ix4 s p h l)
    = if l.val % 2 < 1 then -val_main_v17 (F := Ideal) Y G U (ix4 s p h ⟨1 + 2 * (l.val / 2), by omega⟩)
      else val_main_v17 (F := Ideal) Y G U (ix4 s p h ⟨2 * (l.val / 2), by omega⟩) := by
  pointwise [val_main_v75, val_main_v74, val_main_v73, val_main_v72, val_main_v71, val_main_v70, val_main_v69]
  rfl

/-- Queries laid out by rows. -/
theorem q_row (r : Fin 16384) (n : Fin 1024) : val_main_v49 (F := Ideal) Y G U (ix2 r n)
    = val_main_v48 (F := Ideal) Y G U (ix4 ⟨r.val / 8192, by omega⟩ ⟨r.val % 8192, by omega⟩ ⟨n.val / 256, by omega⟩ ⟨n.val % 256, by omega⟩) := by
  pointwise [val_main_v49]

/-- Keys laid out by rows. -/
theorem k_row (r : Fin 16384) (n : Fin 1024) : val_main_v83 (F := Ideal) Y G U (ix2 r n)
    = val_main_v82 (F := Ideal) Y G U (ix4 ⟨r.val / 8192, by omega⟩ ⟨r.val % 8192, by omega⟩ ⟨n.val / 256, by omega⟩ ⟨n.val % 256, by omega⟩) := by
  pointwise [val_main_v83]

/-- The three parts of a row side by side. -/
theorem parts (r : Fin 16384) (n : Fin 6144) : val_main_v86 (F := Ideal) Y G U (ix2 r n)
    = if h : n.val < 1024 then val_main_v49 (F := Ideal) Y G U (ix2 r ⟨n.val, h⟩)
      else if h' : n.val - 1024 < 1024 then val_main_v83 (F := Ideal) Y G U (ix2 r ⟨n.val - 1024, h'⟩)
      else val_main_v13 (F := Ideal) Y G U (ix2 r ⟨2048 + (n.val - 1024 - 1024), by omega⟩) := by
  pointwise [val_main_v86, val_main_v85, val_main_v84]

end Cert.RotatedIdeal.Hand

end
-- ==== Proof.RotTurn.lean ====
/- How the reference turns a pair of lanes by an angle. -/
module

public import proofs.«01_k».proof.Proof.Gen.RotatedIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RotatedIdeal.Hand

open Cert.RotatedIdeal Cert.RotatedIdeal.Read

variable (Y : FVec Ideal S16384x1024 .f32) (G : FVec Ideal S1x1024 .f32) (U : FVec Ideal S1024x6144 .bf16)

/-- A turned query. -/
theorem q_turned (s : Fin 2) (p : Fin 8192) (h : Fin 4) (l : Fin 256) : val_main_v48 (F := Ideal) Y G U (ix4 s p h l)
    = val_main_v15 (F := Ideal) Y G U (ix4 s p h l) * Ideal.cos (val_main_v32 (F := Ideal) (ix2 p l))
      + val_main_v43 (F := Ideal) Y G U (ix4 s p h l) * Ideal.sin (val_main_v32 (F := Ideal) (ix2 p l)) := by
  have e : idx_main_v36 (idx_main_v44 (ix4 s p h l)) = ix2 p l := by
    funext a
    match a with
    | ⟨0, _⟩ => rfl
    | ⟨1, _⟩ => rfl
  have e' : idx_main_v34 (idx_main_v46 (ix4 s p h l)) = ix2 p l := by
    funext a
    match a with
    | ⟨0, _⟩ => rfl
    | ⟨1, _⟩ => rfl
  rw [val_main_v48_apply, val_main_v45_apply, val_main_v47_apply, val_main_v44_apply, val_main_v36_apply, val_main_v35_apply,
    val_main_v46_apply, val_main_v34_apply, val_main_v33_apply, e, e']
  rfl

/-- A turned and scaled key. -/
theorem k_turned (s : Fin 2) (p : Fin 8192) (h : Fin 4) (l : Fin 256) : val_main_v82 (F := Ideal) Y G U (ix4 s p h l)
    = (val_main_v17 (F := Ideal) Y G U (ix4 s p h l) * Ideal.cos (val_main_v64 (F := Ideal) (ix2 p l))
      + val_main_v75 (F := Ideal) Y G U (ix4 s p h l) * Ideal.sin (val_main_v64 (F := Ideal) (ix2 p l)))
      * Ideal.ofBits FTy.f32 1031798784#32 := by
  have e : idx_main_v68 (idx_main_v76 (ix4 s p h l)) = ix2 p l := by
    funext a
    match a with
    | ⟨0, _⟩ => rfl
    | ⟨1, _⟩ => rfl
  have e' : idx_main_v66 (idx_main_v78 (ix4 s p h l)) = ix2 p l := by
    funext a
    match a with
    | ⟨0, _⟩ => rfl
    | ⟨1, _⟩ => rfl
  rw [val_main_v82_apply, val_main_v81_apply, val_main_v80_apply, val_main_v77_apply, val_main_v79_apply, val_main_v76_apply,
    val_main_v68_apply, val_main_v67_apply, val_main_v78_apply, val_main_v66_apply, val_main_v65_apply, e, e']
  rfl

end Cert.RotatedIdeal.Hand

end
-- ==== Proof.RotRef.lean ====
/-
  The plain formula of the retention's input projection read at a row and a lane: queries turned by their positions, keys
  turned and scaled, the rest as projected.
-/
module

public import proofs.«01_k».proof.Proof.RotAng
public import proofs.«01_k».proof.Proof.RotLanes
public import proofs.«01_k».proof.Proof.RotTurn
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RotatedIdeal.Hand

open Cert.RotatedIdeal Cert.RotatedIdeal.Read

variable (Y : FVec Ideal S16384x1024 .f32) (G : FVec Ideal S1x1024 .f32) (U : FVec Ideal S1024x6144 .bf16)

/-- A row of the projection. -/
def prow (r : Fin 16384) (n : Fin 6144) : EReal := val_main_v13 (F := Ideal) Y G U (ix2 r n)

theorem prow_eq (r r' : Fin 16384) (n n' : Fin 6144) (hr : r.val = r'.val) (hn : n.val = n'.val) :
    val_main_v13 (F := Ideal) Y G U (ix2 r n) = prow Y G U r' n' := by
  rw [Fin.ext hr, Fin.ext hn]
  rfl

/-- A turned query of the reference. -/
theorem q_apply (r : Fin 16384) (n : Fin 6144) (h : n.val < 1024) : val_main_v49 (F := Ideal) Y G U (ix2 r ⟨n.val, h⟩)
    = turned (prow Y G U r) (r.val % 8192) n := by
  rw [q_row, q_turned, q_swap, ref_ang_q]
  by_cases p : n.val % 2 = 0
  · rw [if_pos (show n.val % 256 % 2 < 1 by omega)]
    simp only [q_lane, turned, pair, if_pos p]
    refine congrArg₂ (· + ·) (congrArg₂ (· * ·) ?_ rfl) (congrArg₂ (· * ·) (congrArg (- ·) ?_) rfl)
    · exact prow_eq Y G U _ _ _ _ (by dsimp only; omega) (by dsimp only; omega)
    · exact prow_eq Y G U _ _ _ _ (by dsimp only; omega) (by dsimp only; omega)
  · rw [if_neg (show ¬ n.val % 256 % 2 < 1 by omega)]
    simp only [q_lane, turned, pair, if_neg p]
    refine congrArg₂ (· + ·) (congrArg₂ (· * ·) ?_ rfl) (congrArg₂ (· * ·) ?_ rfl)
    · exact prow_eq Y G U _ _ _ _ (by dsimp only; omega) (by dsimp only; omega)
    · exact prow_eq Y G U _ _ _ _ (by dsimp only; omega) (by dsimp only; omega)

theorem lane_mod (n : Fin 6144) (h0 : 1024 ≤ n.val) : (n.val - 1024) % 256 = n.val % 256 := by omega

/-- A turned and scaled key of the reference. -/
theorem k_apply (r : Fin 16384) (n : Fin 6144) (h0 : 1024 ≤ n.val) (h : n.val - 1024 < 1024) :
    val_main_v83 (F := Ideal) Y G U (ix2 r ⟨n.val - 1024, h⟩)
    = turned (prow Y G U r) (r.val % 8192) n * Ideal.ofBits FTy.f32 1031798784#32 := by
  rw [k_row, k_turned, k_swap, ref_ang_k]
  have e := lane_mod n h0
  by_cases p : n.val % 2 = 0
  · rw [if_pos (show (n.val - 1024) % 256 % 2 < 1 by omega)]
    simp only [k_lane, turned, pair, if_pos p, e]
    refine congrArg₂ (· * ·) (congrArg₂ (· + ·) (congrArg₂ (· * ·) ?_ rfl) (congrArg₂ (· * ·) (congrArg (- ·) ?_) rfl)) rfl
    · exact prow_eq Y G U _ _ _ _ (by dsimp only; omega) (by dsimp only; omega)
    · exact prow_eq Y G U _ _ _ _ (by dsimp only; omega) (by dsimp only; omega)
  · rw [if_neg (show ¬ (n.val - 1024) % 256 % 2 < 1 by omega)]
    simp only [k_lane, turned, pair, if_neg p, e]
    refine congrArg₂ (· * ·) (congrArg₂ (· + ·) (congrArg₂ (· * ·) ?_ rfl) (congrArg₂ (· * ·) ?_ rfl)) rfl
    · exact prow_eq Y G U _ _ _ _ (by dsimp only; omega) (by dsimp only; omega)
    · exact prow_eq Y G U _ _ _ _ (by dsimp only; omega) (by dsimp only; omega)

/-- The reference's result at a row and a lane. -/
theorem ref_apply (r : Fin 16384) (n : Fin 6144) : val_main_v86 (F := Ideal) Y G U (ix2 r n)
    = if n.val < 1024 then turned (prow Y G U r) (r.val % 8192) n
      else if n.val < 2048 then turned (prow Y G U r) (r.val % 8192) n * Ideal.ofBits FTy.f32 1031798784#32
      else prow Y G U r n := by
  rw [parts]
  by_cases h : n.val < 1024
  · rw [dif_pos h, if_pos h, q_apply]
  · rw [dif_neg h, if_neg h]
    by_cases h' : n.val < 2048
    · rw [dif_pos (show n.val - 1024 < 1024 by omega), if_pos h', k_apply Y G U r n (by omega)]
    · rw [dif_neg (show ¬ n.val - 1024 < 1024 by omega), if_neg h']
      exact prow_eq Y G U _ _ _ _ rfl (by dsimp only; omega)

end Cert.RotatedIdeal.Hand

end
-- ==== Proof.RotValue.lean ====
/-
  What the retention's input projection leaves in its result array: queries and keys turned by their positions, the rest
  as projected.
-/
module

public import proofs.«01_k».proof.Proof.Gen.RetProjIdeal.Frame
public import proofs.«01_k».proof.Proof.RotRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RetProjIdeal.Hand

open Cert.RetProjIdeal Cert.RetProjIdeal.Gen
open Cert.RotatedIdeal.Hand (ang pair turned prow)

variable (m : (ℓ : Loc nD τ sig) → Buf (Elt Ideal) ℓ)

/-- The block each window is on at grid point `t`: rows by `t / 12`, columns by `t % 12`, positions by the row block in its sequence. -/
theorem idx : ∀ t : Fin cfg0.N, win0_0.index t = ![t.val / 12, 0] ∧ win0_1.index t = ![0, 0]
    ∧ win0_2.index t = ![0, t.val % 12] ∧ win0_3.index t = ![t.val / 12 % 8, 0] ∧ win0_4.index t = ![t.val / 12 % 8, 0]
    ∧ win0_5.index t = ![t.val / 12, t.val % 12] :=
  (by decide +kernel : ∀ t : Fin grid0.N, _)

/-- The column block of a grid point. -/
theorem col : ∀ t : Fin cfg0.N, ((grid0.coords t) 1).val = t.val % 12 :=
  (by decide +kernel : ∀ t : Fin grid0.N, ((grid0.coords t) 1).val = t.val % 12)

/-- Within a run of twelve points the row block does not change. -/
theorem rows_prev (c : Dev nD) (t : Fin cfg0.N) (h : ¬ t.val % 12 = 0) (hp : t.val - 1 < cfg0.N) :
    iblk m c 0 ⟨t.val - 1, hp⟩ = iblk m c 0 t := by
  have e := idx ⟨t.val - 1, hp⟩
  have hd : (t.val - 1) / 12 = t.val / 12 := by omega
  funext x
  blk_ext [iblk, V, idx t, e, hd]

theorem gain_prev (c : Dev nD) (t : Fin cfg0.N) (hp : t.val - 1 < cfg0.N) :
    iblk m c 1 ⟨t.val - 1, hp⟩ = iblk m c 1 t := by
  have e := idx ⟨t.val - 1, hp⟩
  funext x
  blk_ext [iblk, V, idx t, e]

/-- The scratch of normalised rows, after every point, is the normalisation of that point's row block. -/
theorem normed (c : Dev nD) : ∀ (n : ℕ) (hn : n < cfg0.N),
    (outsAt0 m c n hn).2 = k0_pay1 (iblk m c 0 ⟨n, hn⟩) (iblk m c 1 ⟨n, hn⟩) := by
  intro n
  induction n with
  | zero =>
    intro hn
    rw [outsAt0_A m c ⟨0, hn⟩ rfl (by dsimp only; omega) (by dsimp only; omega)]
    frame_out
  | succ n ih =>
    intro hn
    by_cases h0 : (n + 1) % 12 = 0
    · rw [outsAt0_A m c ⟨n + 1, hn⟩ h0 (by dsimp only; omega) (by dsimp only; omega)]
      frame_out
    · have hp : n < cfg0.N := Nat.lt_of_succ_lt hn
      have e0 := rows_prev m c ⟨n + 1, hn⟩ h0 hp
      have e1 := gain_prev m c ⟨n + 1, hn⟩ hp
      by_cases h1 : (n + 1) % 12 ≤ 3
      · rw [outsAt0_B m c ⟨n + 1, hn⟩ h0 h1 (by dsimp only; omega)]
        frame_out
        exact (ih hp).trans (by rw [← e0, ← e1]; rfl)
      · rw [outsAt0_C m c ⟨n + 1, hn⟩ h0 h1 (by dsimp only; omega)]
        frame_out
        exact (ih hp).trans (by rw [← e0, ← e1]; rfl)

/-- A point of the first four column blocks leaves the turned product. -/
theorem out_turned (c : Dev nD) (t : Fin cfg0.N) (h1 : t.val % 12 ≤ 3) : (outsAt0 m c t.val t.isLt).1
    = k0_pay3 (grid0.coords t) (k0_pay1 (iblk m c 0 t) (iblk m c 1 t)) (iblk m c 2 t) (iblk m c 3 t) (iblk m c 4 t) := by
  by_cases h0 : t.val % 12 = 0
  · rw [outsAt0_A m c t h0 h1 (by omega)]
    frame_out
  · have hp : t.val - 1 < cfg0.N := Nat.lt_of_le_of_lt (Nat.sub_le _ _) t.isLt
    have en := normed m c (t.val - 1) hp
    rw [rows_prev m c t h0 hp, gain_prev m c t hp] at en
    rw [outsAt0_B m c t h0 h1 (by omega)]
    frame_out
    rw [← en]
    exact congrArg (fun h => k0_pay3 _ h _ _ _) (Memref.IsWhole.read_unread _ _)

/-- A point of the other column blocks leaves the product. -/
theorem out_plain (c : Dev nD) (t : Fin cfg0.N) (h1 : ¬ t.val % 12 ≤ 3) : (outsAt0 m c t.val t.isLt).1
    = k0_pay4 (k0_pay1 (iblk m c 0 t) (iblk m c 1 t)) (iblk m c 2 t) := by
  have hp : t.val - 1 < cfg0.N := Nat.lt_of_le_of_lt (Nat.sub_le _ _) t.isLt
  have en := normed m c (t.val - 1) hp
  rw [rows_prev m c t (by omega) hp, gain_prev m c t hp] at en
  rw [outsAt0_C m c t (by omega) h1 (by omega)]
  frame_out
  rw [← en]
  exact congrArg (fun h => k0_pay4 h _) (Memref.IsWhole.read_unread _ _)

/-- The other lane of a pair, among the lanes of a column block. -/
def mate (b : Fin 512) : Fin 512 := if b.val % 2 = 0 then ⟨(b.val + 512 - 511) % 512, by omega⟩ else ⟨(b.val + 512 - 1) % 512, by omega⟩

theorem even_lane : ∀ b : Fin 512, IntOp.cmpi CmpIPredicate.eq (IntOp.andi (BitVec.ofNat 32 b.val) 1#32) 0#32
    = if b.val % 2 = 0 then 1#1 else 0#1 := by decide +kernel

theorem key_block : ∀ b : Fin 12, Scalar.cmpi CmpIPredicate.sge (BitVec.ofNat 32 b.val) 2#32
    = if b.val < 2 then 0#1 else 1#1 := by decide +kernel

/-- The parity test of the table of signs. -/
theorem even_sign : ∀ l : Fin 256, IntOp.cmpi CmpIPredicate.eq
    (Scalar.select
      (IntOp.andi
        (IntOp.cmpi CmpIPredicate.ne
          (IntOp.cmpi CmpIPredicate.slt
            (IntOp.remsi ArithUnit.host (BitVec.ofNat 32 l.val) (Scalar.select (IntOp.cmpi CmpIPredicate.eq 2#32 0#32) 1#32 2#32))
            0#32)
          (IntOp.cmpi CmpIPredicate.slt (Scalar.select (IntOp.cmpi CmpIPredicate.eq 2#32 0#32) 1#32 2#32) 0#32))
        (IntOp.cmpi CmpIPredicate.ne
          (IntOp.remsi ArithUnit.host (BitVec.ofNat 32 l.val) (Scalar.select (IntOp.cmpi CmpIPredicate.eq 2#32 0#32) 1#32 2#32))
          0#32))
      (IntOp.addi
        (IntOp.remsi ArithUnit.host (BitVec.ofNat 32 l.val) (Scalar.select (IntOp.cmpi CmpIPredicate.eq 2#32 0#32) 1#32 2#32))
        (Scalar.select (IntOp.cmpi CmpIPredicate.eq 2#32 0#32) 1#32 2#32))
      (IntOp.remsi ArithUnit.host (BitVec.ofNat 32 l.val) (Scalar.select (IntOp.cmpi CmpIPredicate.eq 2#32 0#32) 1#32 2#32)))
    0#32 = if l.val % 2 = 0 then 1#1 else 0#1 := by decide +kernel

theorem minus_one : Ideal.ofBits FTy.f32 3212836864#32 = -1 := by
  rw [show (-1 : EReal) = ((-(1 : ℝ) : ℝ) : EReal) by simp]
  simp [Ideal.ofBits, Ideal.ieee, -EReal.coe_mul, -EReal.coe_neg]
  norm_num

/-- The table of cosines. -/
theorem tab_cos (c : Dev nD) (j : S8192x512.Idx) : (V m c main_v24 : Vec Ideal S8192x512 .f32) j
    = Ideal.cos (ang (j 0).val ((j 1).val % 256)) := by
  simp only [V, List.flatten_cons, List.flatten_nil, List.append_nil, StableHlo.after_append]
  entry_read
  simp only [StableHlo.TRef.ofBuf_toBuf, StableHlo.TRef.ofBuf, StableHlo.TRef.toBuf, StableHlo.TRef.of, cast_eq]
  pointwise [ang]
  simp only [dite_eq_ite]

/-- The table of signed sines. -/
theorem tab_sin (c : Dev nD) (j : S8192x512.Idx) : (V m c main_v31 : Vec Ideal S8192x512 .f32) j
    = Ideal.sin (ang (j 0).val ((j 1).val % 256)) * (if (j 1).val % 2 = 0 then -1 else 1) := by
  simp only [V, List.flatten_cons, List.flatten_nil, List.append_nil, StableHlo.after_append]
  entry_read
  simp only [StableHlo.TRef.ofBuf_toBuf, StableHlo.TRef.ofBuf, StableHlo.TRef.toBuf, StableHlo.TRef.of, cast_eq]
  pointwise [ang]
  have e := even_sign ⟨(j 1).val % 256, by omega⟩
  have hp : (j 1).val % 256 % 2 = (j 1).val % 2 := by omega
  simp only [hp] at e
  simp only [dite_eq_ite]
  refine congrArg₂ (· * ·) rfl ?_
  rw [e, minus_one]
  by_cases h : (j 1).val % 2 = 0
  · simp only [if_pos h]
    rfl
  · simp only [if_neg h]
    rfl

/-- What a point of the first four column blocks leaves at a row and a lane. -/
theorem pay3_apply (i : grid0.Coords) (h : Vec Ideal S1024x1024 .bf16) (w : Vec Ideal S1024x512 .bf16)
    (cs sn : Vec Ideal S1024x512 .f32) (a : Fin 1024) (b : Fin 512) : k0_pay3 i h w cs sn (ix2 a b)
    = ((∑ x, h (ix2 a x) * w (ix2 x b)) * cs (ix2 a b) + (∑ x, h (ix2 a x) * w (ix2 x (mate b))) * sn (ix2 a b))
      * (if (i 1).val < 2 then 1 else Ideal.ofBits FTy.f32 1031798784#32) := by
  pointwise [k0_pay3, k0_pay2]
  have k : Scalar.cmpi CmpIPredicate.sge (BitVec.ofNat 32 (i 1).val) 2#32 = if (i 1).val < 2 then 0#1 else 1#1 := key_block (i 1)
  rw [even_lane b, k]
  refine congrArg₂ (· * ·) (congrArg₂ (· + ·) rfl (congrArg₂ (· * ·) ?_ rfl)) ?_
  · by_cases p : b.val % 2 = 0
    · simp only [mate, if_pos p]
      rfl
    · simp only [mate, if_neg p]
      rfl
  · by_cases p : (i 1).val < 2
    · simp only [if_pos p]
      rfl
    · simp only [if_neg p]
      rfl

theorem pay4_apply (h : Vec Ideal S1024x1024 .bf16) (w : Vec Ideal S1024x512 .bf16) (a : Fin 1024) (b : Fin 512) :
    k0_pay4 h w (ix2 a b) = ∑ x, h (ix2 a x) * w (ix2 x b) := by
  pointwise [k0_pay4, k0_pay2]

/-- The normalised row: each entry over the root of the row's mean square, times the gain. -/
theorem norm_apply (y : Vec Ideal S1024x1024 .f32) (g : Vec Ideal S1x1024 .f32) (a k : Fin 1024) :
    k0_pay1 y g (ix2 a k) = y (ix2 a k) * Ideal.rsqrt (Ideal.div (∑ x : Fin 1024, y (ix2 a x) * y (ix2 a x))
      (Ideal.ofBits FTy.f32 1149239296#32) + Ideal.ofBits FTy.f32 897988541#32) * g (ix2 0 k) := by
  pointwise [k0_pay1]

theorem lt192 (t : Fin cfg0.N) : t.val < 192 := lt_of_lt_of_eq t.isLt (show cfg0.N = 192 from N_0)

/-- The row and the lane of the whole result an entry of a point's block is. -/
def row (t : Fin cfg0.N) (a : Fin 1024) : Fin 16384 := ⟨t.val / 12 * 1024 + a.val, by have := lt192 t; omega⟩
def lane (t : Fin cfg0.N) (b : Fin 512) : Fin 6144 := ⟨t.val % 12 * 512 + b.val, by omega⟩

theorem blk0 (c : Dev nD) (t : Fin cfg0.N) (a k : Fin 1024) : (iblk m c 0 t : Vec Ideal S1024x1024 .f32) (ix2 a k)
    = (m ((c : Thread nD τ).loc main_arg0) : Vec Ideal S16384x1024 .f32) (ix2 (row t a) k) := by
  blk_ext [iblk, V, idx t, row]

theorem blk1 (c : Dev nD) (t : Fin cfg0.N) (k : Fin 1024) : (iblk m c 1 t : Vec Ideal S1x1024 .f32) (ix2 0 k)
    = (m ((c : Thread nD τ).loc main_arg1) : Vec Ideal S1x1024 .f32) (ix2 0 k) := by
  blk_ext [iblk, V, idx t]

theorem blk2 (c : Dev nD) (t : Fin cfg0.N) (k : Fin 1024) (b : Fin 512) : (iblk m c 2 t : Vec Ideal S1024x512 .bf16) (ix2 k b)
    = (m ((c : Thread nD τ).loc main_arg2) : Vec Ideal S1024x6144 .bf16) (ix2 k (lane t b)) := by
  blk_ext [iblk, V, idx t, lane]

theorem blk3 (c : Dev nD) (t : Fin cfg0.N) (a : Fin 1024) (b : Fin 512) : (iblk m c 3 t : Vec Ideal S1024x512 .f32) (ix2 a b)
    = Ideal.cos (ang (t.val / 12 % 8 * 1024 + a.val) (b.val % 256)) := by
  have e : (iblk m c 3 t : Vec Ideal S1024x512 .f32) (ix2 a b)
      = (V m c main_v24 : Vec Ideal S8192x512 .f32) (ix2 ⟨t.val / 12 % 8 * 1024 + a.val, by omega⟩ b) := by
    blk_ext [iblk, idx t]
  exact e.trans (tab_cos m c _)

theorem blk4 (c : Dev nD) (t : Fin cfg0.N) (a : Fin 1024) (b : Fin 512) : (iblk m c 4 t : Vec Ideal S1024x512 .f32) (ix2 a b)
    = Ideal.sin (ang (t.val / 12 % 8 * 1024 + a.val) (b.val % 256)) * (if b.val % 2 = 0 then -1 else 1) := by
  have e : (iblk m c 4 t : Vec Ideal S1024x512 .f32) (ix2 a b)
      = (V m c main_v31 : Vec Ideal S8192x512 .f32) (ix2 ⟨t.val / 12 % 8 * 1024 + a.val, by omega⟩ b) := by
    blk_ext [iblk, idx t]
  exact e.trans (tab_sin m c _)

/-- An entry of the point's product is an entry of the reference's projection. -/
theorem prod_eq (c : Dev nD) (t : Fin cfg0.N) (a : Fin 1024) (b : Fin 512) :
    ∑ x, k0_pay1 (iblk m c 0 t) (iblk m c 1 t) (ix2 a x) * (iblk m c 2 t : Vec Ideal S1024x512 .bf16) (ix2 x b)
    = prow (m ((c : Thread nD τ).loc main_arg0)) (m ((c : Thread nD τ).loc main_arg1)) (m ((c : Thread nD τ).loc main_arg2)) (row t a) (lane t b) := by
  simp only [norm_apply, blk0, blk1, blk2]
  exact (Cert.RotatedIdeal.Hand.ref_proj _ _ _ _ _).symm

theorem lane_mate (t : Fin cfg0.N) (b : Fin 512) : lane t (mate b) = pair (lane t b) := by
  apply Fin.ext
  have hl : (lane t b).val = t.val % 12 * 512 + b.val := rfl
  by_cases p : b.val % 2 = 0
  · have p' : (lane t b).val % 2 = 0 := by omega
    rw [mate, pair, if_pos p, if_pos p']
    show t.val % 12 * 512 + (b.val + 512 - 511) % 512 = ((lane t b).val + 1) % 6144
    omega
  · have p' : ¬ (lane t b).val % 2 = 0 := by omega
    rw [mate, pair, if_neg p, if_neg p']
    show t.val % 12 * 512 + (b.val + 512 - 1) % 512 = (lane t b).val - 1
    omega

theorem lane_mod (t : Fin cfg0.N) (b : Fin 512) : (lane t b).val % 256 = b.val % 256 := by
  show (t.val % 12 * 512 + b.val) % 256 = _
  omega

theorem lane_even (t : Fin cfg0.N) (b : Fin 512) : (lane t b).val % 2 = b.val % 2 := by
  show (t.val % 12 * 512 + b.val) % 2 = _
  omega

theorem row_mod (t : Fin cfg0.N) (a : Fin 1024) : (row t a).val % 8192 = t.val / 12 % 8 * 1024 + a.val := by
  show (t.val / 12 * 1024 + a.val) % 8192 = _
  omega

/-- A point of the first four column blocks leaves the turned row of the reference. -/
theorem turned_apply (c : Dev nD) (t : Fin cfg0.N) (a : Fin 1024) (b : Fin 512) :
    k0_pay3 (grid0.coords t) (k0_pay1 (iblk m c 0 t) (iblk m c 1 t)) (iblk m c 2 t) (iblk m c 3 t) (iblk m c 4 t) (ix2 a b)
    = turned (prow (m ((c : Thread nD τ).loc main_arg0)) (m ((c : Thread nD τ).loc main_arg1)) (m ((c : Thread nD τ).loc main_arg2)) (row t a))
        ((row t a).val % 8192) (lane t b) * (if t.val % 12 < 2 then 1 else Ideal.ofBits FTy.f32 1031798784#32) := by
  rw [pay3_apply, prod_eq, prod_eq, blk3, blk4, col t, lane_mate]
  simp only [turned, lane_mod, lane_even, row_mod]
  refine congrArg₂ (· * ·) (congrArg₂ (· + ·) rfl ?_) rfl
  by_cases p : b.val % 2 = 0
  · simp only [if_pos p]
    rw [mul_neg, mul_one, mul_neg, neg_mul]
  · simp only [if_neg p]
    rw [mul_one]

/-- The call's result array is the reference's result. -/
theorem final (c : Dev nD) : (dats m 0 c).arrAt 5 cfg0.N
    = Cert.RotatedIdeal.Read.val_main_v86 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  obtain ⟨a, b, rfl⟩ : ∃ a b, y = ix2 a b := ⟨y 0, y 1, eq_ix2 y⟩
  have hx : ((cfg0.win 5).blk t).view.emb (ix2 a b) = ix2 (row t a) (lane t b) := by
    blk_ext [idx t, row, lane]
  blk_simp
  refine Eq.trans ?_ (congrArg (Cert.RotatedIdeal.Read.val_main_v86 (F := Ideal) _ _ _) hx.symm)
  rw [after0_5, Cert.RotatedIdeal.Hand.ref_apply]
  have hl : (lane t b).val = t.val % 12 * 512 + b.val := rfl
  by_cases h : t.val % 12 ≤ 3
  · rw [out_turned m c t h, turned_apply]
    by_cases h2 : t.val % 12 < 2
    · rw [if_pos h2, if_pos (show (lane t b).val < 1024 by omega), mul_one]
    · rw [if_neg h2, if_neg (show ¬ (lane t b).val < 1024 by omega), if_pos (show (lane t b).val < 2048 by omega)]
  · rw [out_plain m c t h, pay4_apply, prod_eq, if_neg (show ¬ (lane t b).val < 1024 by omega),
      if_neg (show ¬ (lane t b).val < 2048 by omega)]

end Cert.RetProjIdeal.Hand

end
-- ==== Proof.StepClaims.lean ====
/- The claims about the retention's input projection and about its one-token step. -/
module

public import proofs.«01_k».proof.Defs
public import proofs.«01_k».proof.Proof.Gen.RetStep.Frame
public import proofs.«01_k».proof.Proof.Gen.RetStepIdeal.Frame
public import proofs.«01_k».proof.Proof.Gen.RetStepIdeal.Value
public import proofs.«01_k».proof.Proof.Gen.StepRefIdeal.Run
public import proofs.«01_k».proof.Proof.Gen.StepRefIdeal.Read
public import proofs.«01_k».proof.Proof.Gen.RetProj.Frame
public import proofs.«01_k».proof.Proof.Gen.RetProjIdeal.Frame
public import proofs.«01_k».proof.Proof.Gen.RetProjIdeal.Value
public import proofs.«01_k».proof.Proof.Gen.RotatedIdeal.Run
public import proofs.«01_k».proof.Proof.Gen.RotatedIdeal.Read
public import proofs.«01_k».proof.Proof.StepValue
public import proofs.«01_k».proof.Proof.RotValue
public import Idealize.ShloMosaic.Lib.Quiescent

@[expose] public section

noncomputable section

namespace Cert.Proof

open Idealize.ShloMosaic Idealize.ShloMosaic.TcCoe Idealize.SL.Sem

/-- The reference of the retention step terminates, keeps its arguments and uses no semaphore. -/
theorem stepRef_frame : Cert.quiescent_StepRefIdeal := fun m g _ =>
  (θ_run _ _ _).mono (fun r h => ⟨fun c => (h c).2.2, sem_eq_zero_of_no_sems (by decide) r.2⟩) (Cert.StepRefIdeal.Value.run m g)

/-- The retention step and its reference end with the same two results. -/
theorem step : Cert.algebraic_RetStepIdeal_StepRefIdeal := fun m g m' g' _ hag =>
  ⟨fun c => Cert.StepRefIdeal.Read.val_main_v53 (F := Ideal) (m' ((c.tc : Thread Cert.StepRefIdeal.nD Cert.StepRefIdeal.τ).loc Cert.StepRefIdeal.main_arg0))
      (m' ((c.tc : Thread Cert.StepRefIdeal.nD Cert.StepRefIdeal.τ).loc Cert.StepRefIdeal.main_arg1))
      (m' ((c.tc : Thread Cert.StepRefIdeal.nD Cert.StepRefIdeal.τ).loc Cert.StepRefIdeal.main_arg2))
      (m' ((c.tc : Thread Cert.StepRefIdeal.nD Cert.StepRefIdeal.τ).loc Cert.StepRefIdeal.main_arg3))
      (m' ((c.tc : Thread Cert.StepRefIdeal.nD Cert.StepRefIdeal.τ).loc Cert.StepRefIdeal.main_arg4)),
    fun c => Cert.StepRefIdeal.Read.val_main_v31 (F := Ideal) (m' ((c.tc : Thread Cert.StepRefIdeal.nD Cert.StepRefIdeal.τ).loc Cert.StepRefIdeal.main_arg1))
      (m' ((c.tc : Thread Cert.StepRefIdeal.nD Cert.StepRefIdeal.τ).loc Cert.StepRefIdeal.main_arg2))
      (m' ((c.tc : Thread Cert.StepRefIdeal.nD Cert.StepRefIdeal.τ).loc Cert.StepRefIdeal.main_arg4)),
    (θ_run _ _ _).mono (fun r h c => ⟨(h c).1.trans ((Cert.RetStepIdeal.Hand.final6 m c).trans
        (by dsimp only; rw [(hag c).1, (hag c).2.1, (hag c).2.2.1, (hag c).2.2.2.1, (hag c).2.2.2.2])),
      (h c).2.1.trans ((Cert.RetStepIdeal.Hand.final7 m c).trans
        (by dsimp only; rw [(hag c).2.1, (hag c).2.2.1, (hag c).2.2.2.2])), (h c).2.2⟩) (Cert.RetStepIdeal.Value.run_blocks m g),
    (θ_run _ _ _).mono (fun r h c => ⟨(h c).1.trans (Cert.StepRefIdeal.Read.val_main_v53_eq m' c),
      (h c).2.1.trans (Cert.StepRefIdeal.Read.val_main_v31_eq _ _ _).symm, (h c).2.2⟩)
      (Cert.StepRefIdeal.Value.run m' g')⟩

/-- The reference of the retention's input projection terminates, keeps its arguments and uses no semaphore. -/
theorem rotated_frame : Cert.quiescent_RotatedIdeal := fun m g _ =>
  (θ_run _ _ _).mono (fun r h => ⟨fun c => (h c).2, sem_eq_zero_of_no_sems (by decide) r.2⟩) (Cert.RotatedIdeal.Value.run m g)

/-- The retention's input projection and its reference end with the same result. -/
theorem rotated : Cert.algebraic_RetProjIdeal_RotatedIdeal := fun m g m' g' _ hag =>
  ⟨fun c => Cert.RotatedIdeal.Read.val_main_v86 (F := Ideal) (m' ((c.tc : Thread Cert.RotatedIdeal.nD Cert.RotatedIdeal.τ).loc Cert.RotatedIdeal.main_arg0))
      (m' ((c.tc : Thread Cert.RotatedIdeal.nD Cert.RotatedIdeal.τ).loc Cert.RotatedIdeal.main_arg1))
      (m' ((c.tc : Thread Cert.RotatedIdeal.nD Cert.RotatedIdeal.τ).loc Cert.RotatedIdeal.main_arg2)),
    (θ_run _ _ _).mono (fun r h c => ⟨(h c).1.trans ((Cert.RetProjIdeal.Hand.final m c).trans
        (by dsimp only; rw [(hag c).1, (hag c).2.1, (hag c).2.2])), (h c).2⟩) (Cert.RetProjIdeal.Value.run_blocks m g),
    (θ_run _ _ _).mono (fun r h c => ⟨(h c).1.trans (Cert.RotatedIdeal.Read.val_main_v86_eq m' c), (h c).2⟩)
      (Cert.RotatedIdeal.Value.run m' g')⟩

end Cert.Proof

end
-- ==== Proof.RetScanValue.lean ====
/-
  What the retention call leaves in its two result arrays, at an index.

  The call walks 2 sequences by 4 heads by 64 chunks.  A scratch array carries one head's state from chunk to chunk;
  every point writes its chunk's gated output, and the last chunk also writes the state.
-/
module

public import proofs.«01_k».proof.Proof.Gen.RetScanIdeal.Frame
public import proofs.«01_k».proof.Proof.RetentionSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RetScanIdeal.Hand

open Cert.RetScanIdeal Cert.RetScanIdeal.Gen

variable (m : (ℓ : Loc nD τ sig) → Buf (Elt Ideal) ℓ)

/-- The block each window is on at grid point `t`: sequence `t / 256`, head `t / 64 % 4`, chunk `t % 64`. -/
theorem idx : ∀ t : Fin cfg0.N, win0_0.index t = ![0]
    ∧ win0_1.index t = ![64 * (t.val / 256) + t.val % 64, t.val / 64 % 4]
    ∧ win0_2.index t = ![64 * (t.val / 256) + t.val % 64, t.val / 64 % 4 + 4]
    ∧ win0_3.index t = ![64 * (t.val / 256) + t.val % 64, t.val / 64 % 4 + 4]
    ∧ win0_4.index t = ![64 * (t.val / 256) + t.val % 64, t.val / 64 % 4 + 8]
    ∧ win0_5.index t = ![t.val / 64 % 4, 0, 0] ∧ win0_6.index t = ![t.val / 64 % 4, 0, 0]
    ∧ win0_7.index t = ![t.val / 64 % 4, 0, 0]
    ∧ win0_8.index t = ![64 * (t.val / 256) + t.val % 64, t.val / 64 % 4]
    ∧ win0_9.index t = ![t.val / 256, t.val / 64 % 4, 0, 0] :=
  (by decide +kernel : ∀ t : Fin grid0.N, _)

/-- Where the head's decay is read in its table. -/
theorem off : ∀ t : Fin cfg0.N, k0_off1 (grid0.coords t) = ![t.val / 64 % 4] :=
  (by decide +kernel : ∀ t : Fin grid0.N, k0_off1 (grid0.coords t) = ![t.val / 64 % 4])

theorem lt512 (t : Fin cfg0.N) : t.val < 512 := lt_of_lt_of_eq t.isLt (show cfg0.N = 512 from N_0)

/-- The sequence and the head of a point. -/
def seq (t : Fin cfg0.N) : Fin 2 := ⟨t.val / 256, by have := lt512 t; omega⟩
def head (t : Fin cfg0.N) : Fin 4 := ⟨t.val / 64 % 4, by omega⟩

/-- The table of decays within a chunk. -/
theorem tab_din (c : Dev nD) (j : S4x128x128.Idx) : V m c main_v25 j = Spec.din (j 0) (j 1) (j 2) := by
  simp only [V, List.flatten_cons, List.flatten_nil, List.append_nil, StableHlo.after_append]
  entry_read
  simp only [StableHlo.TRef.ofBuf_toBuf, StableHlo.TRef.ofBuf, StableHlo.TRef.toBuf, StableHlo.TRef.of, cast_eq]
  pointwise [Spec.din, Spec.lg, Spec.num]

/-- The table of decays from a chunk's start. -/
theorem tab_dq (c : Dev nD) (j : S4x128x1.Idx) : V m c main_v34 j = Spec.dq (j 0) (j 1) := by
  simp only [V, List.flatten_cons, List.flatten_nil, List.append_nil, StableHlo.after_append]
  entry_read
  pointwise [Spec.dq, Spec.lg, Spec.num]

/-- The table of decays to a chunk's end. -/
theorem tab_dk (c : Dev nD) (j : S4x128x1.Idx) : V m c main_v43 j = Spec.dk (j 0) (j 1) := by
  simp only [V, List.flatten_cons, List.flatten_nil, List.append_nil, StableHlo.after_append]
  entry_read
  pointwise [Spec.dk, Spec.lg, Spec.num]

/-- The table of decays across a chunk. -/
theorem tab_dc (c : Dev nD) (j : S4.Idx) : V m c main_v46 j = Spec.dc (j 0) := by
  simp only [V, List.flatten_cons, List.flatten_nil, List.append_nil, StableHlo.after_append]
  entry_read
  pointwise [Spec.dc, Spec.lg, Spec.num]

/-- The rows the call is given. -/
abbrev rows (c : Dev nD) : Spec.Rows := m ((c : Thread nD τ).loc main_arg0)

theorem mod64 (t : Fin cfg0.N) : t.val % 64 < 64 := Nat.mod_lt _ (by decide)

theorem blk_q (c : Dev nD) (t : Fin cfg0.N) (i d) : (iblk m c 1 t : Vec Ideal S128x256 .bf16) (ix2 i d)
    = rows m c (ix2 (Spec.row (seq t) (t.val % 64) (mod64 t) i) (Spec.qcol (head t) d)) := by
  blk_ext [iblk, V, idx t, seq, head, Spec.row, Spec.qcol]

theorem blk_k (c : Dev nD) (t : Fin cfg0.N) (i d) : (iblk m c 2 t : Vec Ideal S128x256 .bf16) (ix2 i d)
    = rows m c (ix2 (Spec.row (seq t) (t.val % 64) (mod64 t) i) (Spec.kcol (head t) d)) := by
  blk_ext [iblk, V, idx t, seq, head, Spec.row, Spec.kcol]

theorem blk_v (c : Dev nD) (t : Fin cfg0.N) (i e) : (iblk m c 3 t : Vec Ideal S128x512 .bf16) (ix2 i e)
    = rows m c (ix2 (Spec.row (seq t) (t.val % 64) (mod64 t) i) (Spec.vcol (head t) e)) := by
  blk_ext [iblk, V, idx t, seq, head, Spec.row, Spec.vcol]

theorem blk_g (c : Dev nD) (t : Fin cfg0.N) (i e) : (iblk m c 4 t : Vec Ideal S128x512 .bf16) (ix2 i e)
    = rows m c (ix2 (Spec.row (seq t) (t.val % 64) (mod64 t) i) (Spec.gcol (head t) e)) := by
  blk_ext [iblk, V, idx t, seq, head, Spec.row, Spec.gcol]

theorem blk_din (c : Dev nD) (t : Fin cfg0.N) (i j) : (iblk m c 5 t : Vec Ideal S1x128x128 .f32) (ix3 0 i j)
    = Spec.din (head t) i j := by
  refine Eq.trans ?_ (tab_din m c (ix3 (head t) i j))
  blk_ext [iblk, idx t, head]

theorem blk_dq (c : Dev nD) (t : Fin cfg0.N) (i) : (iblk m c 6 t : Vec Ideal S1x128x1 .f32) (ix3 0 i 0)
    = Spec.dq (head t) i := by
  refine Eq.trans ?_ (tab_dq m c (ix3 (head t) i 0))
  blk_ext [iblk, idx t, head]

theorem blk_dk (c : Dev nD) (t : Fin cfg0.N) (i) : (iblk m c 7 t : Vec Ideal S1x128x1 .f32) (ix3 0 i 0)
    = Spec.dk (head t) i := by
  refine Eq.trans ?_ (tab_dk m c (ix3 (head t) i 0))
  blk_ext [iblk, idx t, head]

theorem blk_dc0 (c : Dev nD) (t : Fin cfg0.N) (i) : (iblk m c 0 t : Vec Ideal S4 .f32) i = Spec.dc (i 0) := by
  refine Eq.trans ?_ (tab_dc m c i)
  blk_ext [iblk, idx t, head]

theorem blk_dc (c : Dev nD) (t : Fin cfg0.N) (h) (h') :
    View.ld (iblk m c 0 t) (Rect.unit (k0_off1 (grid0.coords t)) ![1] h) (Shape.Idx.first h') = Spec.dc (head t) := by
  refine (blk_dc0 m c t _).trans (congrArg Spec.dc (Fin.ext ?_))
  show (k0_off1 (grid0.coords t)) 0 + 0 * 1 = _
  rw [off t]
  rfl

/-- One chunk's output, from the state before it. -/
theorem pay2_apply (q k : Vec Ideal S128x256 .bf16) (v : Vec Ideal S128x512 .bf16) (s : Vec Ideal S256x512 .f32)
    (a : Vec Ideal S1x128x128 .f32) (d : Vec Ideal S1x128x1 .f32) (j : S128x512.Idx) : k0_pay2 q k v s a d j
    = ∑ x, (∑ y, q (ix2 (j 0) y) * k (ix2 x y)) * a (ix3 0 (j 0) x) * v (ix2 x (j 1))
      + (∑ x, q (ix2 (j 0) x) * s (ix2 x (j 1))) * d (ix3 0 (j 0) 0) := by
  pointwise [k0_pay2]

/-- The state after one chunk, from the state before it. -/
theorem pay4_apply (v : Vec Ideal S128x512 .bf16) (s : Vec Ideal S256x512 .f32) (k : Vec Ideal S128x256 .bf16)
    (d : Vec Ideal S1x128x1 .f32) (g : Elt Ideal .f32) (j : S256x512.Idx) : k0_pay4 v s (k0_pay3 k) d g j
    = s j * g + ∑ x, k (ix2 x (j 0)) * d (ix3 0 x 0) * v (ix2 x (j 1)) := by
  pointwise [k0_pay4, k0_pay3]

/-- The gated, normalised output. -/
theorem pay7_apply (o : Vec Ideal S128x512 .f32) (g : Vec Ideal S128x512 .bf16) (j : S128x512.Idx) :
    k0_pay7 o g j = Spec.gated (fun e => o (ix2 (j 0) e)) (g j) (j 1) := by
  pointwise [k0_pay7, Spec.gated]

/-- The two stores of the new state hold the same numbers. -/
theorem pay5_apply (v : Vec Ideal S128x512 .bf16) (s : Vec Ideal S256x512 .f32) (k : FVec Ideal S128x256 .f32)
    (d : Vec Ideal S1x128x1 .f32) (g : Elt Ideal .f32) (j : S256x512.Idx) : k0_pay5 v s k d g j = k0_pay4 v s k d g j := by
  pointwise [k0_pay5, k0_pay4]

theorem pay6_apply (v : Vec Ideal S128x512 .bf16) (s : Vec Ideal S256x512 .f32) (k : FVec Ideal S128x256 .f32)
    (d : Vec Ideal S1x128x1 .f32) (g : Elt Ideal .f32) (j : S1x1x256x512.Idx) :
    k0_pay6 v s k d g j = k0_pay4 v s k d g (ix2 (j 2) (j 3)) := by
  pointwise [k0_pay6, k0_pay4]

theorem zero_apply (j) : k0_pay1 (F := Ideal) j = 0 := by pointwise [k0_pay1]

/-- The state before a chunk depends on the chunk's number alone. -/
theorem state_congr (P : Spec.Rows) (b : Fin 2) (h : Fin 4) {n n' : ℕ} (hn : n ≤ 64) (hn' : n' ≤ 64) (e : n = n') :
    Spec.state P b h n hn = Spec.state P b h n' hn' := by
  subst e
  rfl

/-- What one point leaves, from a state `s`: the gated output, the state after it and, at the last chunk, that state again. -/
def Leaves (c : Dev nD) (t : Fin cfg0.N) (s : Vec Ideal S256x512 .f32) : Prop :=
  (outsAt0 m c t.val t.isLt).1
      = k0_pay7 (k0_pay2 (iblk m c 1 t) (iblk m c 2 t) (iblk m c 3 t) s (iblk m c 5 t) (iblk m c 6 t)) (iblk m c 4 t)
    ∧ (∀ j, (outsAt0 m c t.val t.isLt).2.2 j = k0_pay4 (iblk m c 3 t) s (k0_pay3 (iblk m c 2 t)) (iblk m c 7 t) (Spec.dc (head t)) j)
    ∧ (t.val % 64 = 63 → ∀ j : S1x1x256x512.Idx, (outsAt0 m c t.val t.isLt).2.1 j
      = k0_pay4 (iblk m c 3 t) s (k0_pay3 (iblk m c 2 t)) (iblk m c 7 t) (Spec.dc (head t)) (ix2 (j 2) (j 3)))

/-- At a head's first chunk the state is cleared. -/
theorem leaves_first (c : Dev nD) (t : Fin cfg0.N) (h0 : t.val % 64 = 0) : Leaves m c t (k0_pay1 (F := Ideal)) := by
  refine ⟨?_, ?_, fun h => by omega⟩
  · rw [outsAt0_A m c t h0 (by omega)]
    frame_out
  · intro j
    rw [outsAt0_A m c t h0 (by omega)]
    frame_out
    rw [blk_dc, pay5_apply]

/-- At a later chunk the state is what the chunk before left. -/
theorem leaves_next (c : Dev nD) (t : Fin cfg0.N) (h0 : ¬ t.val % 64 = 0) (hp : t.val - 1 < cfg0.N) :
    Leaves m c t (outsAt0 m c (t.val - 1) hp).2.2 := by
  by_cases h1 : t.val % 64 = 63
  · refine ⟨?_, ?_, fun _ => ?_⟩
    · rw [outsAt0_C m c t h0 h1]
      frame_out
      exact congrArg (fun s => k0_pay7 (k0_pay2 _ _ _ s _ _) _) (Memref.IsWhole.read_unread _ _)
    · intro j
      rw [outsAt0_C m c t h0 h1]
      frame_out
      rw [blk_dc]
      rw [pay5_apply]
      exact congrArg (fun s : Vec Ideal S256x512 .f32 => k0_pay4 (iblk m c 3 t) s (k0_pay3 (iblk m c 2 t)) (iblk m c 7 t) (Spec.dc (head t)) j) (Memref.IsWhole.read_unread _ _)
    · intro j
      rw [outsAt0_C m c t h0 h1]
      frame_out
      rw [blk_dc]
      rw [pay6_apply]
      exact congrArg (fun s : Vec Ideal S256x512 .f32 => k0_pay4 (iblk m c 3 t) s (k0_pay3 (iblk m c 2 t)) (iblk m c 7 t) (Spec.dc (head t)) (ix2 (j 2) (j 3))) (Memref.IsWhole.read_unread _ _)
  · refine ⟨?_, ?_, fun h => absurd h h1⟩
    · rw [outsAt0_B m c t h0 h1]
      frame_out
      exact congrArg (fun s => k0_pay7 (k0_pay2 _ _ _ s _ _) _) (Memref.IsWhole.read_unread _ _)
    · intro j
      rw [outsAt0_B m c t h0 h1]
      frame_out
      rw [blk_dc]
      rw [pay5_apply]
      exact congrArg (fun s : Vec Ideal S256x512 .f32 => k0_pay4 (iblk m c 3 t) s (k0_pay3 (iblk m c 2 t)) (iblk m c 7 t) (Spec.dc (head t)) j) (Memref.IsWhole.read_unread _ _)

/-- The state after a chunk is the specification's when the state before it is. -/
theorem next_state (c : Dev nD) (t : Fin cfg0.N) (s : Vec Ideal S256x512 .f32)
    (hs : ∀ d e, s (ix2 d e) = Spec.state (rows m c) (seq t) (head t) (t.val % 64) (Nat.le_of_lt (mod64 t)) d e) (j) :
    k0_pay4 (iblk m c 3 t) s (k0_pay3 (iblk m c 2 t)) (iblk m c 7 t) (Spec.dc (head t)) j
      = Spec.state (rows m c) (seq t) (head t) (t.val % 64 + 1) (mod64 t) (j 0) (j 1) := by
  rw [pay4_apply]
  refine congrArg₂ (· + ·) (congrArg (· * _) ?_) (Finset.sum_congr rfl fun x _ => ?_)
  · refine Eq.trans ?_ (hs (j 0) (j 1))
    blk_ext []
  · exact congrArg₂ (· * ·) (congrArg₂ (· * ·) (blk_k m c t x (j 0)) (blk_dk m c t x)) (blk_v m c t x (j 1))

/-- Every point starts from the specification's state before its chunk. -/
theorem point (c : Dev nD) : ∀ (n : ℕ) (hn : n < cfg0.N), ∃ s : Vec Ideal S256x512 .f32, Leaves m c ⟨n, hn⟩ s
    ∧ ∀ d e, s (ix2 d e) = Spec.state (rows m c) (seq ⟨n, hn⟩) (head ⟨n, hn⟩) (n % 64) (Nat.le_of_lt (mod64 ⟨n, hn⟩)) d e := by
  intro n
  induction n with
  | zero =>
    intro hn
    exact ⟨_, leaves_first m c ⟨0, hn⟩ rfl, fun d e => zero_apply _⟩
  | succ n ih =>
    intro hn
    by_cases h0 : (n + 1) % 64 = 0
    · refine ⟨_, leaves_first m c ⟨n + 1, hn⟩ h0, fun d e => ?_⟩
      rw [zero_apply, state_congr (n := (n + 1) % 64) (n' := 0) _ _ _ _ (by decide) h0]
      rfl
    · have hp : n < cfg0.N := Nat.lt_of_succ_lt hn
      refine ⟨_, leaves_next m c ⟨n + 1, hn⟩ h0 hp, fun d e => ?_⟩
      obtain ⟨s, hl, hs⟩ := ih hp
      have e1 : seq ⟨n, hp⟩ = seq ⟨n + 1, hn⟩ := Fin.ext (show n / 256 = (n + 1) / 256 by omega)
      have e2 : head ⟨n, hp⟩ = head ⟨n + 1, hn⟩ := Fin.ext (show n / 64 % 4 = (n + 1) / 64 % 4 by omega)
      have := (hl.2.1 (ix2 d e)).trans (next_state m c ⟨n, hp⟩ s hs (ix2 d e))
      rw [e1, e2, state_congr (n := n % 64 + 1) (n' := (n + 1) % 64) _ _ _ _ (Nat.le_of_lt (mod64 ⟨n + 1, hn⟩)) (by omega)] at this
      exact this

/-- A chunk's output is the specification's when the state before it is. -/
theorem chunk_out (c : Dev nD) (t : Fin cfg0.N) (s : Vec Ideal S256x512 .f32)
    (hs : ∀ d e, s (ix2 d e) = Spec.state (rows m c) (seq t) (head t) (t.val % 64) (Nat.le_of_lt (mod64 t)) d e)
    (i : Fin 128) (e : Fin 512) :
    k0_pay2 (iblk m c 1 t) (iblk m c 2 t) (iblk m c 3 t) s (iblk m c 5 t) (iblk m c 6 t) (ix2 i e)
      = Spec.out (rows m c) (seq t) (head t) (t.val % 64) (mod64 t) i e := by
  rw [pay2_apply]
  exact congrArg₂ (· + ·)
    (Finset.sum_congr rfl fun x _ => congrArg₂ (· * ·) (congrArg₂ (· * ·)
      (Finset.sum_congr rfl fun z _ => congrArg₂ (· * ·) (blk_q m c t i z) (blk_k m c t x z)) (blk_din m c t i x)) (blk_v m c t x e))
    (congrArg₂ (· * ·) (Finset.sum_congr rfl fun x _ => congrArg₂ (· * ·) (blk_q m c t i x) (hs x e)) (blk_dq m c t i))

/-- The specification's first result at a position of a chunk and a lane of a head. -/
theorem result_at (P : Spec.Rows) (b : Fin 2) (h : Fin 4) (n : ℕ) (hn : n < 64) (i : Fin 128) (e : Fin 512) :
    Spec.result P (ix2 (Spec.row b n hn i) ⟨512 * h.val + e.val, by omega⟩)
      = Spec.gated (Spec.out P b h n hn i) (P (ix2 (Spec.row b n hn i) (Spec.gcol h e))) e := by
  have hb : (⟨(8192 * b.val + 128 * n + i.val) / 8192, by omega⟩ : Fin 2) = b := Fin.ext (by dsimp only; omega)
  have hh : (⟨(512 * h.val + e.val) / 512, by omega⟩ : Fin 4) = h := Fin.ext (by dsimp only; omega)
  have hn' : (8192 * b.val + 128 * n + i.val) % 8192 / 128 = n := by omega
  have hi : (⟨(8192 * b.val + 128 * n + i.val) % 8192 % 128, by omega⟩ : Fin 128) = i := Fin.ext (by dsimp only; omega)
  have he : (⟨(512 * h.val + e.val) % 512, by omega⟩ : Fin 512) = e := Fin.ext (by dsimp only; omega)
  have hg : (⟨4096 + (512 * h.val + e.val), by omega⟩ : Fin 6144) = Spec.gcol h e := Fin.ext (by simp only [Spec.gcol]; omega)
  have ho : ∀ n' (hn1 : n' < 64), n' = n → Spec.out P b h n' hn1 i = Spec.out P b h n hn i := by
    intro n' hn1 e
    subst e
    rfl
  show Spec.gated (Spec.out P ⟨(8192 * b.val + 128 * n + i.val) / 8192, _⟩ ⟨(512 * h.val + e.val) / 512, _⟩
    ((8192 * b.val + 128 * n + i.val) % 8192 / 128) _ ⟨(8192 * b.val + 128 * n + i.val) % 8192 % 128, _⟩)
    (P (ix2 (Spec.row b n hn i) ⟨4096 + (512 * h.val + e.val), _⟩)) ⟨(512 * h.val + e.val) % 512, _⟩ = _
  rw [hb, hh, hi, he, hg]
  exact congrArg (fun o => Spec.gated o _ _) (ho _ _ hn')

/-- The call's first result is the specification's, at every row and column. -/
theorem final8 (c : Dev nD) : (dats m 0 c).arrAt 8 cfg0.N = Spec.result (rows m c) := by
  refine (dats m 0 c).arrAt_eq_of_covers 8 _ (by decide +kernel) fun t hf y => ?_
  obtain ⟨s, hl, hs⟩ := point m c t.val t.isLt
  have hg : (iblk m c 4 t : Vec Ideal S128x512 .bf16) y = rows m c (ix2 (Spec.row (seq t) (t.val % 64) (mod64 t) (y 0)) (Spec.gcol (head t) (y 1))) := by
    refine Eq.trans ?_ (blk_g m c t (y 0) (y 1))
    blk_ext []
  blk_simp
  rw [after0_8, hl.1, pay7_apply]
  refine (congrArg₂ (fun o g => Spec.gated o g (y 1)) (funext fun e => chunk_out m c t s hs (y 0) e) hg).trans
    ((result_at (rows m c) (seq t) (head t) (t.val % 64) (mod64 t) (y 0) (y 1)).symm.trans ?_)
  blk_ext [idx t, seq, head, Spec.row]

/-- The call's second result is the specification's state after the last chunk. -/
theorem final9 (c : Dev nD) : (dats m 0 c).arrAt 9 cfg0.N = Spec.last (rows m c) := by
  refine (dats m 0 c).arrAt_eq_of_covers 9 _ (by decide +kernel) fun t hf y => ?_
  have h1 : t.val % 64 = 63 := (flush0_9 t).mp hf
  obtain ⟨s, hl, hs⟩ := point m c t.val t.isLt
  blk_simp
  rw [after0_9, hl.2.2 h1, next_state m c t s hs]
  rw [state_congr (n := t.val % 64 + 1) (n' := 64) _ _ _ _ (le_refl 64) (by omega)]
  show Spec.last (rows m c) (ix4 (seq t) (head t) (y 2) (y 3)) = _
  blk_ext [idx t, seq, head]

end Cert.RetScanIdeal.Hand

end
-- ==== Proof.RetentionValue.lean ====
/-
  What the retention's formula, a loop over chunks, leaves in its two results, at an index.
-/
module

public import proofs.«01_k».proof.Proof.Gen.RetentionIdeal.Run
public import proofs.«01_k».proof.Proof.RetentionSpec
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Idealize.ShloMosaic.StableHlo

namespace Cert.RetentionIdeal.Hand

open Cert.RetentionIdeal Cert.RetentionIdeal.Gen Cert.RetentionIdeal.Value

variable (m : (ℓ : Loc nD τ sig) → Buf (Elt Ideal) ℓ)

/-- The rows the formula is given. -/
abbrev rows (c : Dev nD) : Spec.Rows := m ((c : Thread nD τ).loc main_arg0)

/-- The queries cut out of the rows and laid out by chunk, sequence, head, position and lane. -/
theorem lay_q (P : FVec Ideal S16384x6144 .bf16) (j : S64x2x4x128x256.Idx) :
    transpose S64x2x4x128x256 [1, 0, 3, 2, 4] (shapeCast S2x64x128x4x256 (shapeCast S2x8192x4x256
      (extractStridedSlice S2x8192x1024 ![0, 0, 0] (shapeCast S2x8192x6144 (extf .f32 P bitsLt_bf16_f32) shapeCasts_S16384x6144_S2x8192x6144)
        slices_S2x8192x6144_S2x8192x1024_0_0_0) shapeCasts_S2x8192x1024_S2x8192x4x256) shapeCasts_S2x8192x4x256_S2x64x128x4x256)
      transposes_S2x64x128x4x256_S64x2x4x128x256_1_0_3_2_4 j
    = P (ix2 (Spec.row (j 1) (j 0).val (j 0).isLt (j 3)) (Spec.qcol (j 2) (j 4))) := by
  pointwise
  refine congrArg P (congrArg₂ ix2 (Fin.ext ?_) (Fin.ext ?_)) <;> simp only [Spec.row, Spec.qcol] <;> omega

/-- The queries the loop starts with. -/
theorem entry_q (c : Dev nD) (j : S64x2x4x128x256.Idx) : entryContents preI m c (Proc.devRef .tc main_v61_0) j
    = rows m c (ix2 (Spec.row (j 1) (j 0).val (j 0).isLt (j 3)) (Spec.qcol (j 2) (j 4))) := by
  simp only [entryContents, afterL_eq_after_flatten, preI, List.flatten_cons, List.flatten_nil, List.append_nil, StableHlo.after_append]
  entry_read
  exact lay_q (m ((c : Thread nD τ).loc main_arg0)) j

/-- The keys cut out of the rows and laid out by chunk, sequence, head, position and lane. -/
theorem lay_k (P : FVec Ideal S16384x6144 .bf16) (j : S64x2x4x128x256.Idx) :
    transpose S64x2x4x128x256 [1, 0, 3, 2, 4] (shapeCast S2x64x128x4x256 (shapeCast S2x8192x4x256
      (extractStridedSlice S2x8192x1024 ![0, 0, 1024] (shapeCast S2x8192x6144 (extf .f32 P bitsLt_bf16_f32) shapeCasts_S16384x6144_S2x8192x6144)
        slices_S2x8192x6144_S2x8192x1024_0_0_1024) shapeCasts_S2x8192x1024_S2x8192x4x256) shapeCasts_S2x8192x4x256_S2x64x128x4x256)
      transposes_S2x64x128x4x256_S64x2x4x128x256_1_0_3_2_4 j
    = P (ix2 (Spec.row (j 1) (j 0).val (j 0).isLt (j 3)) (Spec.kcol (j 2) (j 4))) := by
  pointwise
  refine congrArg P (congrArg₂ ix2 (Fin.ext ?_) (Fin.ext ?_)) <;> simp only [Spec.row, Spec.kcol] <;> omega

/-- The keys the loop starts with. -/
theorem entry_k (c : Dev nD) (j : S64x2x4x128x256.Idx) : entryContents preI m c (Proc.devRef .tc main_v61_1) j
    = rows m c (ix2 (Spec.row (j 1) (j 0).val (j 0).isLt (j 3)) (Spec.kcol (j 2) (j 4))) := by
  simp only [entryContents, afterL_eq_after_flatten, preI, List.flatten_cons, List.flatten_nil, List.append_nil, StableHlo.after_append]
  entry_read
  exact lay_k (m ((c : Thread nD τ).loc main_arg0)) j

/-- The values cut out of the rows and laid out by chunk, sequence, head, position and lane. -/
theorem lay_v (P : FVec Ideal S16384x6144 .bf16) (j : S64x2x4x128x512.Idx) :
    transpose S64x2x4x128x512 [1, 0, 3, 2, 4] (shapeCast S2x64x128x4x512 (shapeCast S2x8192x4x512
      (extractStridedSlice S2x8192x2048 ![0, 0, 2048] (shapeCast S2x8192x6144 (extf .f32 P bitsLt_bf16_f32) shapeCasts_S16384x6144_S2x8192x6144)
        slices_S2x8192x6144_S2x8192x2048_0_0_2048) shapeCasts_S2x8192x2048_S2x8192x4x512) shapeCasts_S2x8192x4x512_S2x64x128x4x512)
      transposes_S2x64x128x4x512_S64x2x4x128x512_1_0_3_2_4 j
    = P (ix2 (Spec.row (j 1) (j 0).val (j 0).isLt (j 3)) (Spec.vcol (j 2) (j 4))) := by
  pointwise
  refine congrArg P (congrArg₂ ix2 (Fin.ext ?_) (Fin.ext ?_)) <;> simp only [Spec.row, Spec.vcol] <;> omega

/-- The values the loop starts with. -/
theorem entry_v (c : Dev nD) (j : S64x2x4x128x512.Idx) : entryContents preI m c (Proc.devRef .tc main_v61_2) j
    = rows m c (ix2 (Spec.row (j 1) (j 0).val (j 0).isLt (j 3)) (Spec.vcol (j 2) (j 4))) := by
  simp only [entryContents, afterL_eq_after_flatten, preI, List.flatten_cons, List.flatten_nil, List.append_nil, StableHlo.after_append]
  entry_read
  exact lay_v (m ((c : Thread nD τ).loc main_arg0)) j

/-- The decays within a chunk. -/
theorem entry_din (c : Dev nD) (j : S4x128x128.Idx) : entryContents preI m c (Proc.devRef .tc main_v61_3) j
    = Spec.din (j 0) (j 1) (j 2) := by
  simp only [entryContents, afterL_eq_after_flatten, preI, List.flatten_cons, List.flatten_nil, List.append_nil, StableHlo.after_append]
  entry_read
  try dsimp only [id]
  simp only [StableHlo.TRef.ofBuf_toBuf, StableHlo.TRef.ofBuf, StableHlo.TRef.toBuf, StableHlo.TRef.of, cast_eq]
  pointwise [Spec.din, Spec.lg, Spec.num]

/-- The decays from a chunk's start. -/
theorem entry_dq (c : Dev nD) (j : S4x128.Idx) : entryContents preI m c (Proc.devRef .tc main_v61_4) j
    = Spec.dq (j 0) (j 1) := by
  simp only [entryContents, afterL_eq_after_flatten, preI, List.flatten_cons, List.flatten_nil, List.append_nil, StableHlo.after_append]
  entry_read
  try dsimp only [id]
  pointwise [Spec.dq, Spec.lg, Spec.num]

/-- The decays across a chunk. -/
theorem entry_dc (c : Dev nD) (j : S4.Idx) : entryContents preI m c (Proc.devRef .tc main_v61_5) j = Spec.dc (j 0) := by
  simp only [entryContents, afterL_eq_after_flatten, preI, List.flatten_cons, List.flatten_nil, List.append_nil, StableHlo.after_append]
  entry_read
  try dsimp only [id]
  pointwise [Spec.dc, Spec.lg, Spec.num]

/-- The decays to a chunk's end. -/
theorem entry_dk (c : Dev nD) (j : S4x128.Idx) : entryContents preI m c (Proc.devRef .tc main_v61_6) j
    = Spec.dk (j 0) (j 1) := by
  simp only [entryContents, afterL_eq_after_flatten, preI, List.flatten_cons, List.flatten_nil, List.append_nil, StableHlo.after_append]
  entry_read
  try dsimp only [id]
  pointwise [Spec.dk, Spec.lg, Spec.num]

/-- The state before the first chunk is zero. -/
theorem entry_state (c : Dev nD) (j : S2x4x256x512.Idx) : entryContents preI m c (Proc.devRef .tc main_v61_8) j = (0 : EReal) := by
  simp only [entryContents, afterL_eq_after_flatten, preI, List.flatten_cons, List.flatten_nil, List.append_nil, StableHlo.after_append]
  entry_read
  try dsimp only [id]
  pointwise

/-- One trip's slice of the queries, at the trip's number. -/
theorem slice_q (V0 : Valuation τ sig (Elt Ideal)) (n : ℕ) (hn : n < 64)
    (h7 : V0 (Proc.devRef .tc main_v61_7) = fun _ => BitVec.ofNat 32 n) (x : FVec Ideal S64x2x4x128x256 .f32)
    (hx : V0 (Proc.devRef .tc main_v61_0) = x) :
    res_main_while0b_v90 V0 = fun j : S2x4x128x256.Idx => x (ix5 ⟨n, hn⟩ (j 0) (j 1) (j 2) (j 3)) := by
  have hk : S64x2x4x128x256.Slices ![n, 0, 0, 0, 0] S1x2x4x128x256 := by
    refine ⟨rfl, fun a => ?_⟩
    fin_cases a
    · show n + 1 ≤ 64
      omega
    all_goals exact le_of_eq rfl
  unfold res_main_while0b_v90
  rw [h7, hx, WordCmp.dynamicSlice_eq_extract _ _ _ _ ![n, 0, 0, 0, 0] hk]
  · funext j
    pointwise
  · intro a
    fin_cases a
    · exact WordCmp.toInt_ofNat_of_lt (by omega)
    all_goals rfl

/-- One trip's slice of the keys, at the trip's number. -/
theorem slice_k (V0 : Valuation τ sig (Elt Ideal)) (n : ℕ) (hn : n < 64)
    (h7 : V0 (Proc.devRef .tc main_v61_7) = fun _ => BitVec.ofNat 32 n) (x : FVec Ideal S64x2x4x128x256 .f32)
    (hx : V0 (Proc.devRef .tc main_v61_1) = x) :
    res_main_while0b_v91 V0 = fun j : S2x4x128x256.Idx => x (ix5 ⟨n, hn⟩ (j 0) (j 1) (j 2) (j 3)) := by
  have hk : S64x2x4x128x256.Slices ![n, 0, 0, 0, 0] S1x2x4x128x256 := by
    refine ⟨rfl, fun a => ?_⟩
    fin_cases a
    · show n + 1 ≤ 64
      omega
    all_goals exact le_of_eq rfl
  unfold res_main_while0b_v91
  rw [h7, hx, WordCmp.dynamicSlice_eq_extract _ _ _ _ ![n, 0, 0, 0, 0] hk]
  · funext j
    pointwise
  · intro a
    fin_cases a
    · exact WordCmp.toInt_ofNat_of_lt (by omega)
    all_goals rfl

/-- One trip's slice of the values, at the trip's number. -/
theorem slice_v (V0 : Valuation τ sig (Elt Ideal)) (n : ℕ) (hn : n < 64)
    (h7 : V0 (Proc.devRef .tc main_v61_7) = fun _ => BitVec.ofNat 32 n) (x : FVec Ideal S64x2x4x128x512 .f32)
    (hx : V0 (Proc.devRef .tc main_v61_2) = x) :
    res_main_while0b_v92 V0 = fun j : S2x4x128x512.Idx => x (ix5 ⟨n, hn⟩ (j 0) (j 1) (j 2) (j 3)) := by
  have hk : S64x2x4x128x512.Slices ![n, 0, 0, 0, 0] S1x2x4x128x512 := by
    refine ⟨rfl, fun a => ?_⟩
    fin_cases a
    · show n + 1 ≤ 64
      omega
    all_goals exact le_of_eq rfl
  unfold res_main_while0b_v92
  rw [h7, hx, WordCmp.dynamicSlice_eq_extract _ _ _ _ ![n, 0, 0, 0, 0] hk]
  · funext j
    pointwise
  · intro a
    fin_cases a
    · exact WordCmp.toInt_ofNat_of_lt (by omega)
    all_goals rfl

/-- One trip's state: the state before it decayed, plus the trip's keys by its values. -/
theorem step_state (V0 : Valuation τ sig (Elt Ideal)) (s : FVec Ideal S2x4x256x512 .f32) (k : FVec Ideal S2x4x128x256 .f32)
    (v : FVec Ideal S2x4x128x512 .f32) (dc : FVec Ideal S4 .f32) (dk : FVec Ideal S4x128 .f32)
    (hs : V0 (Proc.devRef .tc main_v61_8) = s) (hk : res_main_while0b_v91 V0 = k) (hv : res_main_while0b_v92 V0 = v)
    (hdc : V0 (Proc.devRef .tc main_v61_5) = dc) (hdk : V0 (Proc.devRef .tc main_v61_6) = dk)
    (b : Fin 2) (h : Fin 4) (d : Fin 256) (e : Fin 512) :
    step_main_v61_8 V0 (ix4 b h d e) = s (ix4 b h d e) * dc (ix1 h)
      + ∑ x, k (ix4 b h x d) * dk (ix2 h x) * v (ix4 b h x e) := by
  unfold step_main_v61_8
  dsimp only [id]
  rw [hs, hk, hv, hdc, hdk]
  pointwise

/-- One trip's outputs: the trip's chunk of the stack is written, the others are kept. -/
theorem step_out (V0 : Valuation τ sig (Elt Ideal)) (n : ℕ) (hn : n < 64)
    (h7 : V0 (Proc.devRef .tc main_v61_7) = fun _ => BitVec.ofNat 32 n) (o : FVec Ideal S64x2x4x128x512 .f32)
    (s : FVec Ideal S2x4x256x512 .f32) (q k : FVec Ideal S2x4x128x256 .f32)
    (v : FVec Ideal S2x4x128x512 .f32) (a : FVec Ideal S4x128x128 .f32) (dq : FVec Ideal S4x128 .f32)
    (ho : V0 (Proc.devRef .tc main_v61_9) = o) (hs : V0 (Proc.devRef .tc main_v61_8) = s) (hq : res_main_while0b_v90 V0 = q)
    (hk : res_main_while0b_v91 V0 = k) (hv : res_main_while0b_v92 V0 = v)
    (ha : V0 (Proc.devRef .tc main_v61_3) = a) (hdq : V0 (Proc.devRef .tc main_v61_4) = dq)
    (n' : Fin 64) (b : Fin 2) (h : Fin 4) (i : Fin 128) (e : Fin 512) :
    step_main_v61_9 V0 (ix5 n' b h i e) = if n'.val = n then
      (∑ x, (∑ d, q (ix4 b h i d) * k (ix4 b h x d)) * a (ix3 h i x) * v (ix4 b h x e))
        + (∑ d, q (ix4 b h i d) * s (ix4 b h d e)) * dq (ix2 h i) else o (ix5 n' b h i e) := by
  have hw : S64x2x4x128x512.Slices ![n, 0, 0, 0, 0] S1x2x4x128x512 := by
    refine ⟨rfl, fun a => ?_⟩
    fin_cases a
    · show n + 1 ≤ 64
      omega
    all_goals exact le_of_eq rfl
  unfold step_main_v61_9
  dsimp only [id]
  rw [h7, ho, hs, hq, hk, hv, ha, hdq, WordCmp.dynamicUpdateSlice_eq_update _ _ _ _ ![n, 0, 0, 0, 0] hw]
  · pointwise
    by_cases hc : n'.val = n
    · rw [if_pos hc, dif_pos]
      intro a
      fin_cases a
      · exact ⟨le_of_eq hc.symm, show n'.val < n + 1 by omega⟩
      · exact ⟨Nat.zero_le _, show b.val < 0 + 2 by omega⟩
      · exact ⟨Nat.zero_le _, show h.val < 0 + 4 by omega⟩
      · exact ⟨Nat.zero_le _, show i.val < 0 + 128 by omega⟩
      · exact ⟨Nat.zero_le _, show e.val < 0 + 512 by omega⟩
    · rw [if_neg hc, dif_neg]
      intro ha
      have h0 : n ≤ n'.val ∧ n'.val < n + 1 := ha 0
      exact hc (by omega)
  · intro a
    fin_cases a
    · exact WordCmp.toInt_ofNat_of_lt (by omega)
    all_goals rfl

/-- The loop's contents before its trip `n`. -/
def at_ (c : Dev nD) (n : ℕ) : Valuation τ sig (Elt Ideal) := STEP^[n] (entryContents preI m c)

theorem at_succ (c : Dev nD) (n : ℕ) : at_ m c (n + 1) = STEP (at_ m c n) := Function.iterate_succ_apply' _ _ _

/-- What the loop never writes is as it was at its start. -/
theorem kept (c : Dev nD) (n : ℕ) : at_ m c n (Proc.devRef .tc main_v61_0) = entryContents preI m c (Proc.devRef .tc main_v61_0)
    ∧ at_ m c n (Proc.devRef .tc main_v61_1) = entryContents preI m c (Proc.devRef .tc main_v61_1)
    ∧ at_ m c n (Proc.devRef .tc main_v61_2) = entryContents preI m c (Proc.devRef .tc main_v61_2)
    ∧ at_ m c n (Proc.devRef .tc main_v61_3) = entryContents preI m c (Proc.devRef .tc main_v61_3)
    ∧ at_ m c n (Proc.devRef .tc main_v61_4) = entryContents preI m c (Proc.devRef .tc main_v61_4)
    ∧ at_ m c n (Proc.devRef .tc main_v61_5) = entryContents preI m c (Proc.devRef .tc main_v61_5)
    ∧ at_ m c n (Proc.devRef .tc main_v61_6) = entryContents preI m c (Proc.devRef .tc main_v61_6) := by
  induction n with
  | zero => exact ⟨rfl, rfl, rfl, rfl, rfl, rfl, rfl⟩
  | succ n ih =>
    rw [at_succ]
    exact ⟨(STEP_main_v61_0 _).trans ih.1, (STEP_main_v61_1 _).trans ih.2.1, (STEP_main_v61_2 _).trans ih.2.2.1,
      (STEP_main_v61_3 _).trans ih.2.2.2.1, (STEP_main_v61_4 _).trans ih.2.2.2.2.1, (STEP_main_v61_5 _).trans ih.2.2.2.2.2.1,
      (STEP_main_v61_6 _).trans ih.2.2.2.2.2.2⟩

/-- The loop's counter before its trip `n`. -/
theorem count (c : Dev nD) (n : ℕ) : at_ m c n (Proc.devRef .tc main_v61_7) = fun _ => BitVec.ofNat 32 n := by
  induction n with
  | zero => exact ctr_entry m c
  | succ n ih =>
    rw [at_succ, STEP_main_v61_7]
    unfold step_main_v61_7
    rw [ih]
    funext x
    exact WordCmp.addi_ofNat n 1

/-- The state before trip `n`. -/
theorem state (c : Dev nD) (n : ℕ) (hn : n ≤ 64) (b : Fin 2) (h : Fin 4) (d : Fin 256) (e : Fin 512) :
    (at_ m c n (Proc.devRef .tc main_v61_8) : FVec Ideal S2x4x256x512 .f32) (ix4 b h d e) = Spec.state (rows m c) b h n hn d e := by
  induction n generalizing d e with
  | zero => exact entry_state m c _
  | succ n ih =>
    have kp := kept m c n
    have h7 := count m c n
    rw [at_succ, STEP_main_v61_8]
    refine (step_state (at_ m c n) _ _ _ _ _ rfl (slice_k _ n hn h7 _ kp.2.1) (slice_v _ n hn h7 _ kp.2.2.1) kp.2.2.2.2.2.1
      kp.2.2.2.2.2.2 b h d e).trans ?_
    exact congrArg₂ (· + ·) (congrArg₂ (· * ·) (ih (Nat.le_of_lt hn) d e) (entry_dc m c (ix1 h)))
      (Finset.sum_congr rfl fun x _ => congrArg₂ (· * ·) (congrArg₂ (· * ·) (entry_k m c (ix5 ⟨n, hn⟩ b h x d))
        (entry_dk m c (ix2 h x))) (entry_v m c (ix5 ⟨n, hn⟩ b h x e)))

/-- The stack of outputs before trip `n`, at a chunk already done. -/
theorem stack (c : Dev nD) (n : ℕ) (hn : n ≤ 64) (k : Fin 64) (hk : k.val < n) (b : Fin 2) (h : Fin 4) (i : Fin 128) (e : Fin 512) :
    (at_ m c n (Proc.devRef .tc main_v61_9) : FVec Ideal S64x2x4x128x512 .f32) (ix5 k b h i e)
      = Spec.out (rows m c) b h k.val k.isLt i e := by
  induction n with
  | zero => exact absurd hk (Nat.not_lt_zero _)
  | succ n ih =>
    have kp := kept m c n
    have h7 := count m c n
    rw [at_succ, STEP_main_v61_9]
    refine (step_out (at_ m c n) n hn h7 _ _ _ _ _ _ _ rfl rfl (slice_q _ n hn h7 _ kp.1) (slice_k _ n hn h7 _ kp.2.1)
      (slice_v _ n hn h7 _ kp.2.2.1) kp.2.2.2.1 kp.2.2.2.2.1 k b h i e).trans ?_
    by_cases hc : k.val = n
    · rw [if_pos hc]
      obtain ⟨k, hk'⟩ := k
      dsimp only at hc
      subst hc
      exact congrArg₂ (· + ·) (Finset.sum_congr rfl fun x _ => congrArg₂ (· * ·) (congrArg₂ (· * ·)
          (Finset.sum_congr rfl fun d _ => congrArg₂ (· * ·) (entry_q m c (ix5 ⟨k, hn⟩ b h i d)) (entry_k m c (ix5 ⟨k, hn⟩ b h x d)))
          (entry_din m c (ix3 h i x))) (entry_v m c (ix5 ⟨k, hn⟩ b h x e)))
        (congrArg₂ (· * ·) (Finset.sum_congr rfl fun d _ => congrArg₂ (· * ·) (entry_q m c (ix5 ⟨k, hn⟩ b h i d))
          (state m c k (Nat.le_of_lt hn) b h d e)) (entry_dq m c (ix2 h i)))
    · rw [if_neg hc]
      exact ih (Nat.le_of_lt hn) (by omega)

/-- The first result at a row and a column, from the stack of outputs. -/
theorem read_out (V0 : Valuation τ sig (Elt Ideal)) (P : FVec Ideal S16384x6144 .bf16) (o : FVec Ideal S64x2x4x128x512 .f32)
    (hP : V0 (Proc.devRef .tc main_arg0) = P) (ho : V0 (Proc.devRef .tc main_v61_9) = o) (r : Fin 16384) (l : Fin 2048) :
    out_main_v89 V0 (ix2 r l) = Spec.gated (fun e => o (ix5 ⟨r.val % 8192 / 128, by omega⟩ ⟨r.val / 8192, by omega⟩
        ⟨l.val / 512, by omega⟩ ⟨r.val % 8192 % 128, by omega⟩ e))
      (P (ix2 r ⟨4096 + l.val, by omega⟩)) ⟨l.val % 512, by omega⟩ := by
  unfold out_main_v89
  rw [hP, ho]
  pointwise
  unfold Spec.gated Ideal.logistic
  rfl

/-- The two results after the last trip are the specification's. -/
theorem final (c : Dev nD) (n : ℕ) (hn : n = 64) : out_main_v89 (at_ m c n) = Spec.result (rows m c)
    ∧ at_ m c n (Proc.devRef .tc main_v61_8) = Spec.last (rows m c) := by
  have ha : at_ m c n (Proc.devRef .tc main_arg0) = rows m c := iter_main_arg0 m c n
  constructor
  · funext j
    idx_vars j
    refine (read_out (at_ m c n) _ _ ha rfl _ _).trans ?_
    exact congrArg (fun o => Spec.gated o _ _) (funext fun e => stack m c n (le_of_eq hn) _ (by dsimp only; omega) _ _ _ e)
  · funext j
    idx_vars j
    subst hn
    exact state m c _ le_rfl _ _ _ _

end Cert.RetentionIdeal.Hand

end
-- ==== Proof.FfnValue.lean ====
/-
  What the feed-forward call leaves in its result array, and that the plain formula of the layer is the same.

  The call walks 16 blocks of 1024 rows and, within each, 8 blocks of 512 hidden units.  At the first hidden block it
  normalises its rows into a scratch array and clears an accumulator; at every hidden block it adds that block's share
  of the second product; at the last it adds the rows themselves.
-/
module

public import proofs.«01_k».proof.Proof.Gen.FfnIdeal.Frame
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Hand

open Cert.FfnIdeal Cert.FfnIdeal.Gen

variable (m : (ℓ : Loc nD τ sig) → Buf (Elt Ideal) ℓ)

/-- The block each window is on at grid point `t`: rows by `t / 8`, hidden units by `t % 8`. -/
theorem idx : ∀ t : Fin cfg0.N, win0_0.index t = ![t.val / 8, 0] ∧ win0_1.index t = ![0, 0]
    ∧ win0_2.index t = ![0, t.val % 8] ∧ win0_3.index t = ![t.val % 8, 0] ∧ win0_4.index t = ![t.val / 8, 0] :=
  (by decide +kernel : ∀ t : Fin grid0.N, _)

/-- Within a run of eight points the row block does not change. -/
theorem rows_prev (c : Dev nD) (t : Fin cfg0.N) (h : ¬ t.val % 8 = 0) (hp : t.val - 1 < cfg0.N) :
    iblk m c 0 ⟨t.val - 1, hp⟩ = iblk m c 0 t := by
  have e := idx ⟨t.val - 1, hp⟩
  have hd : (t.val - 1) / 8 = t.val / 8 := by omega
  funext x
  blk_ext [iblk, V, idx t, e, hd]

theorem gain_prev (c : Dev nD) (t : Fin cfg0.N) (hp : t.val - 1 < cfg0.N) :
    iblk m c 1 ⟨t.val - 1, hp⟩ = iblk m c 1 t := by
  have e := idx ⟨t.val - 1, hp⟩
  funext x
  blk_ext [iblk, V, idx t, e]

/-- The scratch of normalised rows, after every point, is the normalisation of that point's row block. -/
theorem normed (c : Dev nD) : ∀ (n : ℕ) (hn : n < cfg0.N),
    (outsAt0 m c n hn).2.1 = k0_pay1 (iblk m c 0 ⟨n, hn⟩) (iblk m c 1 ⟨n, hn⟩) := by
  intro n
  induction n with
  | zero =>
    intro hn
    rw [outsAt0_A m c ⟨0, hn⟩ rfl (by dsimp only; omega)]
    frame_out
  | succ n ih =>
    intro hn
    have hN : n + 1 < 128 := lt_of_lt_of_eq hn (show cfg0.N = 128 from N_0)
    by_cases h0 : (n + 1) % 8 = 0
    · rw [outsAt0_A m c ⟨n + 1, hn⟩ h0 (by dsimp only; omega)]
      frame_out
    · have hp : n < cfg0.N := Nat.lt_of_succ_lt hn
      have e0 := rows_prev m c ⟨n + 1, hn⟩ h0 hp
      have e1 := gain_prev m c ⟨n + 1, hn⟩ hp
      by_cases h1 : (n + 1) % 8 = 7
      · rw [outsAt0_C m c ⟨n + 1, hn⟩ h0 h1]
        frame_out
        exact (ih hp).trans (by rw [← e0, ← e1]; rfl)
      · rw [outsAt0_B m c ⟨n + 1, hn⟩ h0 h1]
        frame_out
        exact (ih hp).trans (by rw [← e0, ← e1]; rfl)

/-- The cleared accumulator is zero everywhere. -/
theorem clear_apply (j) : k0_pay2 (F := Ideal) j = 0 := by pointwise [k0_pay2]

/-- One point adds the product of the squared rectified hidden block with its rows of the second matrix. -/
theorem add_apply (h : Vec Ideal S1024x1024 .bf16) (u : Vec Ideal S1024x512 .bf16) (a : Vec Ideal S1024x1024 .f32)
    (d : Vec Ideal S512x1024 .bf16) (j : S1024x1024.Idx) : k0_pay3 h u a d j = a j
      + ∑ x : Fin 512, max (∑ k : Fin 1024, h (ix2 (j 0) k) * u (ix2 k x)) 0
          * max (∑ k : Fin 1024, h (ix2 (j 0) k) * u (ix2 k x)) 0 * d (ix2 x (j 1)) := by
  pointwise [k0_pay3]

/-- The normalised row: each entry over the root of the row's mean square, times the gain. -/
theorem norm_apply (y : Vec Ideal S1024x1024 .f32) (g : Vec Ideal S1x1024 .f32) (j : S1024x1024.Idx) :
    k0_pay1 y g j = y j * Ideal.rsqrt (Ideal.div (∑ x : Fin 1024, y (ix2 (j 0) x) * y (ix2 (j 0) x))
      (Ideal.ofBits FTy.f32 1149239296#32) + Ideal.ofBits FTy.f32 897988541#32) * g (ix2 0 (j 1)) := by
  pointwise [k0_pay1]

/-- After a point that is not the first of its run the accumulator is the step applied to what the point before left. -/
theorem acc_step (c : Dev nD) (t : Fin cfg0.N) (h0 : ¬ t.val % 8 = 0) (hp : t.val - 1 < cfg0.N) :
    (outsAt0 m c t.val t.isLt).2.2 = k0_pay3 (outsAt0 m c (t.val - 1) hp).2.1 (iblk m c 2 t)
      (outsAt0 m c (t.val - 1) hp).2.2 (iblk m c 3 t) := by
  by_cases h1 : t.val % 8 = 7
  · rw [outsAt0_C m c t h0 h1]
    frame_out
    exact congrArg₂ (fun h a => k0_pay3 h _ a _) (Memref.IsWhole.read_unread _ _) (Memref.IsWhole.read_unread _ _)
  · rw [outsAt0_B m c t h0 h1]
    frame_out
    exact congrArg₂ (fun h a => k0_pay3 h _ a _) (Memref.IsWhole.read_unread _ _) (Memref.IsWhole.read_unread _ _)

/-- The accumulator at the last hidden block: the eight blocks' shares. -/
theorem acc_last (c : Dev nD) (t : Fin cfg0.N) (hr : t.val % 8 = 8 - 1) (j : S1024x1024.Idx) :
    (outsAt0 m c t.val t.isLt).2.2 j = 0 + ∑ s : Fin 8, ∑ x : Fin 512,
      max (∑ k : Fin 1024, k0_pay1 (iblk m c 0 t) (iblk m c 1 t) (ix2 (j 0) k)
          * (iblk m c 2 ⟨8 * (t.val / 8) + s.val, Pipeline.run_point_lt_of_flush t hr s⟩ : Vec Ideal S1024x512 .bf16) (ix2 k x)) 0
        * max (∑ k : Fin 1024, k0_pay1 (iblk m c 0 t) (iblk m c 1 t) (ix2 (j 0) k)
          * (iblk m c 2 ⟨8 * (t.val / 8) + s.val, Pipeline.run_point_lt_of_flush t hr s⟩ : Vec Ideal S1024x512 .bf16) (ix2 k x)) 0
        * (iblk m c 3 ⟨8 * (t.val / 8) + s.val, Pipeline.run_point_lt_of_flush t hr s⟩ : Vec Ideal S512x1024 .bf16) (ix2 x (j 1)) := by
  rw [Pipeline.eq_sum_fin_of_reset_step_apply_of_flush (fun n h => (outsAt0 m c n h).2.2) 8 (fun _ => 0)
    (fun p j => ∑ x : Fin 512,
      max (∑ k : Fin 1024, k0_pay1 (iblk m c 0 p) (iblk m c 1 p) (ix2 (j 0) k) * (iblk m c 2 p : Vec Ideal S1024x512 .bf16) (ix2 k x)) 0
        * max (∑ k : Fin 1024, k0_pay1 (iblk m c 0 p) (iblk m c 1 p) (ix2 (j 0) k) * (iblk m c 2 p : Vec Ideal S1024x512 .bf16) (ix2 k x)) 0
        * (iblk m c 3 p : Vec Ideal S512x1024 .bf16) (ix2 x (j 1))) ?_ ?_ t hr j]
  · refine congrArg (0 + ·) (Finset.sum_congr rfl fun s _ => ?_)
    have e := idx ⟨8 * (t.val / 8) + s.val, Pipeline.run_point_lt_of_flush t hr s⟩
    have hd : (8 * (t.val / 8) + s.val) / 8 = t.val / 8 := by omega
    have e0 : iblk m c 0 ⟨8 * (t.val / 8) + s.val, Pipeline.run_point_lt_of_flush t hr s⟩ = iblk m c 0 t := by
      funext x
      blk_ext [iblk, V, idx t, e, hd]
    have e1 : iblk m c 1 ⟨8 * (t.val / 8) + s.val, Pipeline.run_point_lt_of_flush t hr s⟩ = iblk m c 1 t := by
      funext x
      blk_ext [iblk, V, idx t, e, hd]
    rw [e0, e1]
  · intro t h0 j
    rw [outsAt0_A m c t h0 (by omega)]
    frame_out
    rw [add_apply, clear_apply]
  · intro t h0 j
    have hp : t.val - 1 < cfg0.N := Nat.lt_of_le_of_lt (Nat.sub_le _ _) t.isLt
    have e0 := rows_prev m c t h0 hp
    have e1 := gain_prev m c t hp
    have en := normed m c (t.val - 1) hp
    rw [e0, e1] at en
    rw [acc_step m c t h0 hp, add_apply, en]

open Cert.FfnRefIdeal.Read in
/-- The formula of the layer at a row and a column. -/
theorem ref_apply (Y : FVec Ideal S16384x1024 .f32) (G : FVec Ideal S1x1024 .f32) (U : FVec Ideal S1024x4096 .bf16)
    (D : FVec Ideal S4096x1024 .bf16) (j : S16384x1024.Idx) : val_main_v18 (F := Ideal) Y G U D j = Y j
      + ∑ x : Fin 4096, max (∑ k : Fin 1024, Y (ix2 (j 0) k) * Ideal.rsqrt (Ideal.div (∑ x : Fin 1024, Y (ix2 (j 0) x) * Y (ix2 (j 0) x))
      (Ideal.ofBits FTy.f32 1149239296#32) + Ideal.ofBits FTy.f32 897988541#32) * G (ix2 0 k) * U (ix2 k x)) 0
          * max (∑ k : Fin 1024, Y (ix2 (j 0) k) * Ideal.rsqrt (Ideal.div (∑ x : Fin 1024, Y (ix2 (j 0) x) * Y (ix2 (j 0) x))
      (Ideal.ofBits FTy.f32 1149239296#32) + Ideal.ofBits FTy.f32 897988541#32) * G (ix2 0 k) * U (ix2 k x)) 0 * D (ix2 x (j 1)) := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_call0_v0, val_main_call0_cst]

/-- At the last hidden block the point leaves its rows plus the accumulator. -/
theorem out_last (c : Dev nD) (t : Fin cfg0.N) (h1 : t.val % 8 = 7) :
    (outsAt0 m c t.val t.isLt).1 = k0_pay4 (iblk m c 0 t) (outsAt0 m c t.val t.isLt).2.2 := by
  rw [outsAt0_C m c t (by omega) h1]
  frame_out

theorem rows_apply (y a : Vec Ideal S1024x1024 .f32) (j : S1024x1024.Idx) : k0_pay4 y a j = y j + a j := by
  pointwise [k0_pay4]

/-- The call's result array is the layer's formula of its four arguments. -/
theorem final (c : Dev nD) : (dats m 0 c).arrAt 4 cfg0.N
    = Cert.FfnRefIdeal.Read.val_main_v18 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have h7 : t.val % 8 = 7 := (flush0_4 t).mp hf
  blk_simp
  rw [after0_4, out_last m c t h7, rows_apply, acc_last m c t h7 y, ref_apply, zero_add]
  simp only [norm_apply]
  refine congrArg₂ (· + ·) ?_ (Fin.sum_mul_add_congr fun s k hl => ?_)
  · blk_ext [iblk, V, idx t]
  have e := idx ⟨8 * (t.val / 8) + s.val, Pipeline.run_point_lt_of_flush t h7 s⟩
  have hm : (8 * (t.val / 8) + s.val) % 8 = s.val := by omega
  have hd : (8 * (t.val / 8) + s.val) / 8 = t.val / 8 := by omega
  blk_point [iblk, V, idx t, e, hm, hd]

end Cert.FfnIdeal.Hand

end
-- ==== Proof.Claims.lean ====
/- The claims about the retention call and the feed-forward call, from the values of the two programs of each. -/
module

public import proofs.«01_k».proof.Defs
public import proofs.«01_k».proof.Proof.Gen.RetScan.Frame
public import proofs.«01_k».proof.Proof.Gen.RetScanIdeal.Frame
public import proofs.«01_k».proof.Proof.Gen.Ffn.Frame
public import proofs.«01_k».proof.Proof.Gen.FfnIdeal.Frame
public import proofs.«01_k».proof.Proof.Gen.RetScanIdeal.Value
public import proofs.«01_k».proof.Proof.Gen.FfnIdeal.Value
public import proofs.«01_k».proof.Proof.Gen.RetentionIdeal.Run
public import proofs.«01_k».proof.Proof.Gen.FfnRefIdeal.Run
public import proofs.«01_k».proof.Proof.RetScanValue
public import proofs.«01_k».proof.Proof.RetentionValue
public import proofs.«01_k».proof.Proof.FfnValue
public import Idealize.ShloMosaic.Lib.Quiescent

@[expose] public section

noncomputable section

namespace Cert.Proof

open Idealize.ShloMosaic Idealize.ShloMosaic.TcCoe Idealize.SL.Sem

/-- The reference of the retention call terminates, keeps its argument and uses no semaphore. -/
theorem retention_frame : Cert.quiescent_RetentionIdeal := fun m g _ =>
  (θ_run _ _ _).mono (fun r h => ⟨fun c => (h c).2.2, sem_eq_zero_of_no_sems (by decide) r.2⟩) (Cert.RetentionIdeal.Value.run m g)

/-- The reference of the feed-forward call terminates, keeps its arguments and uses no semaphore. -/
theorem ffnRef_frame : Cert.quiescent_FfnRefIdeal := fun m g _ =>
  (θ_run _ _ _).mono (fun r h => ⟨fun c => (h c).2, sem_eq_zero_of_no_sems (by decide) r.2⟩) (Cert.FfnRefIdeal.Value.run m g)

/-- The retention call and its reference end with the same two results. -/
theorem retention : Cert.algebraic_RetScanIdeal_RetentionIdeal := fun m g m' g' _ hag =>
  ⟨fun c => Cert.Spec.result (Cert.RetScanIdeal.Hand.rows m c), fun c => Cert.Spec.last (Cert.RetScanIdeal.Hand.rows m c),
    (θ_run _ _ _).mono (fun r h c => ⟨(h c).1.trans (Cert.RetScanIdeal.Hand.final8 m c),
      (h c).2.1.trans (Cert.RetScanIdeal.Hand.final9 m c), (h c).2.2⟩) (Cert.RetScanIdeal.Value.run_blocks m g),
    (θ_run _ _ _).mono (fun r h c => ⟨(h c).1.trans ((Cert.RetentionIdeal.Hand.final m' c 64 rfl).1.trans (congrArg Cert.Spec.result (hag c))),
      (h c).2.1.trans ((Cert.RetentionIdeal.Hand.final m' c 64 rfl).2.trans (congrArg Cert.Spec.last (hag c))), (h c).2.2⟩)
      (Cert.RetentionIdeal.Value.run m' g')⟩

/-- The feed-forward call and its reference end with the same result. -/
theorem feedForward : Cert.algebraic_FfnIdeal_FfnRefIdeal := fun m g m' g' _ hag =>
  ⟨fun c => Cert.FfnRefIdeal.Read.val_main_v18 (F := Ideal) (m' ((c.tc : Thread Cert.FfnRefIdeal.nD Cert.FfnRefIdeal.τ).loc Cert.FfnRefIdeal.main_arg0))
      (m' ((c.tc : Thread Cert.FfnRefIdeal.nD Cert.FfnRefIdeal.τ).loc Cert.FfnRefIdeal.main_arg1))
      (m' ((c.tc : Thread Cert.FfnRefIdeal.nD Cert.FfnRefIdeal.τ).loc Cert.FfnRefIdeal.main_arg2))
      (m' ((c.tc : Thread Cert.FfnRefIdeal.nD Cert.FfnRefIdeal.τ).loc Cert.FfnRefIdeal.main_arg3)),
    (θ_run _ _ _).mono (fun r h c => ⟨(h c).1.trans ((Cert.FfnIdeal.Hand.final m c).trans
        (by dsimp only; rw [(hag c).1, (hag c).2.1, (hag c).2.2.1, (hag c).2.2.2])), (h c).2⟩) (Cert.FfnIdeal.Value.run_blocks m g),
    (θ_run _ _ _).mono (fun r h c => ⟨(h c).1.trans (Cert.FfnRefIdeal.Read.val_main_v18_eq _ _ _ _).symm, (h c).2⟩)
      (Cert.FfnRefIdeal.Value.run m' g')⟩

end Cert.Proof

end
-- ==== Proof.AttnSpec.lean ====
/-
  One row of masked softmax attention in real numbers, and the running maximum that computes it tile by tile.

  A row has a score for every key, some of them hidden.  A hidden key weighs 0 and a seen one `exp` of its score.  The
  running computation holds a real maximum `M` and holds every sum of weights scaled by `exp (-M)`; a tile of further
  keys moves the maximum, rescales, and adds.  Quotients of such sums do not depend on the maximum.
-/
module

public import Idealize.ShloMosaic.Lib.Pipeline.ValueKit

@[expose] public section

noncomputable section

namespace Cert.Attn

open Idealize.ShloMosaic

/-- The score of a key: a number if the key is seen, `-∞` if it is hidden. -/
def score (seen : ℕ → Prop) [DecidablePred seen] (x : ℕ → ℝ) (k : ℕ) : EReal := if seen k then (x k : EReal) else ⊥

/-- The weight of a key before the division: `exp` of its score, 0 if it is hidden. -/
def weight (seen : ℕ → Prop) [DecidablePred seen] (x : ℕ → ℝ) (k : ℕ) : ℝ := if seen k then Real.exp (x k) else 0

section
variable (seen : ℕ → Prop) [DecidablePred seen] (x : ℕ → ℝ)

/-- No score is `+∞`. -/
theorem score_ne_top (k : ℕ) : score seen x k ≠ ⊤ := by
  unfold score; split <;> simp

/-- A weight is not negative. -/
theorem weight_nonneg (k : ℕ) : 0 ≤ weight seen x k := by
  unfold weight; split
  · exact (Real.exp_pos _).le
  · exact le_rfl

/-- `exp` of a score less a real number is the weight scaled. -/
theorem exp_score_sub (k : ℕ) (M : ℝ) :
    Ideal.exp (score seen x k - (M : EReal)) = ((Real.exp (-M) * weight seen x k : ℝ) : EReal) := by
  unfold score weight
  split
  · rw [← EReal.coe_sub, Ideal.exp_coe, ← Real.exp_add, neg_add_eq_sub]
  · rw [EReal.bot_sub, Ideal.exp_bot, mul_zero, EReal.coe_zero]
end

/-- A finite sum of real numbers, read as extended ones. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern the maximum starts from is `-∞`. -/
theorem start_eq_bot : Ideal.ofBits FTy.f32 4286578688#32 = ⊥ := by
  simp [Ideal.ofBits, Ideal.ieee]

/-- The larger of an extended number below `+∞` and of many such is a real number, provided one of the many is real. -/
theorem max_fold_real {n : ℕ} (mo : EReal) (t : Fin n → EReal) (hmo : mo ≠ ⊤) (ht : ∀ c, t c ≠ ⊤)
    (hb : mo ≠ ⊥ ∨ ∃ c, t c ≠ ⊥) : ∃ M : ℝ, max mo (Finset.fold max ⊥ t Finset.univ) = (M : EReal) := by
  have hf : Finset.fold max ⊥ t Finset.univ ≠ ⊤ := by
    have : Finset.fold max ⊥ t Finset.univ < ⊤ :=
      (Finset.fold_max_lt _).2 ⟨bot_lt_top, fun c _ => lt_top_iff_ne_top.2 (ht c)⟩
    exact this.ne
  refine ⟨(max mo (Finset.fold max ⊥ t Finset.univ)).toReal, (EReal.coe_toReal ?_ ?_).symm⟩
  · exact (max_lt (lt_top_iff_ne_top.2 hmo) (lt_top_iff_ne_top.2 hf)).ne
  · rcases hb with hb | ⟨c, hc⟩
    · exact ((bot_lt_iff_ne_bot.2 hb).trans_le (le_max_left _ _)).ne'
    · have : t c ≤ Finset.fold max ⊥ t Finset.univ := (Finset.le_fold_max _).2 (Or.inr ⟨c, Finset.mem_univ c, le_rfl⟩)
      exact ((bot_lt_iff_ne_bot.2 hc).trans_le (this.trans (le_max_right _ _))).ne'

/-- What the running computation holds of a row after its first `n` keys: nothing before the first, and then a real
    maximum, the sum of the weights and the weighted sums of the values, both scaled by `exp` of minus the maximum. -/
def Held {ε : Type} (w : ℕ → ℝ) (v : ℕ → ε → ℝ) (n : ℕ) (m l : EReal) (a : ε → EReal) : Prop :=
  (n = 0 ∧ m = ⊥ ∧ l = 0 ∧ ∀ e, a e = 0) ∨
  ∃ M : ℝ, m = (M : EReal) ∧ l = ((Real.exp (-M) * ∑ k ∈ Finset.range n, w k : ℝ) : EReal)
    ∧ ∀ e, a e = ((Real.exp (-M) * ∑ k ∈ Finset.range n, w k * v k e : ℝ) : EReal)

/-- Rescaling a held sum and adding a tile's share of it gives the longer sum. -/
theorem rescale_add {N : ℕ} (n : ℕ) (M M' : ℝ) (f : ℕ → ℝ) (g : Fin N → EReal)
    (hg : ∀ c, g c = ((Real.exp (-M') * f (n + c.val) : ℝ) : EReal)) :
    Ideal.exp ((M : EReal) - (M' : EReal)) * ((Real.exp (-M) * ∑ k ∈ Finset.range n, f k : ℝ) : EReal) + ∑ c, g c
      = ((Real.exp (-M') * ∑ k ∈ Finset.range (n + N), f k : ℝ) : EReal) := by
  rw [← EReal.coe_sub, Ideal.exp_coe, ← EReal.coe_mul, Finset.sum_congr rfl fun c _ => hg c, ← coe_sum, ← EReal.coe_add,
    Finset.sum_range_add, mul_add, ← Finset.mul_sum, Finset.sum_range (fun x => f (n + x)), ← mul_assoc, ← Real.exp_add]
  congr 3
  ring_nf

/-- A first tile's sum is the sum over its keys: what was held is forgotten. -/
theorem first_add {N : ℕ} (M' : ℝ) (f : ℕ → ℝ) (g : Fin N → EReal)
    (hg : ∀ c, g c = ((Real.exp (-M') * f (0 + c.val) : ℝ) : EReal)) :
    Ideal.exp ((⊥ : EReal) - (M' : EReal)) * 0 + ∑ c, g c
      = ((Real.exp (-M') * ∑ k ∈ Finset.range (0 + N), f k : ℝ) : EReal) := by
  rw [mul_zero, zero_add, Finset.sum_congr rfl fun c _ => hg c, ← coe_sum, ← Finset.mul_sum, zero_add, Finset.sum_range]
  simp only [zero_add]

/-- ONE TILE: from what was held of `n` keys to what is held of `n + N`. -/
theorem Held.tile {ε : Type} {seen : ℕ → Prop} [DecidablePred seen] {x : ℕ → ℝ} {v : ℕ → ε → ℝ} {n N : ℕ} {m l : EReal}
    {a : ε → EReal} (h : Held (weight seen x) v n m l a) (hn : n = 0 → ∃ c : Fin N, seen c.val)
    (t : Fin N → EReal) (ht : ∀ c, t c = score seen x (n + c.val)) (u : Fin N → ε → EReal)
    (hu : ∀ c e, u c e = (v (n + c.val) e : EReal)) (mn : EReal) (hm : mn = max m (Finset.fold max ⊥ t Finset.univ)) :
    Held (weight seen x) v (n + N) mn (Ideal.exp (m - mn) * l + ∑ c, Ideal.exp (t c - mn))
      (fun e => Ideal.exp (m - mn) * a e + ∑ c, Ideal.exp (t c - mn) * u c e) := by
  have hmo : m ≠ ⊤ := by
    rcases h with ⟨_, rfl, _⟩ | ⟨M, rfl, _⟩
    · exact bot_ne_top
    · exact EReal.coe_ne_top M
  have hb : m ≠ ⊥ ∨ ∃ c, t c ≠ ⊥ := by
    rcases h with ⟨h0, _⟩ | ⟨M, rfl, _⟩
    · obtain ⟨c, hc⟩ := hn h0
      refine Or.inr ⟨c, ?_⟩
      rw [ht, h0, zero_add, score, if_pos hc]
      exact EReal.coe_ne_bot _
    · exact Or.inl (EReal.coe_ne_bot M)
  obtain ⟨M', hM'⟩ := max_fold_real m t hmo (fun c => by rw [ht]; exact score_ne_top seen x _) hb
  rw [hM'] at hm
  subst hm
  have he : ∀ c, Ideal.exp (t c - (M' : EReal)) = ((Real.exp (-M') * weight seen x (n + c.val) : ℝ) : EReal) := fun c => by
    rw [ht, exp_score_sub]
  have hev : ∀ e c, Ideal.exp (t c - (M' : EReal)) * u c e
      = ((Real.exp (-M') * (weight seen x (n + c.val) * v (n + c.val) e) : ℝ) : EReal) := fun e c => by
    rw [he, hu, ← EReal.coe_mul, mul_assoc]
  refine Or.inr ⟨M', rfl, ?_, fun e => ?_⟩
  · rcases h with ⟨rfl, rfl, rfl, _⟩ | ⟨M, rfl, rfl, _⟩
    · exact first_add M' (weight seen x) _ he
    · exact rescale_add n M M' (weight seen x) _ he
  · rcases h with ⟨rfl, rfl, _, ha⟩ | ⟨M, rfl, _, ha⟩
    · dsimp only
      rw [ha e]
      exact first_add M' (fun k => weight seen x k * v k e) _ (hev e)
    · dsimp only
      rw [ha e]
      exact rescale_add n M M' (fun k => weight seen x k * v k e) _ (hev e)

/-- The attention of a row: its values averaged by the weights of the first `n` keys. -/
def average {ε : Type} (w : ℕ → ℝ) (v : ℕ → ε → ℝ) (n : ℕ) (e : ε) : ℝ :=
  (∑ k ∈ Finset.range n, w k * v k e) / ∑ k ∈ Finset.range n, w k

/-- The weights of a row whose first key is seen add to more than 0. -/
theorem sum_weight_pos (seen : ℕ → Prop) [DecidablePred seen] (x : ℕ → ℝ) {n : ℕ} (hn : 0 < n) (h0 : seen 0) :
    0 < ∑ k ∈ Finset.range n, weight seen x k := by
  refine lt_of_lt_of_le ?_ (Finset.single_le_sum (fun k _ => weight_nonneg seen x k) (Finset.mem_range.2 hn))
  rw [weight, if_pos h0]
  exact Real.exp_pos _

/-- Dividing what is held gives the average. -/
theorem Held.div {ε : Type} {seen : ℕ → Prop} [DecidablePred seen] {x : ℕ → ℝ} {v : ℕ → ε → ℝ} {n : ℕ} {m l : EReal}
    {a : ε → EReal} (h : Held (weight seen x) v n m l a) (hn : 0 < n) (h0 : seen 0) (e : ε) :
    Ideal.div (a e) l = (average (weight seen x) v n e : EReal) := by
  rcases h with ⟨rfl, _⟩ | ⟨M, _, rfl, ha⟩
  · exact absurd hn (lt_irrefl 0)
  · have hp := sum_weight_pos seen x hn h0
    have hM := Real.exp_pos (-M)
    rw [ha e, Ideal.div_coe (mul_pos hM hp).ne', ← EReal.coe_mul, average, one_div, ← div_eq_mul_inv,
      mul_div_mul_left _ _ hM.ne']

/-- Keys that are all hidden change no sum of weights times values. -/
theorem sum_more (seen : ℕ → Prop) [DecidablePred seen] (x : ℕ → ℝ) (f : ℕ → ℝ) {n N : ℕ} (hN : n ≤ N)
    (hid : ∀ k, n ≤ k → ¬seen k) :
    ∑ k ∈ Finset.range N, weight seen x k * f k = ∑ k ∈ Finset.range n, weight seen x k * f k := by
  symm
  refine Finset.sum_subset (Finset.range_mono hN) fun k _ hk => ?_
  rw [weight, if_neg (hid k (by simpa using hk)), zero_mul]

/-- Keys that are all hidden do not change the average. -/
theorem average_more {ε : Type} (seen : ℕ → Prop) [DecidablePred seen] (x : ℕ → ℝ) (v : ℕ → ε → ℝ) {n N : ℕ} (hN : n ≤ N)
    (hid : ∀ k, n ≤ k → ¬seen k) (e : ε) : average (weight seen x) v N e = average (weight seen x) v n e := by
  unfold average
  have h1 := sum_more seen x (fun _ => 1) hN hid
  simp only [mul_one] at h1
  rw [h1, sum_more seen x (fun k => v k e) hN hid]

end Cert.Attn
-- ==== Proof.AttnPay.lean ====
/-
  One step of the attention call, number by number: what its tile of scores is, and what each formula of the step is at a
  place in terms of it.
-/
module

public import proofs.«01_k».proof.Proof.Gen.DiffAttnIdeal.Skeleton
public import proofs.«01_k».proof.Proof.AttnSpec
public import Idealize.ShloMosaic.Lib.Pipeline.ValueKit

@[expose] public section
set_option maxRecDepth 16384

noncomputable section

namespace Cert.DiffAttnIdeal.Hand

open Idealize.ShloMosaic Idealize.ShloMosaic.TcCoe Idealize.SL.Sem
open Cert.DiffAttnIdeal Cert.DiffAttnIdeal.Gen

/-- The named mask is `-∞`. -/
theorem mask_eq : (Named.named κ "mask" 0xF149F2CA#32 : Ideal .f32) = (⊥ : EReal) :=
  IdealRules.named_const.ideal_named_scalar _ _ _ _ rfl

/-- A tile of scores of one half of a head: the product of a query row and a key row over that half's 64 columns where
    the key is not later than the query, `-∞` where it is. -/
def tl (h : Fin 2) (v1 v3 : BitVec 32) (q k : S512x128.Idx → EReal) (r c : Fin 512) : EReal :=
  Scalar.select (IntOp.cmpi CmpIPredicate.sle (IntOp.addi (Scalar.muli v3 512#32) (BitVec.ofNat 32 c.val))
    (IntOp.addi (Scalar.muli v1 512#32) (BitVec.ofNat 32 r.val)))
    (∑ x : Fin 64, q (ix2 r ⟨64 * h.val + x.val, by omega⟩) * k (ix2 c ⟨64 * h.val + x.val, by omega⟩)) ⊥

/-- The new maximum of a row: the old one or the largest score of the tile. -/
def mx (t : Fin 512 → EReal) (mo : EReal) : EReal := max mo (Finset.fold max ⊥ t Finset.univ)

section
variable (v1 v3 : Elt Ideal .i32) (q k : Vec Ideal S512x128 .bf16)

/-- The first half's scores. -/
theorem pay11_apply (r c : Fin 512) : k0_pay11 v1 v3 q k (ix2 r c) = tl 0 v1 v3 q k r c := by
  unfold k0_pay11 k0_pay10 tl
  pointwise
  rw [mask_eq]

/-- The second half's scores. -/
theorem pay20_apply (r c : Fin 512) : k0_pay20 q k (k0_pay10 v1 v3) (ix2 r c) = tl 1 v1 v3 q k r c := by
  unfold k0_pay20 k0_pay10 tl
  pointwise
  rw [mask_eq]

variable (mo lo : Vec Ideal S1x512x1 .f32)

/-- The first half's new maximum. -/
theorem pay13_apply (r : Fin 512) (z : Fin 1) :
    k0_pay13 v1 v3 q k mo (ix2 r z) = mx (tl 0 v1 v3 q k r) (mo (ix3 0 r 0)) := by
  unfold k0_pay13 k0_pay12 mx
  pointwise
  rw [Attn.start_eq_bot]
  simp only [pay11_apply]

/-- The second half's new maximum. -/
theorem pay22_apply (r : Fin 512) (z : Fin 1) :
    k0_pay22 q k (k0_pay10 v1 v3) mo (ix2 r z) = mx (tl 1 v1 v3 q k r) (mo (ix3 0 r 0)) := by
  unfold k0_pay22 k0_pay21 mx
  pointwise
  rw [Attn.start_eq_bot]
  simp only [pay20_apply]

/-- The first half's rescaling. -/
theorem pay14_apply (r : Fin 512) (z : Fin 1) :
    k0_pay14 v1 v3 q k mo (ix2 r z) = Ideal.exp (mo (ix3 0 r 0) - mx (tl 0 v1 v3 q k r) (mo (ix3 0 r 0))) := by
  unfold k0_pay14 k0_pay12
  pointwise
  rw [pay13_apply]

/-- The second half's rescaling. -/
theorem pay23_apply (r : Fin 512) (z : Fin 1) :
    k0_pay23 q k (k0_pay10 v1 v3) mo (ix2 r z) = Ideal.exp (mo (ix3 0 r 0) - mx (tl 1 v1 v3 q k r) (mo (ix3 0 r 0))) := by
  unfold k0_pay23 k0_pay21
  pointwise
  rw [pay22_apply]

/-- The first half's tile of weights. -/
theorem pay15_apply (r c : Fin 512) :
    k0_pay15 v1 v3 q k mo (ix2 r c) = Ideal.exp (tl 0 v1 v3 q k r c - mx (tl 0 v1 v3 q k r) (mo (ix3 0 r 0))) := by
  unfold k0_pay15
  pointwise
  rw [pay13_apply, pay11_apply]

/-- The second half's tile of weights. -/
theorem pay24_apply (r c : Fin 512) :
    k0_pay24 q k (k0_pay10 v1 v3) mo (ix2 r c) = Ideal.exp (tl 1 v1 v3 q k r c - mx (tl 1 v1 v3 q k r) (mo (ix3 0 r 0))) := by
  unfold k0_pay24
  pointwise
  rw [pay22_apply, pay20_apply]

/-- The first half's rescaled sum. -/
theorem pay16_apply (r : Fin 512) (z : Fin 1) :
    k0_pay16 v1 v3 q k mo lo (ix2 r z)
      = Ideal.exp (mo (ix3 0 r 0) - mx (tl 0 v1 v3 q k r) (mo (ix3 0 r 0))) * lo (ix3 0 r 0) := by
  unfold k0_pay16
  pointwise
  rw [pay14_apply]
end

section
variable (a l : FVec Ideal S512x1 .f32) (p : FVec Ideal S512x512 .f32) (lo : Vec Ideal S1x512x1 .f32)
  (v : Vec Ideal S512x128 .bf16) (acc : Vec Ideal S1x512x128 .f32)

/-- The first half's new sum. -/
theorem pay17_apply (z : Fin 1) (r : Fin 512) (z' : Fin 1) :
    k0_pay17 p l (ix3 z r z') = l (ix2 r 0) + ∑ x, p (ix2 r x) := by
  unfold k0_pay17
  pointwise

/-- The second half's new sum. -/
theorem pay1_apply (z : Fin 1) (r : Fin 512) (z' : Fin 1) :
    k0_pay1 a p lo (ix3 z r z') = a (ix2 r 0) * lo (ix3 0 r 0) + ∑ x, p (ix2 r x) := by
  unfold k0_pay1
  pointwise

/-- The first half's new weighted values. -/
theorem pay18_apply (z : Fin 1) (r : Fin 512) (e : Fin 128) :
    k0_pay18 v a p acc (ix3 z r e) = a (ix2 r 0) * acc (ix3 0 r e) + ∑ x, p (ix2 r x) * v (ix2 x e) := by
  unfold k0_pay18
  pointwise

/-- The second half's new weighted values. -/
theorem pay2_apply (z : Fin 1) (r : Fin 512) (e : Fin 128) :
    k0_pay2 v a p acc (ix3 z r e) = a (ix2 r 0) * acc (ix3 0 r e) + ∑ x, p (ix2 r x) * v (ix2 x e) := by
  unfold k0_pay2
  pointwise

/-- The first half's stored maximum. -/
theorem pay19_apply (z : Fin 1) (r : Fin 512) (z' : Fin 1) : k0_pay19 a (ix3 z r z') = a (ix2 r 0) := by
  unfold k0_pay19
  pointwise

/-- The second half's stored maximum. -/
theorem pay3_apply (z : Fin 1) (r : Fin 512) (z' : Fin 1) : k0_pay3 a (ix3 z r z') = a (ix2 r 0) := by
  unfold k0_pay3
  pointwise
end

/-- The maxima start at `-∞`. -/
theorem pay7_apply (h : Fin 2) (r : Fin 512) (z : Fin 1) : k0_pay7 (F := Ideal) (ix3 h r z) = (⊥ : EReal) := by
  unfold k0_pay7
  pointwise
  rw [mask_eq]

/-- The sums start at 0. -/
theorem pay8_apply (h : Fin 2) (r : Fin 512) (z : Fin 1) : k0_pay8 (F := Ideal) (ix3 h r z) = (0 : EReal) := by
  unfold k0_pay8
  pointwise

/-- The weighted values start at 0. -/
theorem pay9_apply (h : Fin 2) (r : Fin 512) (e : Fin 128) : k0_pay9 (F := Ideal) (ix3 h r e) = (0 : EReal) := by
  unfold k0_pay9
  pointwise

/-- The weight of the second half's attention. -/
def lam (a b c d : S1x64.Idx → EReal) : EReal :=
  Ideal.exp (∑ x : Fin 64, a (ix2 0 x) * b (ix2 0 x)) - Ideal.exp (∑ x : Fin 64, c (ix2 0 x) * d (ix2 0 x))
    + Ideal.ofBits FTy.f32 1052116297#32

/-- The row of a head the call stores: the difference of the two attentions over their root mean square, scaled. -/
def normed (o s : Fin 128 → EReal) (e : Fin 128) : EReal :=
  o e * Ideal.rsqrt (Ideal.div (∑ x, o x * o x) (Ideal.ofBits FTy.f32 1124073472#32) + Ideal.ofBits FTy.f32 897988541#32)
    * s e * Ideal.ofBits FTy.f32 1059388764#32

section
variable (a b c d : Vec Ideal S1x64 .f32) (A0 : Vec Ideal S1x512x128 .f32) (l0 : Vec Ideal S1x512x1 .f32)
  (A1 : Vec Ideal S1x512x128 .f32) (l1 : Vec Ideal S1x512x1 .f32) (s : Vec Ideal S1x128 .f32)

/-- The difference of the two attentions. -/
theorem pay5_apply (r : Fin 512) (e : Fin 128) :
    k0_pay5 a b c d A0 l0 A1 l1 (ix2 r e)
      = Ideal.div (A0 (ix3 0 r e)) (l0 (ix3 0 r 0)) - lam a b c d * Ideal.div (A1 (ix3 0 r e)) (l1 (ix3 0 r 0)) := by
  unfold k0_pay5 lam
  pointwise

/-- Its sum of squares. -/
theorem pay6_apply (r : Fin 512) (z : Fin 1) :
    k0_pay6 a b c d A0 l0 A1 l1 (ix2 r z)
      = ∑ x, k0_pay5 a b c d A0 l0 A1 l1 (ix2 r x) * k0_pay5 a b c d A0 l0 A1 l1 (ix2 r x) := by
  unfold k0_pay6
  pointwise

/-- What the call stores. -/
theorem pay4_apply (r : Fin 512) (e : Fin 128) :
    k0_pay4 (k0_pay5 a b c d A0 l0 A1 l1) s (k0_pay6 a b c d A0 l0 A1 l1) (ix2 r e)
      = normed (fun e => Ideal.div (A0 (ix3 0 r e)) (l0 (ix3 0 r 0)) - lam a b c d * Ideal.div (A1 (ix3 0 r e)) (l1 (ix3 0 r 0)))
          (fun e => s (ix2 0 e)) e := by
  unfold k0_pay4 normed
  pointwise
  rw [pay6_apply]
  simp only [pay5_apply]
end

end Cert.DiffAttnIdeal.Hand
-- ==== Proof.AttnStep.lean ====
/-
  What one step of the attention call leaves in its three scratch arrays and, at a query block's last tile, in its result
  block, from what the step before left.  The scratch arrays hold one plane per half of a head.
-/
module

public import proofs.«01_k».proof.Proof.Gen.DiffAttnIdeal.Flash
public import proofs.«01_k».proof.Proof.AttnPay

@[expose] public section
set_option maxRecDepth 16384

noncomputable section

namespace Cert.DiffAttnIdeal.Hand

open Idealize.ShloMosaic Idealize.ShloMosaic.TcCoe Idealize.SL.Sem
open Cert.DiffAttnIdeal Cert.DiffAttnIdeal.Gen

/-! ## Two planes -/

section Planes
variable {Val : EltTy → Type} {e : EltTy} [∀ e, Nonempty (Val e)] {n w : ℕ}

/-- A two-plane array. -/
abbrev P2 (n w : ℕ) : Shape := ⟨3, ![2, n, w]⟩

/-- A place of a plane, inside the two-plane array. -/
theorem plane_idx (h : Fin 2) (off : Fin 3 → ℕ) (ho : off = ![h.val, 0, 0])
    (inb : ∀ a, off a + ![1, n, w] a ≤ (P2 n w).size a) (z : Fin 1) (r : Fin n) (x : Fin w) :
    (Rect.unit (s := P2 n w) off ![1, n, w] inb).idx (ix3 z r x) = ix3 h r x := by
  subst ho
  obtain rfl : z = 0 := Subsingleton.elim _ _
  funext a
  refine Fin.ext ?_
  rw [Rect.idx_unit_val]
  match a with
  | ⟨0, _⟩ => rfl
  | ⟨1, _⟩ => exact Nat.zero_add _
  | ⟨2, _⟩ => exact Nat.zero_add _

/-- A plane read. -/
theorem ld_lo (X : (P2 n w).Idx → Val e) (inb) (z : Fin 1) (r : Fin n) (x : Fin w) :
    View.ld X (Rect.unit (s := P2 n w) ![0, 0, 0] ![1, n, w] inb) (ix3 z r x) = X (ix3 0 r x) :=
  congrArg X (plane_idx 0 _ rfl inb z r x)

/-- The other plane read. -/
theorem ld_hi (X : (P2 n w).Idx → Val e) (inb) (z : Fin 1) (r : Fin n) (x : Fin w) :
    View.ld X (Rect.unit (s := P2 n w) ![1, 0, 0] ![1, n, w] inb) (ix3 z r x) = X (ix3 1 r x) :=
  congrArg X (plane_idx 1 _ rfl inb z r x)

/-- A plane read after writes. -/
theorem readCov_lo {sig : RefSig} {κ : Kind} {sp : Space} (v : View sig κ sp (P2 n w) e)
    (L : List (View.Piece Val (P2 n w) e)) (inb) (z : Fin 1) (r : Fin n) (x : Fin w) :
    v.readCov L (Rect.unit (s := P2 n w) ![0, 0, 0] ![1, n, w] inb).toLoadRect (ix3 z r x) = View.canon L (ix3 0 r x) := by
  rw [View.readCov_eq_canon']
  exact congrArg (View.canon L) (plane_idx 0 _ rfl inb z r x)

/-- The other plane read after writes. -/
theorem readCov_hi {sig : RefSig} {κ : Kind} {sp : Space} (v : View sig κ sp (P2 n w) e)
    (L : List (View.Piece Val (P2 n w) e)) (inb) (z : Fin 1) (r : Fin n) (x : Fin w) :
    v.readCov L (Rect.unit (s := P2 n w) ![1, 0, 0] ![1, n, w] inb).toLoadRect (ix3 z r x) = View.canon L (ix3 1 r x) := by
  rw [View.readCov_eq_canon']
  exact congrArg (View.canon L) (plane_idx 1 _ rfl inb z r x)

/-- A place of one plane is not in the other. -/
theorem plane_not_mem (h h' : Fin 2) (hh : h ≠ h') (off : Fin 3 → ℕ) (ho : off = ![h.val, 0, 0])
    (inb : ∀ a, off a + ![1, n, w] a ≤ (P2 n w).size a) (r : Fin n) (x : Fin w) :
    (ix3 h' r x : (P2 n w).Idx) ∉ (Rect.unit (s := P2 n w) off ![1, n, w] inb).set := by
  subst ho
  intro hm
  have h0 := Rect.mem_set_unit.1 hm 0
  have h1 : h.val ≤ h'.val ∧ h'.val < h.val + 1 := h0
  exact hh (Fin.ext (by omega))

variable (L : List (View.Piece Val (P2 n w) e)) (p : (⟨3, ![1, n, w]⟩ : Shape).Idx → Val e)

/-- The plane last written. -/
theorem canon_lo_lo (inb) (r : Fin n) (x : Fin w) :
    View.canon ((⟨Rect.unit (s := P2 n w) ![0, 0, 0] ![1, n, w] inb, p⟩ : View.Piece Val (P2 n w) e) :: L) (ix3 0 r x)
      = p (ix3 0 r x) := by
  rw [← plane_idx 0 _ rfl inb 0 r x]
  exact View.canon_cons_emb (Rect.unit (s := P2 n w) ![0, 0, 0] ![1, n, w] inb) p L (ix3 0 r x)

/-- The other plane last written. -/
theorem canon_hi_hi (inb) (r : Fin n) (x : Fin w) :
    View.canon ((⟨Rect.unit (s := P2 n w) ![1, 0, 0] ![1, n, w] inb, p⟩ : View.Piece Val (P2 n w) e) :: L) (ix3 1 r x)
      = p (ix3 0 r x) := by
  rw [← plane_idx 1 _ rfl inb 0 r x]
  exact View.canon_cons_emb (Rect.unit (s := P2 n w) ![1, 0, 0] ![1, n, w] inb) p L (ix3 0 r x)

/-- Past a write of the first plane. -/
theorem canon_lo_hi (inb) (r : Fin n) (x : Fin w) :
    View.canon ((⟨Rect.unit (s := P2 n w) ![0, 0, 0] ![1, n, w] inb, p⟩ : View.Piece Val (P2 n w) e) :: L) (ix3 1 r x)
      = View.canon L (ix3 1 r x) :=
  View.canon_cons_of_not_mem _ L (plane_not_mem 0 1 (by decide) _ rfl inb r x)

/-- Past a write of the other plane. -/
theorem canon_hi_lo (inb) (r : Fin n) (x : Fin w) :
    View.canon ((⟨Rect.unit (s := P2 n w) ![1, 0, 0] ![1, n, w] inb, p⟩ : View.Piece Val (P2 n w) e) :: L) (ix3 0 r x)
      = View.canon L (ix3 0 r x) :=
  View.canon_cons_of_not_mem _ L (plane_not_mem 1 0 (by decide) _ rfl inb r x)

/-- Both planes written at once. -/
theorem canon_both (q : (P2 n w).Idx → Val e) (inb) (y : (P2 n w).Idx) :
    View.canon ((⟨Rect.unit (s := P2 n w) ![0, 0, 0] ![2, n, w] inb, q⟩ : View.Piece Val (P2 n w) e) :: L) y = q y :=
  congrFun (View.canon_cons_unit_zero (by funext a; match a with | ⟨0, _⟩ => rfl | ⟨1, _⟩ => rfl | ⟨2, _⟩ => rfl) inb q L) y

end Planes

/-! ## The step -/

/-- A step's three scratch arrays against what it found: per half and row, the new maximum, the sum rescaled and the
    tile's weights added, and the weighted values likewise. -/
def Leaves (m' l' : S2x512x1.Idx → EReal) (a' : S2x512x128.Idx → EReal) (w1 w3 : BitVec 32)
    (q k v : S512x128.Idx → EReal) (mo lo : Fin 2 → Fin 512 → EReal) (ao : Fin 2 → Fin 512 → Fin 128 → EReal) : Prop :=
  ∀ (h : Fin 2) (r : Fin 512),
    m' (ix3 h r 0) = mx (tl h w1 w3 q k r) (mo h r)
    ∧ l' (ix3 h r 0) = Ideal.exp (mo h r - mx (tl h w1 w3 q k r) (mo h r)) * lo h r
        + ∑ c, Ideal.exp (tl h w1 w3 q k r c - mx (tl h w1 w3 q k r) (mo h r))
    ∧ ∀ e, a' (ix3 h r e) = Ideal.exp (mo h r - mx (tl h w1 w3 q k r) (mo h r)) * ao h r e
        + ∑ c, Ideal.exp (tl h w1 w3 q k r c - mx (tl h w1 w3 q k r) (mo h r)) * v (ix2 c e)

variable (ch : Fin 1) (m : (ℓ : Loc nD τ sig) → Buf (Elt Ideal) ℓ) (ρ : Dev nD → PrngReg)

/-- The query block's number, as the step reads it from the first table. -/
def qw (t : Fin (cfgA ch).N) : BitVec 32 :=
  View.ld (View.read (Elt Ideal) (View.whole main_arg0) (pinT_0 ch))
    (Rect.unit (s := S136) (k0_off1 (crd ch t)) S1.size (k0_off1_inb (crd ch t))) (Shape.Idx.first (numel1_S1.symm ▸ Nat.one_pos))

/-- The key block's number, as the step reads it from the second table. -/
def kw (t : Fin (cfgA ch).N) : BitVec 32 :=
  View.ld (View.read (Elt Ideal) (View.whole main_arg1) (pinT_1 ch))
    (Rect.unit (s := S136) (k0_off1 (crd ch t)) S1.size (k0_off1_inb (crd ch t))) (Shape.Idx.first (numel1_S1.symm ▸ Nat.one_pos))

/-- The maxima written whole. -/
theorem written0 (L : List (View.Piece (Elt Ideal) S2x512x1 .f32)) :
    (View.whole cc0_scratch0).writes (Elt Ideal) (View.whole cc0_scratch0).junk L = View.canon L :=
  View.read_writes_junk_eq_canon (View.whole cc0_scratch0) L

/-- The sums written whole. -/
theorem written1 (L : List (View.Piece (Elt Ideal) S2x512x1 .f32)) :
    (View.whole cc0_scratch1).writes (Elt Ideal) (View.whole cc0_scratch1).junk L = View.canon L :=
  View.read_writes_junk_eq_canon (View.whole cc0_scratch1) L

/-- The weighted values written whole. -/
theorem written2 (L : List (View.Piece (Elt Ideal) S2x512x128 .f32)) :
    (View.whole cc0_scratch2).writes (Elt Ideal) (View.whole cc0_scratch2).junk L = View.canon L :=
  View.read_writes_junk_eq_canon (View.whole cc0_scratch2) L

/-- A plane of what a scratch array held, read. -/
theorem held0_lo (X : cc0_scratch0.ty.Contents (Elt Ideal)) (inb) (z : Fin 1) (r : Fin 512) (x : Fin 1) :
    View.ld (View.read (Elt Ideal) (View.whole cc0_scratch0) X) (Rect.unit (s := P2 512 1) ![0, 0, 0] ![1, 512, 1] inb)
      (ix3 z r x) = X (ix3 0 r x) :=
  ld_lo (Val := Elt Ideal) (e := .f32) (n := 512) (w := 1) X inb z r x

/-- A plane of what a scratch array held, read. -/
theorem held0_hi (X : cc0_scratch0.ty.Contents (Elt Ideal)) (inb) (z : Fin 1) (r : Fin 512) (x : Fin 1) :
    View.ld (View.read (Elt Ideal) (View.whole cc0_scratch0) X) (Rect.unit (s := P2 512 1) ![1, 0, 0] ![1, 512, 1] inb)
      (ix3 z r x) = X (ix3 1 r x) :=
  ld_hi (Val := Elt Ideal) (e := .f32) (n := 512) (w := 1) X inb z r x

/-- A plane of what a scratch array held, read. -/
theorem held1_lo (X : cc0_scratch1.ty.Contents (Elt Ideal)) (inb) (z : Fin 1) (r : Fin 512) (x : Fin 1) :
    View.ld (View.read (Elt Ideal) (View.whole cc0_scratch1) X) (Rect.unit (s := P2 512 1) ![0, 0, 0] ![1, 512, 1] inb)
      (ix3 z r x) = X (ix3 0 r x) :=
  ld_lo (Val := Elt Ideal) (e := .f32) (n := 512) (w := 1) X inb z r x

/-- A plane of what a scratch array held, read. -/
theorem held1_hi (X : cc0_scratch1.ty.Contents (Elt Ideal)) (inb) (z : Fin 1) (r : Fin 512) (x : Fin 1) :
    View.ld (View.read (Elt Ideal) (View.whole cc0_scratch1) X) (Rect.unit (s := P2 512 1) ![1, 0, 0] ![1, 512, 1] inb)
      (ix3 z r x) = X (ix3 1 r x) :=
  ld_hi (Val := Elt Ideal) (e := .f32) (n := 512) (w := 1) X inb z r x

/-- A plane of what a scratch array held, read. -/
theorem held2_lo (X : cc0_scratch2.ty.Contents (Elt Ideal)) (inb) (z : Fin 1) (r : Fin 512) (x : Fin 128) :
    View.ld (View.read (Elt Ideal) (View.whole cc0_scratch2) X) (Rect.unit (s := P2 512 128) ![0, 0, 0] ![1, 512, 128] inb)
      (ix3 z r x) = X (ix3 0 r x) :=
  ld_lo (Val := Elt Ideal) (e := .f32) (n := 512) (w := 128) X inb z r x

/-- A plane of what a scratch array held, read. -/
theorem held2_hi (X : cc0_scratch2.ty.Contents (Elt Ideal)) (inb) (z : Fin 1) (r : Fin 512) (x : Fin 128) :
    View.ld (View.read (Elt Ideal) (View.whole cc0_scratch2) X) (Rect.unit (s := P2 512 128) ![1, 0, 0] ![1, 512, 128] inb)
      (ix3 z r x) = X (ix3 1 r x) :=
  ld_hi (Val := Elt Ideal) (e := .f32) (n := 512) (w := 128) X inb z r x

/-- A step that continues a query block. -/
theorem stepD (c : Dev nD) (t : Fin (cfgA ch).N) (prev) (q0 : ¬ P0_0 ch t) (q1 : ¬ P0_1 ch t) :
    Leaves (step0 ch m ρ c t prev).2.1 (step0 ch m ρ c t prev).2.2.1 (step0 ch m ρ c t prev).2.2.2 (qw ch t) (kw ch t)
      (iblk ch m ρ c (0 : Fin 9) t) (iblk ch m ρ c (1 : Fin 9) t) (iblk ch m ρ c (2 : Fin 9) t)
      (fun h r => prev.2.1 (ix3 h r 0)) (fun h r => prev.2.2.1 (ix3 h r 0)) (fun h r e => prev.2.2.2 (ix3 h r e)) := by
  rw [step0_D ch m ρ c t prev q0 q1]
  refine Fin.forall_fin_two.2 ⟨fun r => ⟨?_, ?_, fun e => ?_⟩, fun r => ⟨?_, ?_, fun e => ?_⟩⟩
  all_goals
    unfold qw kw
    frame_out
    simp only [View.read_rep, written0, written1, written2, canon_lo_lo, canon_hi_hi, canon_lo_hi,
      canon_hi_lo, canon_both, readCov_lo, readCov_hi, held0_lo, held0_hi, held1_lo, held1_hi, held2_lo,
      held2_hi, pay1_apply, pay2_apply, pay3_apply, pay7_apply,
      pay8_apply, pay9_apply, pay13_apply, pay14_apply, pay15_apply, pay16_apply, pay17_apply, pay18_apply, pay19_apply,
      pay22_apply, pay23_apply, pay24_apply]

/-- A step that continues and ends a query block. -/
theorem stepC (c : Dev nD) (t : Fin (cfgA ch).N) (prev) (q0 : ¬ P0_0 ch t) (q1 : P0_1 ch t) :
    Leaves (step0 ch m ρ c t prev).2.1 (step0 ch m ρ c t prev).2.2.1 (step0 ch m ρ c t prev).2.2.2 (qw ch t) (kw ch t)
      (iblk ch m ρ c (0 : Fin 9) t) (iblk ch m ρ c (1 : Fin 9) t) (iblk ch m ρ c (2 : Fin 9) t)
      (fun h r => prev.2.1 (ix3 h r 0)) (fun h r => prev.2.2.1 (ix3 h r 0)) (fun h r e => prev.2.2.2 (ix3 h r e)) := by
  rw [step0_C ch m ρ c t prev q0 q1]
  refine Fin.forall_fin_two.2 ⟨fun r => ⟨?_, ?_, fun e => ?_⟩, fun r => ⟨?_, ?_, fun e => ?_⟩⟩
  all_goals
    unfold qw kw
    frame_out
    simp only [View.read_rep, written0, written1, written2, canon_lo_lo, canon_hi_hi, canon_lo_hi,
      canon_hi_lo, canon_both, readCov_lo, readCov_hi, held0_lo, held0_hi, held1_lo, held1_hi, held2_lo,
      held2_hi, pay1_apply, pay2_apply, pay3_apply, pay7_apply,
      pay8_apply, pay9_apply, pay13_apply, pay14_apply, pay15_apply, pay16_apply, pay17_apply, pay18_apply, pay19_apply,
      pay22_apply, pay23_apply, pay24_apply]

/-- A step that starts a query block. -/
theorem stepB (c : Dev nD) (t : Fin (cfgA ch).N) (prev) (q0 : P0_0 ch t) (q1 : ¬ P0_1 ch t) :
    Leaves (step0 ch m ρ c t prev).2.1 (step0 ch m ρ c t prev).2.2.1 (step0 ch m ρ c t prev).2.2.2 (qw ch t) (kw ch t)
      (iblk ch m ρ c (0 : Fin 9) t) (iblk ch m ρ c (1 : Fin 9) t) (iblk ch m ρ c (2 : Fin 9) t)
      (fun _ _ => ⊥) (fun _ _ => 0) (fun _ _ _ => 0) := by
  rw [step0_B ch m ρ c t prev q0 q1]
  refine Fin.forall_fin_two.2 ⟨fun r => ⟨?_, ?_, fun e => ?_⟩, fun r => ⟨?_, ?_, fun e => ?_⟩⟩
  all_goals
    unfold qw kw
    frame_out
    simp only [View.read_rep, written0, written1, written2, canon_lo_lo, canon_hi_hi, canon_lo_hi,
      canon_hi_lo, canon_both, readCov_lo, readCov_hi, held0_lo, held0_hi, held1_lo, held1_hi, held2_lo,
      held2_hi, pay1_apply, pay2_apply, pay3_apply, pay7_apply,
      pay8_apply, pay9_apply, pay13_apply, pay14_apply, pay15_apply, pay16_apply, pay17_apply, pay18_apply, pay19_apply,
      pay22_apply, pay23_apply, pay24_apply]

/-- A step that starts and ends a query block. -/
theorem stepA (c : Dev nD) (t : Fin (cfgA ch).N) (prev) (q0 : P0_0 ch t) (q1 : P0_1 ch t) :
    Leaves (step0 ch m ρ c t prev).2.1 (step0 ch m ρ c t prev).2.2.1 (step0 ch m ρ c t prev).2.2.2 (qw ch t) (kw ch t)
      (iblk ch m ρ c (0 : Fin 9) t) (iblk ch m ρ c (1 : Fin 9) t) (iblk ch m ρ c (2 : Fin 9) t)
      (fun _ _ => ⊥) (fun _ _ => 0) (fun _ _ _ => 0) := by
  rw [step0_A ch m ρ c t prev q0 q1]
  refine Fin.forall_fin_two.2 ⟨fun r => ⟨?_, ?_, fun e => ?_⟩, fun r => ⟨?_, ?_, fun e => ?_⟩⟩
  all_goals
    unfold qw kw
    frame_out
    simp only [View.read_rep, written0, written1, written2, canon_lo_lo, canon_hi_hi, canon_lo_hi,
      canon_hi_lo, canon_both, readCov_lo, readCov_hi, held0_lo, held0_hi, held1_lo, held1_hi, held2_lo,
      held2_hi, pay1_apply, pay2_apply, pay3_apply, pay7_apply,
      pay8_apply, pay9_apply, pay13_apply, pay14_apply, pay15_apply, pay16_apply, pay17_apply, pay18_apply, pay19_apply,
      pay22_apply, pay23_apply, pay24_apply]

/-- The block a step that continues and ends a query block stores. -/
theorem storedC (c : Dev nD) (t : Fin (cfgA ch).N) (prev) (q0 : ¬ P0_0 ch t) (q1 : P0_1 ch t) (r : Fin 512) (e : Fin 128) :
    (step0 ch m ρ c t prev).1 (ix2 r e)
      = normed (fun e => Ideal.div ((step0 ch m ρ c t prev).2.2.2 (ix3 0 r e)) ((step0 ch m ρ c t prev).2.2.1 (ix3 0 r 0))
          - lam (iblk ch m ρ c (3 : Fin 9) t) (iblk ch m ρ c (4 : Fin 9) t) (iblk ch m ρ c (5 : Fin 9) t) (iblk ch m ρ c (6 : Fin 9) t)
            * Ideal.div ((step0 ch m ρ c t prev).2.2.2 (ix3 1 r e)) ((step0 ch m ρ c t prev).2.2.1 (ix3 1 r 0)))
        (fun e => iblk ch m ρ c (7 : Fin 9) t (ix2 0 e)) e := by
  rw [step0_C ch m ρ c t prev q0 q1]
  frame_out
  refine (pay4_apply _ _ _ _ _ _ _ _ _ r e).trans ?_
  simp only [View.read_rep, written0, written1, written2, canon_lo_lo, canon_hi_hi, canon_lo_hi,
    canon_hi_lo, canon_both, readCov_lo, readCov_hi, held0_lo, held0_hi, held1_lo, held1_hi, held2_lo,
    held2_hi, pay1_apply, pay2_apply, pay3_apply, pay7_apply,
    pay8_apply, pay9_apply, pay13_apply, pay14_apply, pay15_apply, pay16_apply, pay17_apply, pay18_apply, pay19_apply,
    pay22_apply, pay23_apply, pay24_apply]

/-- The block a step that starts and ends a query block stores. -/
theorem storedA (c : Dev nD) (t : Fin (cfgA ch).N) (prev) (q0 : P0_0 ch t) (q1 : P0_1 ch t) (r : Fin 512) (e : Fin 128) :
    (step0 ch m ρ c t prev).1 (ix2 r e)
      = normed (fun e => Ideal.div ((step0 ch m ρ c t prev).2.2.2 (ix3 0 r e)) ((step0 ch m ρ c t prev).2.2.1 (ix3 0 r 0))
          - lam (iblk ch m ρ c (3 : Fin 9) t) (iblk ch m ρ c (4 : Fin 9) t) (iblk ch m ρ c (5 : Fin 9) t) (iblk ch m ρ c (6 : Fin 9) t)
            * Ideal.div ((step0 ch m ρ c t prev).2.2.2 (ix3 1 r e)) ((step0 ch m ρ c t prev).2.2.1 (ix3 1 r 0)))
        (fun e => iblk ch m ρ c (7 : Fin 9) t (ix2 0 e)) e := by
  rw [step0_A ch m ρ c t prev q0 q1]
  frame_out
  refine (pay4_apply _ _ _ _ _ _ _ _ _ r e).trans ?_
  simp only [View.read_rep, written0, written1, written2, canon_lo_lo, canon_hi_hi, canon_lo_hi,
    canon_hi_lo, canon_both, readCov_lo, readCov_hi, held0_lo, held0_hi, held1_lo, held1_hi, held2_lo,
    held2_hi, pay1_apply, pay2_apply, pay3_apply, pay7_apply,
    pay8_apply, pay9_apply, pay13_apply, pay14_apply, pay15_apply, pay16_apply, pay17_apply, pay18_apply, pay19_apply,
    pay22_apply, pay23_apply, pay24_apply]

end Cert.DiffAttnIdeal.Hand
-- ==== Proof.AttnGrid.lean ====
/-
  The grid of the attention call: 16 pairs of a sequence and a head, and for each the 136 pairs of a query block and a key
  block not after it, in order.
-/
module

public import proofs.«01_k».proof.Proof.AttnStep

@[expose] public section
set_option maxRecDepth 16384

noncomputable section

namespace Cert.DiffAttnIdeal.Hand

open Idealize.ShloMosaic Idealize.ShloMosaic.TcCoe Idealize.SL.Sem
open Cert.DiffAttnIdeal Cert.DiffAttnIdeal.Gen

/-- The query blocks of the 136 pairs. -/
def qList : List ℕ :=
  [0, 1, 1, 2, 2, 2, 3, 3, 3, 3, 4, 4, 4, 4, 4, 5, 5, 5, 5, 5, 5, 6, 6, 6, 6, 6, 6, 6, 7, 7, 7, 7,
   7, 7, 7, 7, 8, 8, 8, 8, 8, 8, 8, 8, 8, 9, 9, 9, 9, 9, 9, 9, 9, 9, 9, 10, 10, 10, 10, 10, 10, 10,
   10, 10, 10, 10, 11, 11, 11, 11, 11, 11, 11, 11, 11, 11, 11, 11, 12, 12, 12, 12, 12, 12, 12, 12,
   12, 12, 12, 12, 12, 13, 13, 13, 13, 13, 13, 13, 13, 13, 13, 13, 13, 13, 13, 14, 14, 14, 14, 14,
   14, 14, 14, 14, 14, 14, 14, 14, 14, 14, 15, 15, 15, 15, 15, 15, 15, 15, 15, 15, 15, 15, 15, 15,
   15, 15]

/-- Their key blocks. -/
def kList : List ℕ :=
  [0, 0, 1, 0, 1, 2, 0, 1, 2, 3, 0, 1, 2, 3, 4, 0, 1, 2, 3, 4, 5, 0, 1, 2, 3, 4, 5, 6, 0, 1, 2, 3,
   4, 5, 6, 7, 0, 1, 2, 3, 4, 5, 6, 7, 8, 0, 1, 2, 3, 4, 5, 6, 7, 8, 9, 0, 1, 2, 3, 4, 5, 6, 7, 8,
   9, 10, 0, 1, 2, 3, 4, 5, 6, 7, 8, 9, 10, 11, 0, 1, 2, 3, 4, 5, 6, 7, 8, 9, 10, 11, 12, 0, 1, 2,
   3, 4, 5, 6, 7, 8, 9, 10, 11, 12, 13, 0, 1, 2, 3, 4, 5, 6, 7, 8, 9, 10, 11, 12, 13, 14, 0, 1, 2,
   3, 4, 5, 6, 7, 8, 9, 10, 11, 12, 13, 14, 15]

/-- The query block of pair `p`. -/
def qn (p : ℕ) : ℕ := qList.getD p 0

/-- The key block of pair `p`. -/
def kn (p : ℕ) : ℕ := kList.getD p 0

/-- Within a query block the key blocks go up by one from the first to the query block itself. -/
theorem pairs : ∀ p : Fin 136, kn p.val ≤ qn p.val ∧ qn p.val < 16
    ∧ (kn p.val ≠ 0 → 0 < p.val ∧ qn (p.val - 1) = qn p.val ∧ kn (p.val - 1) + 1 = kn p.val) := by
  decide +kernel

/-- Each query block's last pair. -/
theorem last_pair : ∀ q : Fin 16, q.val * (q.val + 3) / 2 < 136 ∧ qn (q.val * (q.val + 3) / 2) = q.val
    ∧ kn (q.val * (q.val + 3) / 2) = q.val := by
  decide +kernel

/-- What a grid point's words and block indices are. -/
abbrev GridAt (t : Fin (cfgA (0 : Fin 1)).N) : Prop :=
  (P0_0 (0 : Fin 1) t ↔ kn (t.val % 136) = 0) ∧ (P0_1 (0 : Fin 1) t ↔ kn (t.val % 136) = qn (t.val % 136))
  ∧ qw (0 : Fin 1) t = BitVec.ofNat 32 (qn (t.val % 136)) ∧ kw (0 : Fin 1) t = BitVec.ofNat 32 (kn (t.val % 136))
  ∧ ((((cfgA (0 : Fin 1)).win (0 : Fin 9)).index t : Fin 2 → ℕ) = ![t.val / 136 / 8 * 16 + qn (t.val % 136), t.val / 136 % 8])
  ∧ ((((cfgA (0 : Fin 1)).win (1 : Fin 9)).index t : Fin 2 → ℕ) = ![t.val / 136 / 8 * 16 + kn (t.val % 136), t.val / 136 % 8])
  ∧ ((((cfgA (0 : Fin 1)).win (2 : Fin 9)).index t : Fin 2 → ℕ) = ![t.val / 136 / 8 * 16 + kn (t.val % 136), t.val / 136 % 8])
  ∧ ((((cfgA (0 : Fin 1)).win (8 : Fin 9)).index t : Fin 2 → ℕ) = ![t.val / 136 / 8 * 16 + qn (t.val % 136), t.val / 136 % 8])

/-- The points 0 to 271. -/
theorem grid0 : ∀ t : Fin (cfgA (0 : Fin 1)).N, 0 ≤ t.val → t.val < 272 → GridAt t := by decide +kernel
/-- The points 272 to 543. -/
theorem grid1 : ∀ t : Fin (cfgA (0 : Fin 1)).N, 272 ≤ t.val → t.val < 544 → GridAt t := by decide +kernel
/-- The points 544 to 815. -/
theorem grid2 : ∀ t : Fin (cfgA (0 : Fin 1)).N, 544 ≤ t.val → t.val < 816 → GridAt t := by decide +kernel
/-- The points 816 to 1087. -/
theorem grid3 : ∀ t : Fin (cfgA (0 : Fin 1)).N, 816 ≤ t.val → t.val < 1088 → GridAt t := by decide +kernel
/-- The points 1088 to 1359. -/
theorem grid4 : ∀ t : Fin (cfgA (0 : Fin 1)).N, 1088 ≤ t.val → t.val < 1360 → GridAt t := by decide +kernel
/-- The points 1360 to 1631. -/
theorem grid5 : ∀ t : Fin (cfgA (0 : Fin 1)).N, 1360 ≤ t.val → t.val < 1632 → GridAt t := by decide +kernel
/-- The points 1632 to 1903. -/
theorem grid6 : ∀ t : Fin (cfgA (0 : Fin 1)).N, 1632 ≤ t.val → t.val < 1904 → GridAt t := by decide +kernel
/-- The points 1904 to 2175. -/
theorem grid7 : ∀ t : Fin (cfgA (0 : Fin 1)).N, 1904 ≤ t.val → t.val < 2176 → GridAt t := by decide +kernel

/-- Every point's words and block indices. -/
theorem grid (t : Fin (cfgA (0 : Fin 1)).N) : GridAt t := by
  have h0 : 0 ≤ t.val := Nat.zero_le _
  rcases Nat.lt_or_ge t.val 272 with h1 | h1; · exact grid0 t h0 h1
  rcases Nat.lt_or_ge t.val 544 with h2 | h2; · exact grid1 t h1 h2
  rcases Nat.lt_or_ge t.val 816 with h3 | h3; · exact grid2 t h2 h3
  rcases Nat.lt_or_ge t.val 1088 with h4 | h4; · exact grid3 t h3 h4
  rcases Nat.lt_or_ge t.val 1360 with h5 | h5; · exact grid4 t h4 h5
  rcases Nat.lt_or_ge t.val 1632 with h6 | h6; · exact grid5 t h5 h6
  rcases Nat.lt_or_ge t.val 1904 with h7 | h7; · exact grid6 t h6 h7
  exact grid7 t h7 t.isLt

end Cert.DiffAttnIdeal.Hand
-- ==== Proof.AttnCover.lean ====
/-
  The blocks the attention call writes back cover its result, and they are written back at the last pair of a query block.
-/
module

public import proofs.«01_k».proof.Proof.AttnStep
public import Idealize.ShloMosaic.Lib.Pipeline.ValueKit

@[expose] public section
set_option maxRecDepth 16384

noncomputable section

namespace Cert.DiffAttnIdeal.Hand

open Idealize.ShloMosaic Idealize.ShloMosaic.TcCoe Idealize.SL.Sem
open Cert.DiffAttnIdeal Cert.DiffAttnIdeal.Gen

/-- The blocks written back cover the result. -/
theorem covers : ((cfgA (0 : Fin 1)).win (8 : Fin 9)).Covers := by decide +kernel

/-- A block is written back only at a last pair. -/
theorem flush_last (t : Fin (cfgA (0 : Fin 1)).N) (h : ((cfgA (0 : Fin 1)).win (8 : Fin 9)).flush t = true) :
    P0_1 (0 : Fin 1) t := by
  by_contra hn
  by_cases h0 : P0_0 (0 : Fin 1) t
  · exact absurd ((sched0_B 0 t h0 hn).2.1.symm.trans h) (by decide)
  · exact absurd ((sched0_D 0 t h0 hn).2.1.symm.trans h) (by decide)

end Cert.DiffAttnIdeal.Hand
-- ==== Proof.AttnCall.lean ====
/-
  What the attention call stores: the blocks each grid point reads, what the running averages hold after a query block's
  pairs, and the result array in terms of the arguments.
-/
module

public import proofs.«01_k».proof.Proof.AttnGrid
public import proofs.«01_k».proof.Proof.AttnCover
public import Idealize.ShloMosaic.Lib.Pipeline.ValueKit

@[expose] public section
set_option maxRecDepth 16384

noncomputable section

namespace Cert.DiffAttnIdeal.Hand

open Idealize.ShloMosaic Idealize.ShloMosaic.TcCoe Idealize.SL.Sem
open Cert.DiffAttnIdeal Cert.DiffAttnIdeal.Gen

variable (m : (ℓ : Loc nD τ sig) → Buf (Elt Ideal) ℓ) (ρ : Dev nD → PrngReg)

/-- A grid point's number is below 2176. -/
theorem pt_lt (t : Fin (cfgA (0 : Fin 1)).N) : t.val < 2176 := lt_of_lt_of_eq t.isLt (by decide +kernel)

/-- The queries. -/
abbrev aQ (c : Dev nD) : S16384x1024.Idx → EReal := m ((c : Thread nD τ).loc main_arg2)
/-- The keys. -/
abbrev aK (c : Dev nD) : S16384x1024.Idx → EReal := m ((c : Thread nD τ).loc main_arg3)
/-- The values. -/
abbrev aV (c : Dev nD) : S16384x1024.Idx → EReal := m ((c : Thread nD τ).loc main_arg4)

/-- A point's query block. -/
theorem q_block (c : Dev nD) (t : Fin (cfgA (0 : Fin 1)).N) (r : Fin 512) (d : Fin 128)
    (i : Fin 16384) (j : Fin 1024) (hi : i.val = (t.val / 136 / 8 * 16 + qn (t.val % 136)) * 512 + r.val)
    (hj : j.val = t.val / 136 % 8 * 128 + d.val) :
    (iblk (0 : Fin 1) m ρ c (0 : Fin 9) t : S512x128.Idx → EReal) (ix2 r d)
      = aQ m c (ix2 i j) := by
  have g := (grid t).2.2.2.2.1
  blk_ext [iblk, g, hi, hj]

/-- A point's key block. -/
theorem k_block (c : Dev nD) (t : Fin (cfgA (0 : Fin 1)).N) (r : Fin 512) (d : Fin 128)
    (i : Fin 16384) (j : Fin 1024) (hi : i.val = (t.val / 136 / 8 * 16 + kn (t.val % 136)) * 512 + r.val)
    (hj : j.val = t.val / 136 % 8 * 128 + d.val) :
    (iblk (0 : Fin 1) m ρ c (1 : Fin 9) t : S512x128.Idx → EReal) (ix2 r d)
      = aK m c (ix2 i j) := by
  have g := (grid t).2.2.2.2.2.1
  blk_ext [iblk, g, hi, hj]

/-- A point's value block. -/
theorem v_block (c : Dev nD) (t : Fin (cfgA (0 : Fin 1)).N) (r : Fin 512) (d : Fin 128)
    (i : Fin 16384) (j : Fin 1024) (hi : i.val = (t.val / 136 / 8 * 16 + kn (t.val % 136)) * 512 + r.val)
    (hj : j.val = t.val / 136 % 8 * 128 + d.val) :
    (iblk (0 : Fin 1) m ρ c (2 : Fin 9) t : S512x128.Idx → EReal) (ix2 r d)
      = aV m c (ix2 i j) := by
  have g := (grid t).2.2.2.2.2.2.1
  blk_ext [iblk, g, hi, hj]

/-- A point's first vector is the whole array. -/
theorem whole_3 (c : Dev nD) (t : Fin (cfgA (0 : Fin 1)).N) (x : Fin 64) :
    (iblk (0 : Fin 1) m ρ c (3 : Fin 9) t : S1x64.Idx → EReal) (ix2 0 x)
      = (m ((c : Thread nD τ).loc main_arg5) : S1x64.Idx → EReal) (ix2 0 x) := by
  have g : (((cfgA (0 : Fin 1)).win (3 : Fin 9)).index t : Fin 2 → ℕ) = ![0, 0] := rfl
  blk_ext [iblk, g]

/-- A point's second vector is the whole array. -/
theorem whole_4 (c : Dev nD) (t : Fin (cfgA (0 : Fin 1)).N) (x : Fin 64) :
    (iblk (0 : Fin 1) m ρ c (4 : Fin 9) t : S1x64.Idx → EReal) (ix2 0 x)
      = (m ((c : Thread nD τ).loc main_arg6) : S1x64.Idx → EReal) (ix2 0 x) := by
  have g : (((cfgA (0 : Fin 1)).win (4 : Fin 9)).index t : Fin 2 → ℕ) = ![0, 0] := rfl
  blk_ext [iblk, g]

/-- A point's third vector is the whole array. -/
theorem whole_5 (c : Dev nD) (t : Fin (cfgA (0 : Fin 1)).N) (x : Fin 64) :
    (iblk (0 : Fin 1) m ρ c (5 : Fin 9) t : S1x64.Idx → EReal) (ix2 0 x)
      = (m ((c : Thread nD τ).loc main_arg7) : S1x64.Idx → EReal) (ix2 0 x) := by
  have g : (((cfgA (0 : Fin 1)).win (5 : Fin 9)).index t : Fin 2 → ℕ) = ![0, 0] := rfl
  blk_ext [iblk, g]

/-- A point's fourth vector is the whole array. -/
theorem whole_6 (c : Dev nD) (t : Fin (cfgA (0 : Fin 1)).N) (x : Fin 64) :
    (iblk (0 : Fin 1) m ρ c (6 : Fin 9) t : S1x64.Idx → EReal) (ix2 0 x)
      = (m ((c : Thread nD τ).loc main_arg8) : S1x64.Idx → EReal) (ix2 0 x) := by
  have g : (((cfgA (0 : Fin 1)).win (6 : Fin 9)).index t : Fin 2 → ℕ) = ![0, 0] := rfl
  blk_ext [iblk, g]

/-- A point's fifth vector is the whole array. -/
theorem whole_7 (c : Dev nD) (t : Fin (cfgA (0 : Fin 1)).N) (x : Fin 128) :
    (iblk (0 : Fin 1) m ρ c (7 : Fin 9) t : S1x128.Idx → EReal) (ix2 0 x)
      = (m ((c : Thread nD τ).loc main_arg9) : S1x128.Idx → EReal) (ix2 0 x) := by
  have g : (((cfgA (0 : Fin 1)).win (7 : Fin 9)).index t : Fin 2 → ℕ) = ![0, 0] := rfl
  blk_ext [iblk, g]

/-- Comparing a key's and a query's row numbers as words is comparing them. -/
theorem sle_rows (a b c r : ℕ) (ha : a < 16) (hb : b < 16) (hc : c < 512) (hr : r < 512) :
    IntOp.cmpi CmpIPredicate.sle (IntOp.addi (Scalar.muli (BitVec.ofNat 32 a) 512#32) (BitVec.ofNat 32 c))
      (IntOp.addi (Scalar.muli (BitVec.ofNat 32 b) 512#32) (BitVec.ofNat 32 r))
      = BitVec.ofBool (decide (a * 512 + c ≤ b * 512 + r)) := by
  have e (a c : ℕ) (ha : a < 16) (hc : c < 512) :
      IntOp.addi (Scalar.muli (BitVec.ofNat 32 a) 512#32) (BitVec.ofNat 32 c) = BitVec.ofNat 32 (a * 512 + c) := by
    show BitVec.ofNat 32 a * BitVec.ofNat 32 512 + BitVec.ofNat 32 c = _
    rw [BitVec.ofNat_add, BitVec.ofNat_mul]
  rw [e a c ha hc, e b r hb hr]
  have f (n : ℕ) (hn : n < 8192) : (BitVec.ofNat 32 n).toInt = (n : ℤ) := by
    rw [BitVec.toInt_ofNat']
    rw [Int.bmod_eq_of_le]
    all_goals omega
  show BitVec.ofBool ((BitVec.ofNat 32 (a * 512 + c)).sle (BitVec.ofNat 32 (b * 512 + r))) = _
  rw [BitVec.sle_eq_decide, f _ (by omega), f _ (by omega)]
  congr 2
  exact propext Nat.cast_le

/-! ## Real rows and columns -/

/-- All entries of an array are real numbers. -/
def Finite {S : Shape} (A : S.Idx → EReal) : Prop := ∀ y, ∃ x : ℝ, A y = x

/-- The real number at a row and a column. -/
def re (A : S16384x1024.Idx → EReal) (i j : ℕ) : ℝ :=
  if h : i < 16384 ∧ j < 1024 then (A (ix2 ⟨i, h.1⟩ ⟨j, h.2⟩)).toReal else 0

/-- An array of real numbers, read entry by entry. -/
theorem re_coe {A : S16384x1024.Idx → EReal} (hA : Finite A) (i : Fin 16384) (j : Fin 1024) :
    A (ix2 i j) = (re A i.val j.val : EReal) := by
  obtain ⟨x, hx⟩ := hA (ix2 i j)
  rw [re, dif_pos ⟨i.isLt, j.isLt⟩]
  show A (ix2 i j) = ((A (ix2 i j)).toReal : EReal)
  rw [hx, EReal.toReal_coe]

/-- The product of query row `i` and key row `k` of the sequence that starts at row `B`, over 64 columns from `C`. -/
def prod (Q K : S16384x1024.Idx → EReal) (B C i k : ℕ) : ℝ := ∑ x : Fin 64, re Q (B + i) (C + x.val) * re K (B + k) (C + x.val)

/-- The value row `k` of that sequence, over 128 columns from `C`. -/
def vals (V : S16384x1024.Idx → EReal) (B C k : ℕ) (e : Fin 128) : ℝ := re V (B + k) (C + e.val)

variable (c : Dev nD)

/-- The weights of query row `i`. -/
abbrev wts (Q K : S16384x1024.Idx → EReal) (B C i : ℕ) (h : Fin 2) : ℕ → ℝ :=
  Attn.weight (fun k => k ≤ i) (prod Q K B (C + 64 * h.val) i)

/-- A tile's scores are the scores of its rows. -/
theorem tile_score (hQ : Finite (aQ m c)) (hK : Finite (aK m c)) (t : Fin (cfgA (0 : Fin 1)).N) (h : Fin 2) (r x : Fin 512) :
    tl h (qw (0 : Fin 1) t) (kw (0 : Fin 1) t) (iblk (0 : Fin 1) m ρ c (0 : Fin 9) t) (iblk (0 : Fin 1) m ρ c (1 : Fin 9) t) r x
      = Attn.score (fun k => k ≤ qn (t.val % 136) * 512 + r.val)
          (prod (aQ m c) (aK m c) (t.val / 136 / 8 * 8192) (t.val / 136 % 8 * 128 + 64 * h.val) (qn (t.val % 136) * 512 + r.val))
          (kn (t.val % 136) * 512 + x.val) := by
  have g := grid t
  have hp := pairs ⟨t.val % 136, Nat.mod_lt _ (by decide)⟩
  have ht := pt_lt t
  dsimp only at hp
  rw [tl, g.2.2.1, g.2.2.2.1, sle_rows _ _ _ _ (by omega) (by omega) x.isLt r.isLt, Attn.score, Scalar.select]
  by_cases hle : kn (t.val % 136) * 512 + x.val ≤ qn (t.val % 136) * 512 + r.val
  · rw [if_pos hle, decide_eq_true hle]
    refine (if_pos rfl).trans ?_
    rw [prod, Attn.coe_sum]
    refine Finset.sum_congr rfl fun d _ => ?_
    have hh := h.isLt
    rw [q_block m ρ c t r _ ⟨t.val / 136 / 8 * 8192 + (qn (t.val % 136) * 512 + r.val), by omega⟩
        ⟨t.val / 136 % 8 * 128 + 64 * h.val + d.val, by omega⟩ (by dsimp only; omega) (by dsimp only; omega),
      k_block m ρ c t x _ ⟨t.val / 136 / 8 * 8192 + (kn (t.val % 136) * 512 + x.val), by omega⟩
        ⟨t.val / 136 % 8 * 128 + 64 * h.val + d.val, by omega⟩ (by dsimp only; omega) (by dsimp only; omega),
      re_coe hQ, re_coe hK, ← EReal.coe_mul]
  · rw [if_neg hle, decide_eq_false hle]
    exact if_neg (by decide)

/-- A step adds its tile to what is held. -/
theorem held_step (hQ : Finite (aQ m c)) (hK : Finite (aK m c)) (hV : Finite (aV m c)) (t : Fin (cfgA (0 : Fin 1)).N)
    {m' l' : S2x512x1.Idx → EReal} {a' : S2x512x128.Idx → EReal} {mo lo : Fin 2 → Fin 512 → EReal}
    {ao : Fin 2 → Fin 512 → Fin 128 → EReal}
    (L : Leaves m' l' a' (qw (0 : Fin 1) t) (kw (0 : Fin 1) t) (iblk (0 : Fin 1) m ρ c (0 : Fin 9) t)
      (iblk (0 : Fin 1) m ρ c (1 : Fin 9) t) (iblk (0 : Fin 1) m ρ c (2 : Fin 9) t) mo lo ao) (h : Fin 2) (r : Fin 512)
    (H : Attn.Held (wts (aQ m c) (aK m c) (t.val / 136 / 8 * 8192) (t.val / 136 % 8 * 128) (qn (t.val % 136) * 512 + r.val) h)
      (vals (aV m c) (t.val / 136 / 8 * 8192) (t.val / 136 % 8 * 128)) (kn (t.val % 136) * 512) (mo h r) (lo h r) (ao h r)) :
    Attn.Held (wts (aQ m c) (aK m c) (t.val / 136 / 8 * 8192) (t.val / 136 % 8 * 128) (qn (t.val % 136) * 512 + r.val) h)
      (vals (aV m c) (t.val / 136 / 8 * 8192) (t.val / 136 % 8 * 128)) (kn (t.val % 136) * 512 + 512)
      (m' (ix3 h r 0)) (l' (ix3 h r 0)) (fun e => a' (ix3 h r e)) := by
  obtain ⟨em, el, ea⟩ := L h r
  have hp := pairs ⟨t.val % 136, Nat.mod_lt _ (by decide)⟩
  have ht := pt_lt t
  dsimp only at hp
  rw [em, el, funext ea]
  refine H.tile (fun _ => ⟨0, Nat.zero_le _⟩) _ (fun x => tile_score m ρ c hQ hK t h r x) (fun x e => _) (fun x e => ?_) _ rfl
  rw [v_block m ρ c t x e ⟨t.val / 136 / 8 * 8192 + (kn (t.val % 136) * 512 + x.val), by omega⟩
    ⟨t.val / 136 % 8 * 128 + e.val, by omega⟩ (by dsimp only; omega) (by dsimp only), re_coe hV]
  rfl

/-- AFTER EVERY POINT each row holds the sums over the keys walked so far. -/
theorem held (hQ : Finite (aQ m c)) (hK : Finite (aK m c)) (hV : Finite (aV m c)) :
    ∀ (n : ℕ) (hn : n < (cfgA (0 : Fin 1)).N) (h : Fin 2) (r : Fin 512),
      Attn.Held (wts (aQ m c) (aK m c) (n / 136 / 8 * 8192) (n / 136 % 8 * 128) (qn (n % 136) * 512 + r.val) h)
        (vals (aV m c) (n / 136 / 8 * 8192) (n / 136 % 8 * 128)) (kn (n % 136) * 512 + 512)
        ((traj0 (0 : Fin 1) m ρ c n hn).2.1 (ix3 h r 0)) ((traj0 (0 : Fin 1) m ρ c n hn).2.2.1 (ix3 h r 0))
        (fun e => (traj0 (0 : Fin 1) m ρ c n hn).2.2.2 (ix3 h r e)) := by
  intro n
  induction n using Nat.strong_induction_on with
  | _ n ih =>
  intro hn h r
  have g := grid ⟨n, hn⟩
  have hp := pairs ⟨n % 136, Nat.mod_lt _ (by decide)⟩
  dsimp only at g hp
  rw [traj0_eq (0 : Fin 1) m ρ c ⟨n, hn⟩]
  by_cases q0 : P0_0 (0 : Fin 1) ⟨n, hn⟩
  · have hk := g.1.1 q0
    by_cases q1 : P0_1 (0 : Fin 1) ⟨n, hn⟩
    · exact held_step m ρ c hQ hK hV ⟨n, hn⟩ (stepA (0 : Fin 1) m ρ c ⟨n, hn⟩ _ q0 q1) h r
        (Or.inl ⟨by dsimp only; rw [hk], rfl, rfl, fun _ => rfl⟩)
    · exact held_step m ρ c hQ hK hV ⟨n, hn⟩ (stepB (0 : Fin 1) m ρ c ⟨n, hn⟩ _ q0 q1) h r
        (Or.inl ⟨by dsimp only; rw [hk], rfl, rfl, fun _ => rfl⟩)
  · have hk := fun e => q0 (g.1.2 e)
    obtain ⟨h0, e1, e2⟩ := hp.2.2 hk
    have em : (n - 1) % 136 = n % 136 - 1 := by omega
    have ed : (n - 1) / 136 = n / 136 := by omega
    have hn0 : n ≠ 0 := by rintro rfl; exact absurd h0 (by decide)
    have H := ih (n - 1) (by omega) (by omega) h r
    rw [em, ed, e1, show kn (n % 136 - 1) * 512 + 512 = kn (n % 136) * 512 by omega] at H
    have ep : prev0 (0 : Fin 1) m ρ c ⟨n, hn⟩ = traj0 (0 : Fin 1) m ρ c (n - 1) (by omega) := by
      unfold prev0
      exact dif_neg hn0
    rw [ep]
    by_cases q1 : P0_1 (0 : Fin 1) ⟨n, hn⟩
    · exact held_step m ρ c hQ hK hV ⟨n, hn⟩ (stepC (0 : Fin 1) m ρ c ⟨n, hn⟩ _ q0 q1) h r H
    · exact held_step m ρ c hQ hK hV ⟨n, hn⟩ (stepD (0 : Fin 1) m ρ c ⟨n, hn⟩ _ q0 q1) h r H

/-- The attention of one half of a head at a row of the array. -/
def attn (Q K V : S16384x1024.Idx → EReal) (i hd : ℕ) (h : Fin 2) (e : Fin 128) : ℝ :=
  Attn.average (wts Q K (i / 8192 * 8192) (hd * 128) (i % 8192) h) (vals V (i / 8192 * 8192) (hd * 128)) 8192 e

/-- At a query block's last pair what is held divided is the attention. -/
theorem held_div (hQ : Finite (aQ m c)) (hK : Finite (aK m c)) (hV : Finite (aV m c)) (t : Fin (cfgA (0 : Fin 1)).N)
    (q1 : P0_1 (0 : Fin 1) t) (h : Fin 2) (r : Fin 512) (e : Fin 128) (i hd : ℕ)
    (hi : i = (t.val / 136 / 8 * 16 + qn (t.val % 136)) * 512 + r.val) (hh : hd = t.val / 136 % 8) :
    Ideal.div ((traj0 (0 : Fin 1) m ρ c t.val t.isLt).2.2.2 (ix3 h r e)) ((traj0 (0 : Fin 1) m ρ c t.val t.isLt).2.2.1 (ix3 h r 0))
      = (attn (aQ m c) (aK m c) (aV m c) i hd h e : EReal) := by
  have g := (grid t).2.1.1 q1
  have hp := pairs ⟨t.val % 136, Nat.mod_lt _ (by decide)⟩
  dsimp only at hp
  refine ((held m ρ c hQ hK hV t.val t.isLt h r).div (by omega) (Nat.zero_le _) e).trans ?_
  have hb : i / 8192 = t.val / 136 / 8 := by omega
  have hm : i % 8192 = qn (t.val % 136) * 512 + r.val := by omega
  rw [attn, hb, hm, hh]
  refine congrArg _ (Attn.average_more (fun k => k ≤ qn (t.val % 136) * 512 + r.val)
    (prod (aQ m c) (aK m c) (t.val / 136 / 8 * 8192) (t.val / 136 % 8 * 128 + 64 * h.val) (qn (t.val % 136) * 512 + r.val))
    (vals (aV m c) (t.val / 136 / 8 * 8192) (t.val / 136 % 8 * 128)) (n := kn (t.val % 136) * 512 + 512) (N := 8192)
    (by omega) (fun k hk => by omega) e).symm

/-- What a query block's last pair stores. -/
theorem stored (hQ : Finite (aQ m c)) (hK : Finite (aK m c)) (hV : Finite (aV m c)) (t : Fin (cfgA (0 : Fin 1)).N)
    (q1 : P0_1 (0 : Fin 1) t) (r : Fin 512) (e : Fin 128) (i hd : ℕ)
    (hi : i = (t.val / 136 / 8 * 16 + qn (t.val % 136)) * 512 + r.val) (hh : hd = t.val / 136 % 8) :
    (traj0 (0 : Fin 1) m ρ c t.val t.isLt).1 (ix2 r e)
      = normed (fun e => (attn (aQ m c) (aK m c) (aV m c) i hd 0 e : EReal)
          - lam (m ((c : Thread nD τ).loc main_arg5)) (m ((c : Thread nD τ).loc main_arg6)) (m ((c : Thread nD τ).loc main_arg7))
              (m ((c : Thread nD τ).loc main_arg8))
            * (attn (aQ m c) (aK m c) (aV m c) i hd 1 e : EReal))
        (fun e => (m ((c : Thread nD τ).loc main_arg9) : S1x128.Idx → EReal) (ix2 0 e)) e := by
  have e0 := fun e => held_div m ρ c hQ hK hV t q1 0 r e i hd hi hh
  have e1 := fun e => held_div m ρ c hQ hK hV t q1 1 r e i hd hi hh
  have el : lam (iblk (0 : Fin 1) m ρ c (3 : Fin 9) t) (iblk (0 : Fin 1) m ρ c (4 : Fin 9) t) (iblk (0 : Fin 1) m ρ c (5 : Fin 9) t)
      (iblk (0 : Fin 1) m ρ c (6 : Fin 9) t) = lam (m ((c : Thread nD τ).loc main_arg5)) (m ((c : Thread nD τ).loc main_arg6))
        (m ((c : Thread nD τ).loc main_arg7)) (m ((c : Thread nD τ).loc main_arg8)) := by
    unfold lam
    simp only [whole_3, whole_4, whole_5, whole_6]
  have es := funext fun e => whole_7 m ρ c t e
  rw [traj0_eq (0 : Fin 1) m ρ c t] at e0 e1 ⊢
  simp only [← e0, ← e1, ← el, ← es]
  by_cases q0 : P0_0 (0 : Fin 1) t
  · exact storedA (0 : Fin 1) m ρ c t _ q0 q1 r e
  · exact storedC (0 : Fin 1) m ρ c t _ q0 q1 r e

/-- What the call computes at a row and a column. -/
def outAt (Q K V : S16384x1024.Idx → EReal) (a b c d : S1x64.Idx → EReal) (s : S1x128.Idx → EReal) (i : Fin 16384) (j : Fin 1024) :
    EReal :=
  normed (fun e => (attn Q K V i.val (j.val / 128) 0 e : EReal) - lam a b c d * (attn Q K V i.val (j.val / 128) 1 e : EReal))
    (fun e => s (ix2 0 e)) ⟨j.val % 128, Nat.mod_lt _ (by decide)⟩

/-- THE RESULT ARRAY after the call. -/
theorem final (hQ : Finite (aQ m c)) (hK : Finite (aK m c)) (hV : Finite (aV m c)) :
    (dats (0 : Fin 1) m ρ 0 c).arrAt (8 : Fin 9) (cfgA (0 : Fin 1)).N
      = (fun y => outAt (aQ m c) (aK m c) (aV m c) (m ((c : Thread nD τ).loc main_arg5)) (m ((c : Thread nD τ).loc main_arg6))
          (m ((c : Thread nD τ).loc main_arg7)) (m ((c : Thread nD τ).loc main_arg8)) (m ((c : Thread nD τ).loc main_arg9))
          (y 0) (y 1) : S16384x1024.Idx → EReal) := by
  refine (dats (0 : Fin 1) m ρ 0 c).arrAt_eq_of_covers (8 : Fin 9) _ covers fun t hf y => ?_
  have g := (grid t).2.2.2.2.2.2.2
  have q1 := flush_last t hf
  blk_simp
  rw [after0_8]
  obtain ⟨r, e, rfl⟩ : ∃ (r : Fin 512) (e : Fin 128), y = ix2 r e := ⟨y 0, y 1, eq_ix2 y⟩
  have e0 : ((((cfgA (0 : Fin 1)).win (8 : Fin 9)).blk t).view.emb (ix2 r e) 0).val
      = (t.val / 136 / 8 * 16 + qn (t.val % 136)) * 512 + r.val := by blk_simp [g]
  have e1 : ((((cfgA (0 : Fin 1)).win (8 : Fin 9)).blk t).view.emb (ix2 r e) 1).val = t.val / 136 % 8 * 128 + e.val := by
    blk_simp [g]
  refine (stored m ρ c hQ hK hV t q1 r e _ (((((cfgA (0 : Fin 1)).win (8 : Fin 9)).blk t).view.emb (ix2 r e) 1).val / 128) e0
    ?_).trans ?_
  · have := e.isLt
    omega
  · have h := e.isLt
    exact congrArg (normed _ _) (Fin.ext ((by omega : e.val = (t.val / 136 % 8 * 128 + e.val) % 128).trans
      (congrArg (· % 128) e1.symm)))

end Cert.DiffAttnIdeal.Hand
-- ==== Proof.AttnPre.lean ====
/-
  What the attention call's precondition says: the two tables are the causal triangle's, and the queries, the keys, the values
  and the four vectors of the second softmax's weight are real numbers.
-/
module

public import proofs.«01_k».proof.Proof.Gen.Pre_drawn
public import proofs.«01_k».proof.Proof.Gen.DiffAttn.Flash
public import proofs.«01_k».proof.Proof.AttnCall
public import Idealize.ShloMosaic.Lib.ReduceAll
public import Idealize.ShloMosaic.Lib.Pipeline.ValueKit

@[expose] public section
set_option maxRecDepth 16384

noncomputable section

namespace Cert.Pre_drawn.Hand

open Idealize.ShloMosaic Idealize.ShloMosaic.TcCoe Idealize.SL.Sem
open Cert.Pre_drawn Cert.Pre_drawn.Gen
open Cert.DiffAttnIdeal.Hand (Finite)

/-- Two bits are both one when their conjunction is. -/
theorem both (p q : BitVec 1) : IntOp.andi p q = 1#1 ↔ p = 1#1 ∧ q = 1#1 := by revert p q; decide

/-- Words whose comparison is one are equal. -/
theorem eq_of_one {w : ℕ} (x y : BitVec w) (h : IntOp.cmpi CmpIPredicate.eq x y = 1#1) : x = y := by
  by_contra hn
  have : IntOp.cmpi CmpIPredicate.eq x y = 0#1 := by
    show BitVec.ofBool (x == y) = 0#1
    rw [beq_eq_false_iff_ne.2 hn]
    rfl
  rw [this] at h
  exact absurd h (by decide)

instance : Subsingleton S_.Idx := ⟨fun y z => funext fun a => a.elim0⟩

/-- The first table, as the precondition spells it. -/
theorem first_table (x : S136.Idx) : lit0 (S136.rowMajor x) = Cert.DiffAttnIdeal.Gen.pinT_0 0 x := by
  have h : ∀ n : Fin 136, lit0 n = Cert.DiffAttnIdeal.Gen.pinT_0 0 (ix1 n) := by decide +kernel
  obtain ⟨n, rfl⟩ : ∃ n : Fin 136, x = ix1 n := ⟨x 0, eq_ix1 x⟩
  refine Eq.trans (congrArg lit0 (Fin.ext ?_)) (h n)
  exact Shape.rowMajor_val_one _

/-- The second table, as the precondition spells it. -/
theorem second_table (x : S136.Idx) : lit1 (S136.rowMajor x) = Cert.DiffAttnIdeal.Gen.pinT_1 0 x := by
  have h : ∀ n : Fin 136, lit1 n = Cert.DiffAttnIdeal.Gen.pinT_1 0 (ix1 n) := by decide +kernel
  obtain ⟨n, rfl⟩ : ∃ n : Fin 136, x = ix1 n := ⟨x 0, eq_ix1 x⟩
  refine Eq.trans (congrArg lit1 (Fin.ext ?_)) (h n)
  exact Shape.rowMajor_val_one _

/-- The tables of drawn arguments. -/
theorem tables {F : FTy → Type} [FloatOps F] (a0 a1 : IVec S136 32) (a2 a3 a4 : FVec F S16384x1024 .bf16) (a5 a6 a7 a8 : FVec F S1x64 .f32)
    (a9 : FVec F S1x128 .f32) (h : fn a0 a1 a2 a3 a4 a5 a6 a7 a8 a9 = fun _ => 1#1) :
    a0 = Cert.DiffAttnIdeal.Gen.pinT_0 0 ∧ a1 = Cert.DiffAttnIdeal.Gen.pinT_1 0 := by
  have e := congrFun h ix0
  simp only [fn, fn_part1, fn_part2, andi_apply, both] at e
  obtain ⟨⟨⟨⟨⟨⟨⟨⟨e0, e1⟩, -⟩, -⟩, -⟩, -⟩, -⟩, -⟩, -⟩ := e
  exact ⟨funext fun x => (eq_of_one _ _ (Host.reduce_andi_all _ _ _ _ _ e0 x)).trans (first_table x),
    funext fun x => (eq_of_one _ _ (Host.reduce_andi_all _ _ _ _ _ e1 x)).trans (second_table x)⟩

/-- The bound of the precondition is infinity. -/
theorem top_bits : Ideal.ofBits FTy.f32 0x7F800000#32 = ⊤ := by simp [Ideal.ofBits, Ideal.ieee]

/-- An extended real whose magnitude is below infinity is a real number. -/
theorem real_of_lt (x : EReal) (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have hb : max x (-x) < ⊤ := by
    rw [← top_bits]
    by_contra hn
    refine absurd h ?_
    show ¬(BitVec.ofBool (decide (max x (-x) < Ideal.ofBits FTy.f32 0x7F800000#32)) = 1#1)
    rw [decide_eq_false hn]
    decide
  induction x with
  | bot => simp at hb
  | top => simp at hb
  | coe r => exact ⟨r, rfl⟩

/-- The arrays of drawn arguments are real numbers. -/
theorem reals (a0 a1 : IVec S136 32) (a2 a3 a4 : FVec Ideal S16384x1024 .bf16) (a5 a6 a7 a8 : FVec Ideal S1x64 .f32)
    (a9 : FVec Ideal S1x128 .f32) (h : fn a0 a1 a2 a3 a4 a5 a6 a7 a8 a9 = fun _ => 1#1) :
    (Finite a2 ∧ Finite a3 ∧ Finite a4) ∧ Finite a5 ∧ Finite a6 ∧ Finite a7 ∧ Finite a8 := by
  have e := congrFun h ix0
  simp only [fn, fn_part1, fn_part2, andi_apply, both] at e
  obtain ⟨⟨⟨⟨⟨⟨⟨-, e2⟩, e3⟩, e4⟩, e5⟩, e6⟩, e7⟩, e8⟩ := e
  exact ⟨⟨fun x => real_of_lt _ (Host.reduce_andi_all _ _ _ _ _ e2 x), fun x => real_of_lt _ (Host.reduce_andi_all _ _ _ _ _ e3 x),
    fun x => real_of_lt _ (Host.reduce_andi_all _ _ _ _ _ e4 x)⟩, fun x => real_of_lt _ (Host.reduce_andi_all _ _ _ _ _ e5 x),
    fun x => real_of_lt _ (Host.reduce_andi_all _ _ _ _ _ e6 x), fun x => real_of_lt _ (Host.reduce_andi_all _ _ _ _ _ e7 x),
    fun x => real_of_lt _ (Host.reduce_andi_all _ _ _ _ _ e8 x)⟩

end Cert.Pre_drawn.Hand

end
-- ==== Proof.AttnRef.lean ====
/-
  What the plain formula of differential attention computes: per sequence, head and query row, the two causal softmax
  averages of the values, their difference, and its normalisation.
-/
module

public import proofs.«01_k».proof.Proof.AttnCall
public import proofs.«01_k».proof.Proof.Gen.AttendIdeal.Read
public import Idealize.ShloMosaic.Lib.Pipeline.ValueKit

@[expose] public section
set_option maxRecDepth 16384

noncomputable section

namespace Cert.AttendIdeal.Hand

open Idealize.ShloMosaic Idealize.ShloMosaic.TcCoe Idealize.SL.Sem
open Cert.AttendIdeal Cert.AttendIdeal.Gen Cert.AttendIdeal.Read
open Cert.DiffAttnIdeal.Hand (Finite re re_coe prod vals wts attn lam normed outAt)

variable (Q K V : S16384x1024.Idx → EReal) (a b c d : S1x64.Idx → EReal) (s : S1x128.Idx → EReal)

/-- The row of the array that row `i` of sequence `n` is. -/
def row (n : Fin 2) (i : Fin 8192) : Fin 16384 := ⟨n.val * 8192 + i.val, by omega⟩

/-- The column of the array that column `e` of head `g` is. -/
def col (g : Fin 8) (e : Fin 128) : Fin 1024 := ⟨g.val * 128 + e.val, by omega⟩

/-- The first halves of the queries. -/
theorem q_first (n : Fin 2) (i : Fin 8192) (g : Fin 8) (x : Fin 64) :
    val_main_v24 (F := Ideal) Q (ix4 n i g x) = Q (ix2 (row n i) (col g ⟨x.val, by omega⟩)) := by
  pointwise [val_main_v24, val_main_v23, val_main_v9, val_main_v8]
  refine congrArg Q (congrArg₂ ix2 (Fin.ext ?_) (Fin.ext ?_)) <;> simp only [row, col] <;> omega

/-- The second halves of the queries. -/
theorem q_second (n : Fin 2) (i : Fin 8192) (g : Fin 8) (x : Fin 64) :
    val_main_v27 (F := Ideal) Q (ix4 n i g x) = Q (ix2 (row n i) (col g ⟨64 + x.val, by omega⟩)) := by
  pointwise [val_main_v27, val_main_v26, val_main_v9, val_main_v8]
  refine congrArg Q (congrArg₂ ix2 (Fin.ext ?_) (Fin.ext ?_)) <;> simp only [row, col] <;> omega

/-- The first halves of the keys. -/
theorem k_first (n : Fin 2) (i : Fin 8192) (g : Fin 8) (x : Fin 64) :
    val_main_v14 (F := Ideal) K (ix4 n i g x) = K (ix2 (row n i) (col g ⟨x.val, by omega⟩)) := by
  pointwise [val_main_v14, val_main_v11, val_main_v10]
  refine congrArg K (congrArg₂ ix2 (Fin.ext ?_) (Fin.ext ?_)) <;> simp only [row, col] <;> omega

/-- The second halves of the keys. -/
theorem k_second (n : Fin 2) (i : Fin 8192) (g : Fin 8) (x : Fin 64) :
    val_main_v15 (F := Ideal) K (ix4 n i g x) = K (ix2 (row n i) (col g ⟨64 + x.val, by omega⟩)) := by
  pointwise [val_main_v15, val_main_v11, val_main_v10]
  refine congrArg K (congrArg₂ ix2 (Fin.ext ?_) (Fin.ext ?_)) <;> simp only [row, col] <;> omega

/-- The values. -/
theorem v_rows (n : Fin 2) (i : Fin 8192) (g : Fin 8) (x : Fin 128) :
    val_main_v13 (F := Ideal) V (ix4 n i g x) = V (ix2 (row n i) (col g ⟨x.val, by omega⟩)) := by
  pointwise [val_main_v13, val_main_v12]
  refine congrArg V (congrArg₂ ix2 (Fin.ext ?_) (Fin.ext ?_)) <;> simp only [row, col] <;> omega

/-- Comparing two row numbers as words is comparing them. -/
theorem sle_nat (k i : ℕ) (hk : k < 8192) (hi : i < 8192) :
    IntOp.cmpi CmpIPredicate.sle (BitVec.ofNat 32 k) (BitVec.ofNat 32 i) = BitVec.ofBool (decide (k ≤ i)) := by
  have f (n : ℕ) (hn : n < 8192) : (BitVec.ofNat 32 n).toInt = (n : ℤ) := by
    rw [BitVec.toInt_ofNat', Int.bmod_eq_of_le]
    all_goals omega
  show BitVec.ofBool ((BitVec.ofNat 32 k).sle (BitVec.ofNat 32 i)) = _
  rw [BitVec.sle_eq_decide, f _ hk, f _ hi]
  congr 2
  exact propext Nat.cast_le

/-- The mask: a key is seen when it is not after the query. -/
theorem mask_apply (i k : Fin 8192) : val_main_v21 (F := Ideal) (ix2 i k) = BitVec.ofBool (decide (k.val ≤ i.val)) := by
  pointwise [val_main_v21, val_main_v19, val_main_v20, val_main_v17, val_main_v18, val_main_v16]
  exact sle_nat k.val i.val k.isLt i.isLt

/-- The largest of a row's scores. -/
theorem max_apply (y : FVec Ideal S2x8x8192x8192 .f32) (n : Fin 2) (g : Fin 8) (i : Fin 8192) :
    (Host.reduce FloatOps.maximumf y (val_main_cst_3 (F := Ideal)) reducesTo_S2x8x8192x8192_S2x8x8192_d3 h_S_ : FVec Ideal S2x8x8192 .f32) (ix3 n g i)
      = Finset.fold max ⊥ (fun k => y (ix4 n g i k)) Finset.univ := by
  pointwise [val_main_cst_3]
  rw [Attn.start_eq_bot]

/-- Sums start from zero. -/
theorem zero_start : Ideal.ofBits FTy.f32 0x00000000#32 = 0 := by
  simp [Ideal.ofBits, Ideal.ieee]

/-! ## The first half -/

/-- The products of queries and keys. -/
theorem first_prod (hQ : Finite Q) (hK : Finite K) (n : Fin 2) (g : Fin 8) (i k : Fin 8192) :
    val_main_v25 (F := Ideal) Q K (ix4 n g i k) = (prod Q K (n.val * 8192) (g.val * 128 + 64 * 0) i.val k.val : EReal) := by
  rw [val_main_v25_apply, prod, Attn.coe_sum]
  refine Finset.sum_congr rfl fun x _ => ?_
  refine (congrArg₂ (· * ·) ((q_first Q n i g x).trans (re_coe hQ _ _)) ((k_first K n k g x).trans (re_coe hK _ _))).trans ?_
  rw [← EReal.coe_mul]
  refine congrArg _ (congrArg₂ (· * ·) (congrArg (re Q _) ?_) (congrArg (re K _) ?_)) <;> simp only [col] <;> omega

/-- The scores, hidden ones `-∞`. -/
theorem first_score (hQ : Finite Q) (hK : Finite K) (n : Fin 2) (g : Fin 8) (i k : Fin 8192) :
    val_main_v29 (F := Ideal) Q K (ix4 n g i k)
      = Attn.score (fun k => k ≤ i.val) (prod Q K (n.val * 8192) (g.val * 128 + 64 * 0) i.val) k.val := by
  rw [val_main_v29_apply, first_prod Q K hQ hK, val_main_call0_v1_apply, val_main_v22_apply, val_main_call0_v2_apply]
  refine (congrArg₂ (fun u w => Scalar.select u _ w) (mask_apply i k) Attn.start_eq_bot).trans ?_
  rw [Attn.score, Scalar.select]
  by_cases h : k.val ≤ i.val
  · rw [if_pos h, decide_eq_true h]
    exact if_pos rfl
  · rw [if_neg h, decide_eq_false h]
    exact if_neg (by decide)

/-- The largest score of a row is a real number. -/
theorem first_max (hQ : Finite Q) (hK : Finite K) (n : Fin 2) (g : Fin 8) (i : Fin 8192) :
    ∃ M : ℝ, val_main_v32 (F := Ideal) Q K (ix3 n g i) = (M : EReal) := by
  obtain ⟨M, hM⟩ := Attn.max_fold_real (⊥ : EReal)
    (fun k : Fin 8192 => Attn.score (fun k => k ≤ i.val) (prod Q K (n.val * 8192) (g.val * 128 + 64 * 0) i.val) k.val) bot_ne_top
    (fun k => Attn.score_ne_top _ _ _) (Or.inr ⟨0, by
      rw [Attn.score, if_pos (show (0 : Fin 8192).val ≤ i.val from Nat.zero_le _)]
      exact EReal.coe_ne_bot _⟩)
  refine ⟨M, Eq.trans ?_ hM⟩
  rw [val_main_v32_apply, val_main_v31_apply, val_main_v30]
  refine congrArg₂ max Attn.start_eq_bot ((max_apply _ n g i).trans ?_)
  exact congrArg (fun f => Finset.fold max ⊥ f Finset.univ) (funext fun k => first_score Q K hQ hK n g i k)

/-- The row an entry's largest score is read at. -/
theorem first_max_idx (n : Fin 2) (g : Fin 8) (i k : Fin 8192) : idx_main_v33 (idx_main_v34 (ix4 n g i k)) = ix3 n g i :=
  funext fun a => match a with
    | ⟨0, _⟩ => rfl
    | ⟨1, _⟩ => rfl
    | ⟨2, _⟩ => rfl

/-- The row an entry's sum is read at. -/
theorem first_sum_idx (n : Fin 2) (g : Fin 8) (i k : Fin 8192) : idx_main_v38 (idx_main_v39 (ix4 n g i k)) = ix3 n g i :=
  funext fun a => match a with
    | ⟨0, _⟩ => rfl
    | ⟨1, _⟩ => rfl
    | ⟨2, _⟩ => rfl

/-- The entries a row's sum is over. -/
theorem first_row_idx (n : Fin 2) (g : Fin 8) (i k : Fin 8192) : idx_main_v37 (ix3 n g i) k = ix4 n g i k :=
  funext fun a => match a with
    | ⟨0, _⟩ => rfl
    | ⟨1, _⟩ => rfl
    | ⟨2, _⟩ => rfl
    | ⟨3, _⟩ => rfl

/-- The softmax of a row. -/
theorem first_soft (hQ : Finite Q) (hK : Finite K) (n : Fin 2) (g : Fin 8) (i k : Fin 8192) :
    val_main_v40 (F := Ideal) Q K (ix4 n g i k)
      = ((wts Q K (n.val * 8192) (g.val * 128) i.val 0 k.val
          / ∑ k ∈ Finset.range 8192, wts Q K (n.val * 8192) (g.val * 128) i.val 0 k : ℝ) : EReal) := by
  obtain ⟨M, hM⟩ := first_max Q K hQ hK n g i
  have he (k : Fin 8192) : val_main_v36 (F := Ideal) Q K (ix4 n g i k)
      = ((Real.exp (-M) * wts Q K (n.val * 8192) (g.val * 128) i.val 0 k.val : ℝ) : EReal) := by
    rw [val_main_v36_apply, val_main_v35_apply, val_main_v34_apply, val_main_v33_apply, first_score Q K hQ hK, first_max_idx, hM]
    exact Attn.exp_score_sub (fun k => k ≤ i.val) (prod Q K (n.val * 8192) (g.val * 128 + 64 * (0 : Fin 2).val) i.val) k.val M
  have hs : val_main_v37 (F := Ideal) Q K (ix3 n g i)
      = ((Real.exp (-M) * ∑ k ∈ Finset.range 8192, wts Q K (n.val * 8192) (g.val * 128) i.val 0 k : ℝ) : EReal) := by
    rw [Finset.mul_sum, Finset.sum_range, Attn.coe_sum, val_main_v37_apply]
    refine (congrArg (· + _) (zero_start : val_main_cst_5 (F := Ideal) _ = 0)).trans ((zero_add _).trans ?_)
    exact Finset.sum_congr rfl fun k _ => (congrArg _ (first_row_idx n g i k)).trans (he k)
  have hp := Attn.sum_weight_pos (fun k => k ≤ i.val) (prod Q K (n.val * 8192) (g.val * 128 + 64 * (0 : Fin 2).val) i.val)
    (n := 8192) (by decide) (Nat.zero_le _)
  have hM' := Real.exp_pos (-M)
  rw [val_main_v40_apply, val_main_v39_apply, val_main_v38_apply, he, first_sum_idx, hs]
  show Ideal.div _ _ = _
  rw [Ideal.div_coe (mul_pos hM' hp).ne', ← EReal.coe_mul, one_div, ← div_eq_mul_inv, mul_div_mul_left _ _ hM'.ne']

/-! ## The second half -/

/-- The products of queries and keys. -/
theorem second_prod (hQ : Finite Q) (hK : Finite K) (n : Fin 2) (g : Fin 8) (i k : Fin 8192) :
    val_main_v28 (F := Ideal) Q K (ix4 n g i k) = (prod Q K (n.val * 8192) (g.val * 128 + 64 * 1) i.val k.val : EReal) := by
  rw [val_main_v28_apply, prod, Attn.coe_sum]
  refine Finset.sum_congr rfl fun x _ => ?_
  refine (congrArg₂ (· * ·) ((q_second Q n i g x).trans (re_coe hQ _ _)) ((k_second K n k g x).trans (re_coe hK _ _))).trans ?_
  rw [← EReal.coe_mul]
  refine congrArg _ (congrArg₂ (· * ·) (congrArg (re Q _) ?_) (congrArg (re K _) ?_)) <;> simp only [col] <;> omega

/-- The scores, hidden ones `-∞`. -/
theorem second_score (hQ : Finite Q) (hK : Finite K) (n : Fin 2) (g : Fin 8) (i k : Fin 8192) :
    val_main_v41 (F := Ideal) Q K (ix4 n g i k)
      = Attn.score (fun k => k ≤ i.val) (prod Q K (n.val * 8192) (g.val * 128 + 64 * 1) i.val) k.val := by
  rw [val_main_v41_apply, second_prod Q K hQ hK, val_main_call1_v1_apply, val_main_v22_apply, val_main_call1_v2_apply]
  refine (congrArg₂ (fun u w => Scalar.select u _ w) (mask_apply i k) Attn.start_eq_bot).trans ?_
  rw [Attn.score, Scalar.select]
  by_cases h : k.val ≤ i.val
  · rw [if_pos h, decide_eq_true h]
    exact if_pos rfl
  · rw [if_neg h, decide_eq_false h]
    exact if_neg (by decide)

/-- The largest score of a row is a real number. -/
theorem second_max (hQ : Finite Q) (hK : Finite K) (n : Fin 2) (g : Fin 8) (i : Fin 8192) :
    ∃ M : ℝ, val_main_v44 (F := Ideal) Q K (ix3 n g i) = (M : EReal) := by
  obtain ⟨M, hM⟩ := Attn.max_fold_real (⊥ : EReal)
    (fun k : Fin 8192 => Attn.score (fun k => k ≤ i.val) (prod Q K (n.val * 8192) (g.val * 128 + 64 * 1) i.val) k.val) bot_ne_top
    (fun k => Attn.score_ne_top _ _ _) (Or.inr ⟨0, by
      rw [Attn.score, if_pos (show (0 : Fin 8192).val ≤ i.val from Nat.zero_le _)]
      exact EReal.coe_ne_bot _⟩)
  refine ⟨M, Eq.trans ?_ hM⟩
  rw [val_main_v44_apply, val_main_v43_apply, val_main_v42]
  refine congrArg₂ max Attn.start_eq_bot ((max_apply _ n g i).trans ?_)
  exact congrArg (fun f => Finset.fold max ⊥ f Finset.univ) (funext fun k => second_score Q K hQ hK n g i k)

/-- The row an entry's largest score is read at. -/
theorem second_max_idx (n : Fin 2) (g : Fin 8) (i k : Fin 8192) : idx_main_v45 (idx_main_v46 (ix4 n g i k)) = ix3 n g i :=
  funext fun a => match a with
    | ⟨0, _⟩ => rfl
    | ⟨1, _⟩ => rfl
    | ⟨2, _⟩ => rfl

/-- The row an entry's sum is read at. -/
theorem second_sum_idx (n : Fin 2) (g : Fin 8) (i k : Fin 8192) : idx_main_v50 (idx_main_v51 (ix4 n g i k)) = ix3 n g i :=
  funext fun a => match a with
    | ⟨0, _⟩ => rfl
    | ⟨1, _⟩ => rfl
    | ⟨2, _⟩ => rfl

/-- The entries a row's sum is over. -/
theorem second_row_idx (n : Fin 2) (g : Fin 8) (i k : Fin 8192) : idx_main_v49 (ix3 n g i) k = ix4 n g i k :=
  funext fun a => match a with
    | ⟨0, _⟩ => rfl
    | ⟨1, _⟩ => rfl
    | ⟨2, _⟩ => rfl
    | ⟨3, _⟩ => rfl

/-- The softmax of a row. -/
theorem second_soft (hQ : Finite Q) (hK : Finite K) (n : Fin 2) (g : Fin 8) (i k : Fin 8192) :
    val_main_v52 (F := Ideal) Q K (ix4 n g i k)
      = ((wts Q K (n.val * 8192) (g.val * 128) i.val 1 k.val
          / ∑ k ∈ Finset.range 8192, wts Q K (n.val * 8192) (g.val * 128) i.val 1 k : ℝ) : EReal) := by
  obtain ⟨M, hM⟩ := second_max Q K hQ hK n g i
  have he (k : Fin 8192) : val_main_v48 (F := Ideal) Q K (ix4 n g i k)
      = ((Real.exp (-M) * wts Q K (n.val * 8192) (g.val * 128) i.val 1 k.val : ℝ) : EReal) := by
    rw [val_main_v48_apply, val_main_v47_apply, val_main_v46_apply, val_main_v45_apply, second_score Q K hQ hK, second_max_idx, hM]
    exact Attn.exp_score_sub (fun k => k ≤ i.val) (prod Q K (n.val * 8192) (g.val * 128 + 64 * (1 : Fin 2).val) i.val) k.val M
  have hs : val_main_v49 (F := Ideal) Q K (ix3 n g i)
      = ((Real.exp (-M) * ∑ k ∈ Finset.range 8192, wts Q K (n.val * 8192) (g.val * 128) i.val 1 k : ℝ) : EReal) := by
    rw [Finset.mul_sum, Finset.sum_range, Attn.coe_sum, val_main_v49_apply]
    refine (congrArg (· + _) (zero_start : val_main_cst_9 (F := Ideal) _ = 0)).trans ((zero_add _).trans ?_)
    exact Finset.sum_congr rfl fun k _ => (congrArg _ (second_row_idx n g i k)).trans (he k)
  have hp := Attn.sum_weight_pos (fun k => k ≤ i.val) (prod Q K (n.val * 8192) (g.val * 128 + 64 * (1 : Fin 2).val) i.val)
    (n := 8192) (by decide) (Nat.zero_le _)
  have hM' := Real.exp_pos (-M)
  rw [val_main_v52_apply, val_main_v51_apply, val_main_v50_apply, he, second_sum_idx, hs]
  show Ideal.div _ _ = _
  rw [Ideal.div_coe (mul_pos hM' hp).ne', ← EReal.coe_mul, one_div, ← div_eq_mul_inv, mul_div_mul_left _ _ hM'.ne']

/-! ## The mixed halves -/

/-- The weight of the second softmax. -/
theorem lam_apply (i : S_.Idx) : val_main_v7 (F := Ideal) a b c d i = lam a b c d := by
  unfold lam
  pointwise [val_main_v7, val_main_v6, val_main_v5, val_main_v4, val_main_v3, val_main_v2, val_main_v1, val_main_v0, val_main_cst, val_main_cst_0, val_main_cst_1]
  simp only [Fin.sum_univ_one]

/-- The weight of the second softmax is a real number. -/
theorem lam_coe (ha : Finite a) (hb : Finite b) (hc : Finite c) (hd : Finite d) : ∃ l : ℝ, lam a b c d = (l : EReal) := by
  have h {a b : FVec Ideal S1x64 .f32} (ha : Finite a) (hb : Finite b) : ∃ l : ℝ, ∑ x : Fin 64, a (ix2 0 x) * b (ix2 0 x) = (l : EReal) := by
    refine ⟨∑ x : Fin 64, (a (ix2 0 x)).toReal * (b (ix2 0 x)).toReal, ?_⟩
    rw [Attn.coe_sum]
    refine Finset.sum_congr rfl fun x _ => ?_
    obtain ⟨u, hu⟩ := ha (ix2 0 x)
    obtain ⟨v, hv⟩ := hb (ix2 0 x)
    rw [hu, hv, EReal.coe_mul]; rfl
  have hk : ∃ l : ℝ, Ideal.ofBits FTy.f32 1052116297#32 = (l : EReal) := by
    simp only [Ideal.ofBits, Ideal.ieee]
    simp
    exact ⟨_, rfl⟩
  obtain ⟨u, hu⟩ := h ha hb
  obtain ⟨v, hv⟩ := h hc hd
  obtain ⟨l, hl⟩ := hk
  refine ⟨Real.exp u - Real.exp v + l, ?_⟩
  rw [lam, hu, hv, hl, Ideal.exp_coe, Ideal.exp_coe]
  rfl

/-- The difference of the two attentions. -/
theorem mixed_apply (hQ : Finite Q) (hK : Finite K) (hV : Finite V) (ha : Finite a) (hb : Finite b) (hc : Finite c) (hd : Finite d)
    (n : Fin 2) (i : Fin 8192) (g : Fin 8) (e : Fin 128) :
    val_main_v57 (F := Ideal) Q K V a b c d (ix4 n i g e)
      = (attn Q K V (n.val * 8192 + i.val) g 0 e : EReal) - lam a b c d * (attn Q K V (n.val * 8192 + i.val) g 1 e : EReal) := by
  obtain ⟨l, hl⟩ := lam_coe a b c d ha hb hc hd
  have e1 : (n.val * 8192 + i.val) / 8192 * 8192 = n.val * 8192 := by omega
  have e2 : (n.val * 8192 + i.val) % 8192 = i.val := by omega
  rw [val_main_v57_apply, val_main_v56_apply, hl, ← EReal.coe_mul, ← EReal.coe_sub, attn, attn, e1, e2, Attn.average, Attn.average]
  have hx (k : Fin 8192) : val_main_v55 (F := Ideal) Q K a b c d (ix4 n g i k)
      = ((wts Q K (n.val * 8192) (g.val * 128) i.val 0 k.val / ∑ k ∈ Finset.range 8192, wts Q K (n.val * 8192) (g.val * 128) i.val 0 k
        - l * (wts Q K (n.val * 8192) (g.val * 128) i.val 1 k.val / ∑ k ∈ Finset.range 8192, wts Q K (n.val * 8192) (g.val * 128) i.val 1 k) : ℝ) : EReal) := by
    rw [val_main_v55_apply, val_main_v54_apply, val_main_v53_apply, first_soft Q K hQ hK, second_soft Q K hQ hK, lam_apply, hl]
    rfl
  have f1 (k : Fin 8192) : lidx_main_v56 (idx_main_v57 (ix4 n i g e)) k = ix4 n k g e :=
    funext fun a => match a with
    | ⟨0, _⟩ => rfl
    | ⟨1, _⟩ => rfl
    | ⟨2, _⟩ => rfl
    | ⟨3, _⟩ => rfl
  have f2 (k : Fin 8192) : ridx_main_v56 (idx_main_v57 (ix4 n i g e)) k = ix4 n g i k :=
    funext fun a => match a with
    | ⟨0, _⟩ => rfl
    | ⟨1, _⟩ => rfl
    | ⟨2, _⟩ => rfl
    | ⟨3, _⟩ => rfl
  generalize ∑ k ∈ Finset.range 8192, wts Q K (n.val * 8192) (g.val * 128) i.val 0 k = S at hx ⊢
  generalize ∑ k ∈ Finset.range 8192, wts Q K (n.val * 8192) (g.val * 128) i.val 1 k = T at hx ⊢
  rw [Finset.sum_div, Finset.sum_div, Finset.mul_sum, ← Finset.sum_sub_distrib, Finset.sum_range, Attn.coe_sum]
  refine Finset.sum_congr rfl fun k _ => ?_
  rw [f1, f2, hx, v_rows, re_coe hV, ← EReal.coe_mul]
  show ((re V (n.val * 8192 + k.val) (g.val * 128 + e.val) * _ : ℝ) : EReal) = _
  unfold vals
  congr 1
  ring

/-! ## The normed result -/

/-- The result before it is laid out in rows. -/
theorem normed_apply (n : Fin 2) (i : Fin 8192) (g : Fin 8) (e : Fin 128) :
    val_main_v73 (F := Ideal) Q K V a b c d s (ix4 n i g e)
      = normed (fun e => val_main_v57 (F := Ideal) Q K V a b c d (ix4 n i g e)) (fun e => s (ix2 0 e)) e := by
  unfold normed
  generalize ho : val_main_v57 (F := Ideal) Q K V a b c d = o
  pointwise [val_main_v73, val_main_v72, val_main_v71, val_main_v70, val_main_v69, val_main_v68, val_main_v67, val_main_v66, val_main_v65, val_main_v64,
    val_main_v63, val_main_v62, val_main_v61, val_main_v60, val_main_v59, val_main_v58, ho, val_main_cst_10, val_main_cst_11, val_main_cst_12, val_main_cst_13]

/-- The reference's result, entry by entry. -/
theorem value (hQ : Finite Q) (hK : Finite K) (hV : Finite V) (ha : Finite a) (hb : Finite b) (hc : Finite c) (hd : Finite d) :
    val_main_v75 (F := Ideal) Q K V a b c d s = fun y => outAt Q K V a b c d s (y 0) (y 1) := by
  refine funext fun y => ?_
  obtain ⟨i, j, rfl⟩ : ∃ (i : Fin 16384) (j : Fin 1024), y = ix2 i j := ⟨y 0, y 1, eq_ix2 y⟩
  have hv : val_main_v75 (F := Ideal) Q K V a b c d s (ix2 i j)
      = val_main_v73 (F := Ideal) Q K V a b c d s (ix4 ⟨i.val / 8192, by omega⟩ ⟨i.val % 8192, by omega⟩ ⟨j.val / 128, by omega⟩ ⟨j.val % 128, by omega⟩) := by
    generalize ho : val_main_v73 (F := Ideal) Q K V a b c d s = o
    pointwise [val_main_v75, val_main_v74, ho]
  rw [hv, normed_apply]
  refine congrArg (fun o => normed o _ _) (funext fun e => ?_)
  rw [mixed_apply Q K V a b c d hQ hK hV ha hb hc hd]
  have hi : i.val / 8192 * 8192 + i.val % 8192 = i.val := Nat.div_add_mod' _ _
  show (attn Q K V (i.val / 8192 * 8192 + i.val % 8192) (j.val / 128) 0 e : EReal)
    - lam a b c d * (attn Q K V (i.val / 8192 * 8192 + i.val % 8192) (j.val / 128) 1 e : EReal) = _
  rw [hi]
  rfl

end Cert.AttendIdeal.Hand
-- ==== Proof.AttnClaims.lean ====
/- The claims about the attention call, from the values of its two programs. -/
module

public import proofs.«01_k».proof.Defs
public import proofs.«01_k».proof.Proof.Gen.AttendIdeal.Run
public import proofs.«01_k».proof.Proof.AttnPre
public import proofs.«01_k».proof.Proof.AttnRef
public import Idealize.ShloMosaic.Lib.Quiescent

@[expose] public section

noncomputable section

namespace Cert.Proof

open Idealize.ShloMosaic Idealize.ShloMosaic.TcCoe Idealize.SL.Sem

/-- The attention call terminates on drawn arguments, keeps them and leaves every semaphore at zero. -/
theorem diffAttn_frame : Cert.quiescent_DiffAttn := fun m g h =>
  Cert.DiffAttn.Gen.frame 0 m g ⟨fun c => (Cert.Pre_drawn.Hand.tables _ _ _ _ _ _ _ _ _ _ (h c)).1,
    fun c => (Cert.Pre_drawn.Hand.tables _ _ _ _ _ _ _ _ _ _ (h c)).2⟩

/-- On drawn arguments the tables are the ones the call is read at. -/
theorem pinned (m : (ℓ : Loc Cert.DiffAttnIdeal.nD Cert.DiffAttnIdeal.τ Cert.DiffAttnIdeal.sig) → Buf (Elt Ideal) ℓ)
    (h : Cert.Pre_DiffAttnIdeal m) : Cert.DiffAttnIdeal.Gen.Pinned 0 m :=
  ⟨fun c => (Cert.Pre_drawn.Hand.tables _ _ _ _ _ _ _ _ _ _ (h c)).1, fun c => (Cert.Pre_drawn.Hand.tables _ _ _ _ _ _ _ _ _ _ (h c)).2⟩

/-- So does the call in exact arithmetic. -/
theorem diffAttnIdeal_frame : Cert.quiescent_DiffAttnIdeal := fun m g h => Cert.DiffAttnIdeal.Gen.frame 0 m g (pinned m h)

/-- The reference of the attention call terminates, keeps its arguments and uses no semaphore. -/
theorem attend_frame : Cert.quiescent_AttendIdeal := fun m g _ =>
  (θ_run _ _ _).mono (fun r h => ⟨fun c => (h c).2, sem_eq_zero_of_no_sems (by decide) r.2⟩) (Cert.AttendIdeal.Value.run m g)

/-- The attention call and its reference end with the same result. -/
theorem attention : Cert.algebraic_DiffAttnIdeal_AttendIdeal := fun m g m' g' hpre hag =>
  ⟨fun c => fun y => Cert.DiffAttnIdeal.Hand.outAt
      (m ((c.tc : Thread Cert.DiffAttnIdeal.nD Cert.DiffAttnIdeal.τ).loc Cert.DiffAttnIdeal.main_arg2))
      (m ((c.tc : Thread Cert.DiffAttnIdeal.nD Cert.DiffAttnIdeal.τ).loc Cert.DiffAttnIdeal.main_arg3))
      (m ((c.tc : Thread Cert.DiffAttnIdeal.nD Cert.DiffAttnIdeal.τ).loc Cert.DiffAttnIdeal.main_arg4))
      (m ((c.tc : Thread Cert.DiffAttnIdeal.nD Cert.DiffAttnIdeal.τ).loc Cert.DiffAttnIdeal.main_arg5))
      (m ((c.tc : Thread Cert.DiffAttnIdeal.nD Cert.DiffAttnIdeal.τ).loc Cert.DiffAttnIdeal.main_arg6))
      (m ((c.tc : Thread Cert.DiffAttnIdeal.nD Cert.DiffAttnIdeal.τ).loc Cert.DiffAttnIdeal.main_arg7))
      (m ((c.tc : Thread Cert.DiffAttnIdeal.nD Cert.DiffAttnIdeal.τ).loc Cert.DiffAttnIdeal.main_arg8))
      (m ((c.tc : Thread Cert.DiffAttnIdeal.nD Cert.DiffAttnIdeal.τ).loc Cert.DiffAttnIdeal.main_arg9)) (y 0) (y 1), by
    have hf := fun c => Cert.Pre_drawn.Hand.reals _ _ _ _ _ _ _ _ _ _ (hpre c)
    refine (θ_run _ _ _).mono (fun r h c => ⟨(h.1 c).trans ?_, h.2 c⟩)
      (θ_run_and ((θ_run _ _ _).mono (fun r h c => (h c).1 (8 : Fin 9)) (Cert.DiffAttnIdeal.Gen.run_main 0 m g (pinned m hpre)))
        (Cert.DiffAttnIdeal.Gen.unchanged 0 m g (pinned m hpre)))
    exact Cert.DiffAttnIdeal.Hand.final m g c (hf c).1.1 (hf c).1.2.1 (hf c).1.2.2, by
    have hf := fun c => Cert.Pre_drawn.Hand.reals _ _ _ _ _ _ _ _ _ _ (hpre c)
    refine (θ_run _ _ _).mono (fun r h c => ⟨(h c).1.trans ?_, (h c).2⟩) (Cert.AttendIdeal.Value.run m' g')
    obtain ⟨-, -, h2, h3, h4, h5, h6, h7, h8, h9⟩ := hag c
    obtain ⟨⟨f2, f3, f4⟩, f5, f6, f7, f8⟩ := hf c
    refine (Cert.AttendIdeal.Read.val_main_v75_eq _ _).trans ?_
    rw [h2, h3, h4, h5, h6, h7, h8, h9]
    exact Cert.AttendIdeal.Hand.value _ _ _ _ _ _ _ _ f2 f3 f4 f5 f6 f7 f8⟩

end Cert.Proof

end
-- ==== Proof.lean ====
module

public import proofs.«01_k».proof.Proof.Gen.RetStep
public import proofs.«01_k».proof.Proof.Gen.RetStepIdeal
public import proofs.«01_k».proof.Proof.Gen.StepRefIdeal
public import proofs.«01_k».proof.Proof.Gen.RetStep.Frame
public import proofs.«01_k».proof.Proof.Gen.RetStepIdeal.Frame
public import proofs.«01_k».proof.Proof.Gen.RetStepIdeal.Value
public import proofs.«01_k».proof.Proof.Gen.StepRefIdeal.Run
public import proofs.«01_k».proof.Proof.Gen.StepRefIdeal.Read
public import proofs.«01_k».proof.Proof.Gen.RetProj
public import proofs.«01_k».proof.Proof.Gen.RetProjIdeal
public import proofs.«01_k».proof.Proof.Gen.RotatedIdeal
public import proofs.«01_k».proof.Proof.Gen.RetProj.Frame
public import proofs.«01_k».proof.Proof.Gen.RetProjIdeal.Frame
public import proofs.«01_k».proof.Proof.Gen.RetProjIdeal.Value
public import proofs.«01_k».proof.Proof.Gen.RotatedIdeal.Run
public import proofs.«01_k».proof.Proof.Gen.RotatedIdeal.Read
public import proofs.«01_k».proof.Proof.Gen.PleMid
public import proofs.«01_k».proof.Proof.Gen.PleMidIdeal
public import proofs.«01_k».proof.Proof.Gen.EmbedIdeal
public import proofs.«01_k».proof.Proof.Gen.PleMidIdeal.Value
public import proofs.«01_k».proof.Proof.Gen.EmbedIdeal.Run
public import proofs.«01_k».proof.Proof.Gen.EmbedIdeal.Read
public import proofs.«01_k».proof.Proof.Gen.PleLast
public import proofs.«01_k».proof.Proof.Gen.PleLastIdeal
public import proofs.«01_k».proof.Proof.Gen.EmbedLastIdeal
public import proofs.«01_k».proof.Proof.Gen.PleLastIdeal.Value
public import proofs.«01_k».proof.Proof.Gen.EmbedLastIdeal.Run
public import proofs.«01_k».proof.Proof.Gen.EmbedLastIdeal.Read
public import proofs.«01_k».proof.Proof.Gen.RetOut
public import proofs.«01_k».proof.Proof.Gen.RetOutIdeal
public import proofs.«01_k».proof.Proof.Gen.RetMixIdeal
public import proofs.«01_k».proof.Proof.Gen.RetOutIdeal.Value
public import proofs.«01_k».proof.Proof.Gen.RetMixIdeal.Run
public import proofs.«01_k».proof.Proof.Gen.RetMixIdeal.Read
public import proofs.«01_k».proof.Proof.Gen.DiffOut
public import proofs.«01_k».proof.Proof.Gen.DiffOutIdeal
public import proofs.«01_k».proof.Proof.Gen.DiffMixIdeal
public import proofs.«01_k».proof.Proof.Gen.DiffOutIdeal.Value
public import proofs.«01_k».proof.Proof.Gen.DiffMixIdeal.Run
public import proofs.«01_k».proof.Proof.Gen.DiffMixIdeal.Read
public import proofs.«01_k».proof.Defs
public import proofs.«01_k».proof.Proof.RowClaims
public import proofs.«01_k».proof.Proof.StepClaims
public import proofs.«01_k».proof.Proof.Gen.RetScan
public import proofs.«01_k».proof.Proof.Gen.RetScanIdeal
public import proofs.«01_k».proof.Proof.Gen.RetentionIdeal
public import proofs.«01_k».proof.Proof.Gen.Ffn
public import proofs.«01_k».proof.Proof.Gen.FfnIdeal
public import proofs.«01_k».proof.Proof.Gen.FfnRefIdeal
public import proofs.«01_k».proof.Proof.Gen.DiffAttn
public import proofs.«01_k».proof.Proof.Gen.DiffAttnIdeal
public import proofs.«01_k».proof.Proof.Gen.AttendIdeal
public import proofs.«01_k».proof.Proof.Gen.Pre_drawn
public import proofs.«01_k».proof.Proof.Gen.RetScanIdeal.Value
public import proofs.«01_k».proof.Proof.Gen.FfnIdeal.Value
public import proofs.«01_k».proof.Proof.Gen.RetentionIdeal.Run
public import proofs.«01_k».proof.Proof.Gen.FfnRefIdeal.Run
public import proofs.«01_k».proof.Proof.Gen.FfnRefIdeal.Read
public import proofs.«01_k».proof.Proof.Gen.AttendIdeal.Run
public import proofs.«01_k».proof.Proof.Gen.AttendIdeal.Read
public import proofs.«01_k».proof.Proof.Claims
public import proofs.«01_k».proof.Proof.AttnClaims

@[expose] public section

noncomputable section

namespace Cert.Proof

open Idealize.ShloMosaic Idealize.SL.Sem

/-- Everything that this certificate claims. -/
theorem claim : Cert.Claim := ⟨Cert.RetScan.Gen.facts, Cert.RetScanIdeal.Gen.facts, Cert.RetentionIdeal.Gen.facts, Cert.Ffn.Gen.facts, Cert.FfnIdeal.Gen.facts, Cert.FfnRefIdeal.Gen.facts,
  Cert.DiffAttn.Gen.facts, Cert.DiffAttnIdeal.Gen.facts, Cert.AttendIdeal.Gen.facts,
  Cert.PleMid.Gen.facts, Cert.PleMidIdeal.Gen.facts, Cert.EmbedIdeal.Gen.facts, Cert.PleLast.Gen.facts, Cert.PleLastIdeal.Gen.facts, Cert.EmbedLastIdeal.Gen.facts, Cert.RetOut.Gen.facts, Cert.RetOutIdeal.Gen.facts, Cert.RetMixIdeal.Gen.facts, Cert.DiffOut.Gen.facts, Cert.DiffOutIdeal.Gen.facts, Cert.DiffMixIdeal.Gen.facts,
  Cert.RetStep.Gen.facts, Cert.RetStepIdeal.Gen.facts, Cert.StepRefIdeal.Gen.facts, Cert.RetProj.Gen.facts, Cert.RetProjIdeal.Gen.facts, Cert.RotatedIdeal.Gen.facts, Cert.Pre_drawn.Gen.facts,
  fun m g _ => Cert.RetScan.Gen.frame m g, fun m g _ => Cert.RetScanIdeal.Gen.frame m g, retention_frame,
  fun m g _ => Cert.Ffn.Gen.frame m g, fun m g _ => Cert.FfnIdeal.Gen.frame m g, ffnRef_frame,
  diffAttn_frame, diffAttnIdeal_frame, attend_frame,
  fun m g _ => Cert.PleMid.Gen.frame m g, fun m g _ => Cert.PleMidIdeal.Gen.frame m g, embed_frame,
  fun m g _ => Cert.PleLast.Gen.frame m g, fun m g _ => Cert.PleLastIdeal.Gen.frame m g, embedLast_frame,
  fun m g _ => Cert.RetOut.Gen.frame m g, fun m g _ => Cert.RetOutIdeal.Gen.frame m g, retMix_frame,
  fun m g _ => Cert.DiffOut.Gen.frame m g, fun m g _ => Cert.DiffOutIdeal.Gen.frame m g, diffMix_frame,
  fun m g _ => Cert.RetStep.Gen.frame m g, fun m g _ => Cert.RetStepIdeal.Gen.frame m g, stepRef_frame,
  fun m g _ => Cert.RetProj.Gen.frame m g, fun m g _ => Cert.RetProjIdeal.Gen.frame m g, rotated_frame,
  trivial, retention, trivial, feedForward,
  IdealRules.named_const.statement Cert.DiffAttnIdeal.κ "mask" .f32 0xF149F2CA#32 ⊥ rfl, attention,
  trivial, embed, trivial, embedLast, trivial, retMix, trivial, diffMix, trivial, step, trivial, rotated⟩

end Cert.Proof

end
